-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Moe [hPre_ranges : Cert.Pre_ranges.Facts] (m : (ℓ : Loc Cert.Moe.nD Cert.Moe.τ Cert.Moe.sig) → Buf (Elt Bits) ℓ) : Prop :=
  ∀ c : Dev Cert.Moe.nD,
    (Cert.Pre_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).1 = (fun _ => 1#1)
    ∧ (Cert.Pre_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.1 = (fun _ => 1#1)
    ∧ (Cert.Pre_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.1 = (fun _ => 1#1)
    ∧ (Cert.Pre_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.2.1 = (fun _ => 1#1)
    ∧ (Cert.Pre_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.2.2.1 = (fun _ => 1#1)
    ∧ (Cert.Pre_ranges.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))).2.2.2.2.2 = (fun _ => 1#1)

def Pre_MoeIdeal [hPre_ranges : Cert.Pre_ranges.Facts] (m : (ℓ : Loc Cert.MoeIdeal.nD Cert.MoeIdeal.τ Cert.MoeIdeal.sig) → Buf (Elt Ideal) ℓ) : Prop :=
  ∀ c : Dev Cert.MoeIdeal.nD,
    (Cert.Pre_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).1 = (fun _ => 1#1)
    ∧ (Cert.Pre_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.1 = (fun _ => 1#1)
    ∧ (Cert.Pre_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.1 = (fun _ => 1#1)
    ∧ (Cert.Pre_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.1 = (fun _ => 1#1)
    ∧ (Cert.Pre_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.1 = (fun _ => 1#1)
    ∧ (Cert.Pre_ranges.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))).2.2.2.2.2 = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_ranges [hPre_ranges : Cert.Pre_ranges.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_ranges.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).1 = (fun _ => 1#1)
    ∧ (Cert.Pre_ranges.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).2.1 = (fun _ => 1#1)
    ∧ (Cert.Pre_ranges.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).2.2.1 = (fun _ => 1#1)
    ∧ (Cert.Pre_ranges.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).2.2.2.1 = (fun _ => 1#1)
    ∧ (Cert.Pre_ranges.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).2.2.2.2.1 = (fun _ => 1#1)
    ∧ (Cert.Pre_ranges.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6))).2.2.2.2.2 = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Moe [hMoe : Cert.Moe.Facts] [hPre_ranges : Cert.Pre_ranges.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_ranges : Cert.Pre_ranges.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_MoeReferenceIdeal_pre_ranges [hMoeReferenceIdeal : Cert.MoeReferenceIdeal.Facts] [hPre_ranges : Cert.Pre_ranges.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_ranges m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3)
      ∧ r.2.mem ((c.tc : Thread Cert.Rope.nD Cert.Rope.τ).loc Cert.Rope.main_arg4) = m ((c.tc : Thread Cert.Rope.nD Cert.Rope.τ).loc Cert.Rope.main_arg4)
      ∧ r.2.mem ((c.tc : Thread Cert.Rope.nD Cert.Rope.τ).loc Cert.Rope.main_arg5) = m ((c.tc : Thread Cert.Rope.nD Cert.Rope.τ).loc Cert.Rope.main_arg5))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
      ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
      ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3)
      ∧ r.2.mem ((c.tc : Thread Cert.RopeReferenceIdeal.nD Cert.RopeReferenceIdeal.τ).loc Cert.RopeReferenceIdeal.main_arg4) = m ((c.tc : Thread Cert.RopeReferenceIdeal.nD Cert.RopeReferenceIdeal.τ).loc Cert.RopeReferenceIdeal.main_arg4)
      ∧ r.2.mem ((c.tc : Thread Cert.RopeReferenceIdeal.nD Cert.RopeReferenceIdeal.τ).loc Cert.RopeReferenceIdeal.main_arg5) = m ((c.tc : Thread Cert.RopeReferenceIdeal.nD Cert.RopeReferenceIdeal.τ).loc Cert.RopeReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v44) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Moe_MoeIdeal : Prop :=
  True

def algebraic_MoeIdeal_MoeReferenceIdeal [hMoeIdeal : Cert.MoeIdeal.Facts] [hMoeReferenceIdeal : Cert.MoeReferenceIdeal.Facts] [hPre_ranges : Cert.Pre_ranges.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v15)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v15) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v31) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v23) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Rope_RopeIdeal : Prop :=
  True

def algebraic_RopeIdeal_RopeReferenceIdeal [hRopeIdeal : Cert.RopeIdeal.Facts] [hRopeReferenceIdeal : Cert.RopeReferenceIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeIdeal m →
    (∀ c : Dev Cert.RopeIdeal.nD,
      m' ((c.tc : Thread Cert.RopeReferenceIdeal.nD Cert.RopeReferenceIdeal.τ).loc Cert.RopeReferenceIdeal.main_arg0) = m ((c.tc : Thread Cert.RopeIdeal.nD Cert.RopeIdeal.τ).loc Cert.RopeIdeal.main_arg0)
      ∧ m' ((c.tc : Thread Cert.RopeReferenceIdeal.nD Cert.RopeReferenceIdeal.τ).loc Cert.RopeReferenceIdeal.main_arg1) = m ((c.tc : Thread Cert.RopeIdeal.nD Cert.RopeIdeal.τ).loc Cert.RopeIdeal.main_arg1)
      ∧ m' ((c.tc : Thread Cert.RopeReferenceIdeal.nD Cert.RopeReferenceIdeal.τ).loc Cert.RopeReferenceIdeal.main_arg2) = m ((c.tc : Thread Cert.RopeIdeal.nD Cert.RopeIdeal.τ).loc Cert.RopeIdeal.main_arg2)
      ∧ m' ((c.tc : Thread Cert.RopeReferenceIdeal.nD Cert.RopeReferenceIdeal.τ).loc Cert.RopeReferenceIdeal.main_arg3) = m ((c.tc : Thread Cert.RopeIdeal.nD Cert.RopeIdeal.τ).loc Cert.RopeIdeal.main_arg3)
      ∧ m' ((c.tc : Thread Cert.RopeReferenceIdeal.nD Cert.RopeReferenceIdeal.τ).loc Cert.RopeReferenceIdeal.main_arg4) = m ((c.tc : Thread Cert.RopeIdeal.nD Cert.RopeIdeal.τ).loc Cert.RopeIdeal.main_arg4)
      ∧ m' ((c.tc : Thread Cert.RopeReferenceIdeal.nD Cert.RopeReferenceIdeal.τ).loc Cert.RopeReferenceIdeal.main_arg5) = m ((c.tc : Thread Cert.RopeIdeal.nD Cert.RopeIdeal.τ).loc Cert.RopeIdeal.main_arg5)) →
    ∃ (v0 : (c : Dev Cert.RopeIdeal.nD) → Buf (Elt Ideal) ((c.tc : Thread Cert.RopeIdeal.nD Cert.RopeIdeal.τ).loc Cert.RopeIdeal.main_v21)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v21) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3)
          ∧ r.2.mem ((c.tc : Thread Cert.RopeIdeal.nD Cert.RopeIdeal.τ).loc Cert.RopeIdeal.main_arg4) = m ((c.tc : Thread Cert.RopeIdeal.nD Cert.RopeIdeal.τ).loc Cert.RopeIdeal.main_arg4)
          ∧ r.2.mem ((c.tc : Thread Cert.RopeIdeal.nD Cert.RopeIdeal.τ).loc Cert.RopeIdeal.main_arg5) = m ((c.tc : Thread Cert.RopeIdeal.nD Cert.RopeIdeal.τ).loc Cert.RopeIdeal.main_arg5))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v65) = v0 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3)
          ∧ r.2.mem ((c.tc : Thread Cert.RopeReferenceIdeal.nD Cert.RopeReferenceIdeal.τ).loc Cert.RopeReferenceIdeal.main_arg4) = m' ((c.tc : Thread Cert.RopeReferenceIdeal.nD Cert.RopeReferenceIdeal.τ).loc Cert.RopeReferenceIdeal.main_arg4)
          ∧ r.2.mem ((c.tc : Thread Cert.RopeReferenceIdeal.nD Cert.RopeReferenceIdeal.τ).loc Cert.RopeReferenceIdeal.main_arg5) = m' ((c.tc : Thread Cert.RopeReferenceIdeal.nD Cert.RopeReferenceIdeal.τ).loc Cert.RopeReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMoe : Cert.Moe.Facts) (hMoeIdeal : Cert.MoeIdeal.Facts) (hMoeReferenceIdeal : Cert.MoeReferenceIdeal.Facts) (hProj : Cert.Proj.Facts) (hProjIdeal : Cert.ProjIdeal.Facts) (hProjReferenceIdeal : Cert.ProjReferenceIdeal.Facts) (hRope : Cert.Rope.Facts) (hRopeIdeal : Cert.RopeIdeal.Facts) (hRopeReferenceIdeal : Cert.RopeReferenceIdeal.Facts) (hPre_finite : Cert.Pre_finite.Facts) (hPre_ranges : Cert.Pre_ranges.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Moe (hMoe := hMoe) (hPre_ranges := hPre_ranges)
    ∧ quiescent_MoeIdeal (hMoeIdeal := hMoeIdeal) (hPre_ranges := hPre_ranges)
    ∧ quiescent_MoeReferenceIdeal (hMoeReferenceIdeal := hMoeReferenceIdeal)
    ∧ quiescent_MoeReferenceIdeal_pre_ranges (hMoeReferenceIdeal := hMoeReferenceIdeal) (hPre_ranges := hPre_ranges)
    ∧ quiescent_Proj (hProj := hProj)
    ∧ quiescent_ProjIdeal (hProjIdeal := hProjIdeal)
    ∧ quiescent_ProjReferenceIdeal (hProjReferenceIdeal := hProjReferenceIdeal)
    ∧ quiescent_Rope (hRope := hRope)
    ∧ quiescent_RopeIdeal (hRopeIdeal := hRopeIdeal)
    ∧ quiescent_RopeReferenceIdeal (hRopeReferenceIdeal := hRopeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Moe_MoeIdeal
    ∧ algebraic_MoeIdeal_MoeReferenceIdeal (hMoeIdeal := hMoeIdeal) (hMoeReferenceIdeal := hMoeReferenceIdeal) (hPre_ranges := hPre_ranges)
    ∧ preserves_Proj_ProjIdeal
    ∧ algebraic_ProjIdeal_ProjReferenceIdeal (hProjIdeal := hProjIdeal) (hProjReferenceIdeal := hProjReferenceIdeal)
    ∧ preserves_Rope_RopeIdeal
    ∧ algebraic_RopeIdeal_RopeReferenceIdeal (hRopeIdeal := hRopeIdeal) (hRopeReferenceIdeal := hRopeReferenceIdeal)
-- ==== Pre_finite.lean ====
abbrev S12288x3072 : Shape := ⟨2, ![12288, 3072]⟩
abbrev S2x512x8x2x64 : Shape := ⟨5, ![2, 512, 8, 2, 64]⟩
abbrev S2x512x8x128 : Shape := ⟨4, ![2, 512, 8, 128]⟩
abbrev S64 : Shape := ⟨1, ![64]⟩
abbrev S128 : Shape := ⟨1, ![128]⟩
abbrev S_ : Shape := ⟨0, ![]⟩

class Facts : Prop where
  bcast_S_S12288x3072 : S_.BroadcastsInDim S12288x3072 (![] : Fin 0 → Fin S12288x3072.rank)
  bcast_S_S2x512x8x2x64 : S_.BroadcastsInDim S2x512x8x2x64 (![] : Fin 0 → Fin S2x512x8x2x64.rank)
  bcast_S_S2x512x8x128 : S_.BroadcastsInDim S2x512x8x128 (![] : Fin 0 → Fin S2x512x8x128.rank)
  bcast_S_S64 : S_.BroadcastsInDim S64 (![] : Fin 0 → Fin S64.rank)

variable [Facts]

def fn_part1 {F : FTy → Type} [FloatOps F] (main_arg6 : FVec F S64 .f32) (main_v2 : IVec S12288x3072 1) (main_v5 : IVec S2x512x8x2x64 1) (main_v8 : IVec S2x512x8x128 1) (main_v11 : IVec S64 1) (main_v14 : IVec S64 1) (main_v17 : IVec S64 1) : IVec S12288x3072 1 × IVec S2x512x8x2x64 1 × IVec S2x512x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S12288x3072 .f32) (main_arg1 : FVec F S2x512x8x2x64 .f32) (main_arg2 : FVec F S2x512x8x128 .f32) (main_arg3 : FVec F S64 .f32) (main_arg4 : FVec F S64 .f32) (main_arg5 : FVec F S64 .f32) (main_arg6 : FVec F S64 .f32) (main_arg7 : FVec F S128 .f32) : IVec S12288x3072 1 × IVec S2x512x8x2x64 1 × IVec S2x512x8x128 1 × IVec S64 1 × IVec S64 1 × IVec S64 1 × IVec S64 1 :=
  let main_v0 : FVec F S12288x3072 .f32 := Host.absf main_arg0
  let main_cst : FVec F S_ .f32 := constant S_ .f32 0x7F800000#32
  let main_v1 : FVec F S12288x3072 .f32 := broadcastInDim S12288x3072 ![] bcast_S_S12288x3072 main_cst
  let main_v2 : IVec S12288x3072 1 := cmpf .olt main_v0 main_v1
  let main_v3 : FVec F S2x512x8x2x64 .f32 := Host.absf main_arg1
  let main_cst_0 : FVec F S_ .f32 := constant S_ .f32 0x7F800000#32
  let main_v4 : FVec F S2x512x8x2x64 .f32 := broadcastInDim S2x512x8x2x64 ![] bcast_S_S2x512x8x2x64 main_cst_0
  let main_v5 : IVec S2x512x8x2x64 1 := cmpf .olt main_v3 main_v4
  let main_v6 : FVec F S2x512x8x128 .f32 := Host.absf main_arg2
  let main_cst_1 : FVec F S_ .f32 := constant S_ .f32 0x7F800000#32
  let main_v7 : FVec F S2x512x8x128 .f32 := broadcastInDim S2x512x8x128 ![] bcast_S_S2x512x8x128 main_cst_1
  let main_v8 : IVec S2x512x8x128 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_v2 main_v5 main_v8 main_v11 main_v14 main_v17
-- ==== Pre_ranges.lean ====
abbrev S98304x128 : Shape := ⟨2, ![98304, 128]⟩
abbrev S28672 : Shape := ⟨1, ![28672]⟩
abbrev S56 : Shape := ⟨1, ![56]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S28672 : S_.BroadcastsInDim S28672 (![] : Fin 0 → Fin S28672.rank)
  bcast_S_S56 : S_.BroadcastsInDim S56 (![] : Fin 0 → Fin S56.rank)
  bcast_S_S1 : S_.BroadcastsInDim S1 (![] : Fin 0 → Fin S1.rank)

variable [Facts]

def fn {F : FTy → Type} [FloatOps F] (main_arg0 : FVec F S98304x128 .f32) (main_arg1 : IVec S28672 32) (main_arg2 : IVec S56 32) (main_arg3 : IVec S1 32) (main_arg4 : FVec F S8x1024x3584 .f32) (main_arg5 : FVec F S8x1024x3584 .f32) (main_arg6 : FVec F S8x3584x1024 .f32) : IVec S28672 1 × IVec S28672 1 × IVec S56 1 × IVec S56 1 × IVec S1 1 × IVec S1 1 :=
  let main_c : IVec S_ 32 := constantI S_ 32 0#32
  let main_v0 : IVec S28672 32 := broadcastInDim S28672 ![] bcast_S_S28672 main_c
  let main_v1 : IVec S28672 1 := cmpi .sge main_arg1 main_v0
  let main_c_0 : IVec S_ 32 := constantI S_ 32 12288#32
  let main_v2 : IVec S28672 32 := broadcastInDim S28672 ![] bcast_S_S28672 main_c_0
  let main_v3 : IVec S28672 1 := cmpi .slt main_arg1 main_v2
  let main_c_1 : IVec S_ 32 := constantI S_ 32 0#32
  let main_v4 : IVec S56 32 := broadcastInDim S56 ![] bcast_S_S56 main_c_1
  let main_v5 : IVec S56 1 := cmpi .sge main_arg2 main_v4
  let main_c_2 : IVec S_ 32 := constantI S_ 32 8#32
  let main_v6 : IVec S56 32 := broadcastInDim S56 ![] bcast_S_S56 main_c_2
  let main_v7 : IVec S56 1 := cmpi .slt main_arg2 main_v6
  let main_c_3 : IVec S_ 32 := constantI S_ 32 1#32
  let main_v8 : IVec S1 32 := broadcastInDim S1 ![] bcast_S_S1 main_c_3
  let main_v9 : IVec S1 1 := cmpi .sge main_arg3 main_v8
  let main_c_4 : IVec S_ 32 := constantI S_ 32 56#32
  let main_v10 : IVec S1 32 := broadcastInDim S1 ![] bcast_S_S1 main_c_4
  let main_v11 : IVec S1 1 := cmpi .sle main_arg3 main_v10
  (main_v1, main_v3, main_v5, main_v7, main_v9, main_v11)
-- ==== Kernel.lean ====
abbrev S12288x3072 : Shape := ⟨2, ![12288, 3072]⟩
abbrev S2x512x8x2x64 : Shape := ⟨5, ![2, 512, 8, 2, 64]⟩
abbrev S2x512x8x128 : Shape := ⟨4, ![2, 512, 8, 128]⟩
abbrev S64 : Shape := ⟨1, ![64]⟩
abbrev S128 : Shape := ⟨1, ![128]⟩
abbrev S_ : Shape := ⟨0, ![]⟩
abbrev S1x128 : Shape := ⟨2, ![1, 128]⟩
abbrev S2x512x1024 : Shape := ⟨3, ![2, 512, 1024]⟩
abbrev S8192x1024 : Shape := ⟨2, ![8192, 1024]⟩
abbrev S256x128 : Shape := ⟨2, ![256, 128]⟩
abbrev S4096x128 : Shape := ⟨2, ![4096, 128]⟩
abbrev S1x512x128 : Shape := ⟨3, ![1, 512, 128]⟩
abbrev S4608x128 : Shape := ⟨2, ![4608, 128]⟩
abbrev S4608x256 : Shape := ⟨2, ![4608, 256]⟩
abbrev S512x128 : Shape := ⟨2, ![512, 128]⟩
abbrev S512x4608 : Shape := ⟨2, ![512, 4608]⟩
abbrev S512 : Shape := ⟨1, ![512]⟩
abbrev S512x1 : Shape := ⟨2, ![512, 1]⟩
abbrev S512x256 : Shape := ⟨2, ![512, 256]⟩
abbrev S256 : Shape := ⟨1, ![256]⟩
abbrev S256x1 : Shape := ⟨2, ![256, 1]⟩

abbrev nBuf : Space → Nat
  | .hbm => 24
  | .vmem => 16
  | .smem => 0
  | _ => 0

abbrev bufTy : (tb : Table) → Fin (tcTables nBuf tb) → BufTy
  | .hbm, ⟨0, _⟩ => ⟨S12288x3072, .f32⟩
  | .hbm, ⟨1, _⟩ => ⟨S2x512x8x2x64, .f32⟩
  | .hbm, ⟨2, _⟩ => ⟨S2x512x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x128, .f32⟩
  | .hbm, ⟨20, _⟩ => ⟨S1x128, .f32⟩
  | .hbm, ⟨21, _⟩ => ⟨S2x512x1024, .f32⟩
  | .hbm, ⟨22, _⟩ => ⟨S2x512x1024, .f32⟩
  | .hbm, ⟨23, _⟩ => ⟨S8192x1024, .f32⟩
  | .local _ .vmem, ⟨0, _⟩ => ⟨S256x128, .f32⟩
  | .local _ .vmem, ⟨1, _⟩ => ⟨S256x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S4608x128, .bf16⟩
  | .local _ .vmem, ⟨15, _⟩ => ⟨S4608x256, .bf16⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c16_i32 : BitVec 32 := 16#32
  let v1 : BitVec 32 := Scalar.muli v0 c16_i32
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c8_i32 : BitVec 32 := 8#32
  let v1 : BitVec 32 := Scalar.addi c8_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg0
  let c16_i32 : BitVec 32 := 16#32
  let v1 : BitVec 32 := Scalar.addi c16_i32 arg1
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S12288x3072 : Shape := ⟨2, ![12288, 3072]⟩
abbrev S2x512x8x2x64 : Shape := ⟨5, ![2, 512, 8, 2, 64]⟩
abbrev S2x512x8x128 : Shape := ⟨4, ![2, 512, 8, 128]⟩
abbrev S64 : Shape := ⟨1, ![64]⟩
abbrev S128 : Shape := ⟨1, ![128]⟩
abbrev S8192x3072 : Shape := ⟨2, ![8192, 3072]⟩
abbrev S2x4096x3072 : Shape := ⟨3, ![2, 4096, 3072]⟩
abbrev S2x4096x1024 : Shape := ⟨3, ![2, 4096, 1024]⟩
abbrev S2x4096x8x2x64 : Shape := ⟨5, ![2, 4096, 8, 2, 64]⟩
abbrev S2x4096x8x128 : Shape := ⟨4, ![2, 4096, 8, 128]⟩
abbrev S2x4608x8x2x64 : Shape := ⟨5, ![2, 4608, 8, 2, 64]⟩
abbrev S2x4608x8x128 : Shape := ⟨4, ![2, 4608, 8, 128]⟩
abbrev S_ : Shape := ⟨0, ![]⟩
abbrev S2x8x2x4096x4608 : Shape := ⟨5, ![2, 8, 2, 4096, 4608]⟩
abbrev S2x8x2x4096 : Shape := ⟨4, ![2, 8, 2, 4096]⟩
abbrev S2x8x2x4096x1 : Shape := ⟨5, ![2, 8, 2, 4096, 1]⟩
abbrev S2x8x1x4096x4608 : Shape := ⟨5, ![2, 8, 1, 4096, 4608]⟩
abbrev S2x8x4096x4608 : Shape := ⟨4, ![2, 8, 4096, 4608]⟩
abbrev S2x8x128x4096 : Shape := ⟨4, ![2, 8, 128, 4096]⟩
abbrev S2x4096x8 : Shape := ⟨3, ![2, 4096, 8]⟩
abbrev S2x4096x8x1 : Shape := ⟨4, ![2, 4096, 8, 1]⟩
abbrev S1x1x1x128 : Shape := ⟨4, ![1, 1, 1, 128]⟩
abbrev S8192x1024 : Shape := ⟨2, ![8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S12288x3072, .f32⟩
  | .hbm, ⟨1, _⟩ => ⟨S2x512x8x2x64, .f32⟩
  | .hbm, ⟨2, _⟩ => ⟨S2x512x8x128, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8192x3072, .f32⟩
  | .hbm, ⟨9, _⟩ => ⟨S2x4096x3072, .f32⟩
  | .hbm, ⟨10, _⟩ => ⟨S2x4096x1024, .f32⟩
  | .hbm, ⟨11, _⟩ => ⟨S2x4096x1024, .f32⟩
  | .hbm, ⟨12, _⟩ => ⟨S2x4096x1024, .f32⟩
  | .hbm, ⟨13, _⟩ => ⟨S2x4096x8x2x64, .f32⟩
  | .hbm, ⟨14, _⟩ => ⟨S2x4096x8x2x64, .f32⟩
  | .hbm, ⟨15, _⟩ => ⟨S2x4096x8x128, .f32⟩
  | .hbm, ⟨16, _⟩ => ⟨S2x4608x8x2x64, .f32⟩
  | .hbm, ⟨17, _⟩ => ⟨S2x4608x8x128, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2x8x2x4096x4608, .f32⟩
  | .hbm, ⟨30, _⟩ => ⟨S_, .f32⟩
  | .hbm, ⟨31, _⟩ => ⟨S2x8x2x4096x4608, .f32⟩
  | .hbm, ⟨32, _⟩ => ⟨S2x8x2x4096x4608, .f32⟩
  | .hbm, ⟨33, _⟩ => ⟨S_, .f32⟩
  | .hbm, ⟨34, _⟩ => ⟨S2x8x2x4096, .f32⟩
  | .hbm, ⟨35, _⟩ => ⟨S_, .f32⟩
  | .hbm, ⟨36, _⟩ => ⟨S2x8x2x4096, .f32⟩
  | .hbm, ⟨37, _⟩ => ⟨S2x8x2x4096, .f32⟩
  | .hbm, ⟨38, _⟩ => ⟨S2x8x2x4096x1, .f32⟩
  | .hbm, ⟨39, _⟩ => ⟨S2x8x2x4096x4608, .f32⟩
  | .hbm, ⟨40, _⟩ => ⟨S2x8x2x4096x4608, .f32⟩
  | .hbm, ⟨41, _⟩ => ⟨S2x8x2x4096x4608, .f32⟩
  | .hbm, ⟨42, _⟩ => ⟨S_, .f32⟩
  | .hbm, ⟨43, _⟩ => ⟨S2x8x2x4096, .f32⟩
  | .hbm, ⟨44, _⟩ => ⟨S2x8x2x4096x1, .f32⟩
  | .hbm, ⟨45, _⟩ => ⟨S2x8x2x4096x4608, .f32⟩
  | .hbm, ⟨46, _⟩ => ⟨S2x8x2x4096x4608, .f32⟩
  | .hbm, ⟨47, _⟩ => ⟨S2x8x1x4096x4608, .f32⟩
  | .hbm, ⟨48, _⟩ => ⟨S2x8x4096x4608, .f32⟩
  | .hbm, ⟨49, _⟩ => ⟨S2x8x1x4096x4608, .f32⟩
  | .hbm, ⟨50, _⟩ => ⟨S2x8x4096x4608, .f32⟩
  | .hbm, ⟨51, _⟩ => ⟨S2x8x4096x4608, .f32⟩
  | .hbm, ⟨52, _⟩ => ⟨S2x8x4096x4608, .f32⟩
  | .hbm, ⟨53, _⟩ => ⟨S2x8x4096x4608, .f32⟩
  | .hbm, ⟨54, _⟩ => ⟨S2x8x128x4096, .f32⟩
  | .hbm, ⟨55, _⟩ => ⟨S2x4096x8x128, .f32⟩
  | .hbm, ⟨56, _⟩ => ⟨S2x4096x8x128, .f32⟩
  | .hbm, ⟨57, _⟩ => ⟨S_, .f32⟩
  | .hbm, ⟨58, _⟩ => ⟨S2x4096x8, .f32⟩
  | .hbm, ⟨59, _⟩ => ⟨S2x4096x8x1, .f32⟩
  | .hbm, ⟨60, _⟩ => ⟨S_, .f32⟩
  | .hbm, ⟨61, _⟩ => ⟨S2x4096x8x1, .f32⟩
  | .hbm, ⟨62, _⟩ => ⟨S2x4096x8x1, .f32⟩
  | .hbm, ⟨63, _⟩ => ⟨S_, .f32⟩
  | .hbm, ⟨64, _⟩ => ⟨S2x4096x8x1, .f32⟩
  | .hbm, ⟨65, _⟩ => ⟨S2x4096x8x1, .f32⟩
  | .hbm, ⟨66, _⟩ => ⟨S2x4096x8x1, .f32⟩
  | .hbm, ⟨67, _⟩ => ⟨S2x4096x8x128, .f32⟩
  | .hbm, ⟨68, _⟩ => ⟨S2x4096x8x128, .f32⟩
  | .hbm, ⟨69, _⟩ => ⟨S1x1x1x128, .f32⟩
  | .hbm, ⟨70, _⟩ => ⟨S2x4096x8x128, .f32⟩
  | .hbm, ⟨71, _⟩ => ⟨S2x4096x8x128, .f32⟩
  | .hbm, ⟨72, _⟩ => ⟨S_, .f32⟩
  | .hbm, ⟨73, _⟩ => ⟨S2x4096x8x128, .f32⟩
  | .hbm, ⟨74, _⟩ => ⟨S2x4096x8x128, .f32⟩
  | .hbm, ⟨75, _⟩ => ⟨S8192x1024, .f32⟩
  | _, _ => ⟨S12288x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== Ffn.lean ====
abbrev S12288x1024 : Shape := ⟨2, ![12288, 1024]⟩
abbrev S3x8x1024 : Shape := ⟨3, ![3, 8, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S1x8x1024 : Shape := ⟨3, ![1, 8, 1024]⟩
abbrev S1024x1408 : Shape := ⟨2, ![1024, 1408]⟩
abbrev S1408x1024 : Shape := ⟨2, ![1408, 1024]⟩
abbrev S8x1024 : Shape := ⟨2, ![8, 1024]⟩
abbrev S512 : Shape := ⟨1, ![512]⟩
abbrev S512x1 : Shape := ⟨2, ![512, 1]⟩
abbrev S512x1408 : Shape := ⟨2, ![512, 1408]⟩

abbrev nBuf : Space → Nat
  | .hbm => 11
  | .vmem => 16
  | .smem => 0
  | _ => 0

abbrev bufTy : (tb : Table) → Fin (tcTables nBuf tb) → BufTy
  | .hbm, ⟨0, _⟩ => ⟨S12288x1024, .f32⟩
  | .hbm, ⟨1, _⟩ => ⟨S3x8x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S12288x1024, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1x1024, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1408x1024, .bf16⟩
  | .local _ .vmem, ⟨11, _⟩ => ⟨S1408x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![24, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnReferenceIdeal.lean ====
abbrev S12288x1024 : Shape := ⟨2, ![12288, 1024]⟩
abbrev S3x8x1024 : Shape := ⟨3, ![3, 8, 1024]⟩
abbrev S1x1024 : Shape := ⟨2, ![1, 1024]⟩
abbrev S1024x2816 : Shape := ⟨2, ![1024, 2816]⟩
abbrev S2816x1024 : Shape := ⟨2, ![2816, 1024]⟩
abbrev S3x4096x1024 : Shape := ⟨3, ![3, 4096, 1024]⟩
abbrev S3x1x1024 : Shape := ⟨3, ![3, 1, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S3x4096x2816 : Shape := ⟨3, ![3, 4096, 2816]⟩

abbrev nBuf : Space → Nat
  | .hbm => 67
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S3x8x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S3x4096x1024, .f32⟩
  | .hbm, ⟨8, _⟩ => ⟨S3x1x1024, .f32⟩
  | .hbm, ⟨9, _⟩ => ⟨S3x1x1024, .f32⟩
  | .hbm, ⟨10, _⟩ => ⟨S3x1x1024, .f32⟩
  | .hbm, ⟨11, _⟩ => ⟨S3x4096x1024, .f32⟩
  | .hbm, ⟨12, _⟩ => ⟨S_, .f32⟩
  | .hbm, ⟨13, _⟩ => ⟨S3x4096, .f32⟩
  | .hbm, ⟨14, _⟩ => ⟨S3x4096x1, .f32⟩
  | .hbm, ⟨15, _⟩ => ⟨S_, .f32⟩
  | .hbm, ⟨16, _⟩ => ⟨S3x4096x1, .f32⟩
  | .hbm, ⟨17, _⟩ => ⟨S3x4096x1, .f32⟩
  | .hbm, ⟨18, _⟩ => ⟨S_, .f32⟩
  | .hbm, ⟨19, _⟩ => ⟨S3x4096x1, .f32⟩
  | .hbm, ⟨20, _⟩ => ⟨S3x4096x1, .f32⟩
  | .hbm, ⟨21, _⟩ => ⟨S3x4096x1, .f32⟩
  | .hbm, ⟨22, _⟩ => ⟨S3x4096x1024, .f32⟩
  | .hbm, ⟨23, _⟩ => ⟨S3x4096x1024, .f32⟩
  | .hbm, ⟨24, _⟩ => ⟨S1x1x1024, .f32⟩
  | .hbm, ⟨25, _⟩ => ⟨S3x4096x1024, .f32⟩
  | .hbm, ⟨26, _⟩ => ⟨S3x4096x1024, .f32⟩
  | .hbm, ⟨27, _⟩ => ⟨S_, .f32⟩
  | .hbm, ⟨28, _⟩ => ⟨S3x1x1024, .f32⟩
  | .hbm, ⟨29, _⟩ => ⟨S3x1x1024, .f32⟩
  | .hbm, ⟨30, _⟩ => ⟨S3x4096x1024, .f32⟩
  | .hbm, ⟨31, _⟩ => ⟨S3x4096x1024, .f32⟩
  | .hbm, ⟨32, _⟩ => ⟨S3x4096x1024, .f32⟩
  | .hbm, ⟨33, _⟩ => ⟨S3x4096x1024, .f32⟩
  | .hbm, ⟨34, _⟩ => ⟨S3x4096x2816, .f32⟩
  | .hbm, ⟨35, _⟩ => ⟨S3x4096x2816, .f32⟩
  | .hbm, ⟨36, _⟩ => ⟨S3x4096x2816, .f32⟩
  | .hbm, ⟨37, _⟩ => ⟨S_, .f32⟩
  | .hbm, ⟨38, _⟩ => ⟨S3x4096x2816, .f32⟩
  | .hbm, ⟨39, _⟩ => ⟨S3x4096x2816, .f32⟩
  | .hbm, ⟨40, _⟩ => ⟨S_, .f32⟩
  | .hbm, ⟨41, _⟩ => ⟨S3x4096x2816, .f32⟩
  | .hbm, ⟨42, _⟩ => ⟨S3x4096x2816, .f32⟩
  | .hbm, ⟨43, _⟩ => ⟨S3x4096x2816, .f32⟩
  | .hbm, ⟨44, _⟩ => ⟨S3x4096x2816, .f32⟩
  | .hbm, ⟨45, _⟩ => ⟨S3x4096x2816, .f32⟩
  | .hbm, ⟨46, _⟩ => ⟨S3x4096x1024, .f32⟩
  | .hbm, ⟨47, _⟩ => ⟨S3x4096x1024, .f32⟩
  | .hbm, ⟨48, _⟩ => ⟨S_, .f32⟩
  | .hbm, ⟨49, _⟩ => ⟨S3x4096, .f32⟩
  | .hbm, ⟨50, _⟩ => ⟨S3x4096x1, .f32⟩
  | .hbm, ⟨51, _⟩ => ⟨S_, .f32⟩
  | .hbm, ⟨52, _⟩ => ⟨S3x4096x1, .f32⟩
  | .hbm, ⟨53, _⟩ => ⟨S3x4096x1, .f32⟩
  | .hbm, ⟨54, _⟩ => ⟨S_, .f32⟩
  | .hbm, ⟨55, _⟩ => ⟨S3x4096x1, .f32⟩
  | .hbm, ⟨56, _⟩ => ⟨S3x4096x1, .f32⟩
  | .hbm, ⟨57, _⟩ => ⟨S3x4096x1, .f32⟩
  | .hbm, ⟨58, _⟩ => ⟨S3x4096x1024, .f32⟩
  | .hbm, ⟨59, _⟩ => ⟨S3x4096x1024, .f32⟩
  | .hbm, ⟨60, _⟩ => ⟨S1x1x1024, .f32⟩
  | .hbm, ⟨61, _⟩ => ⟨S3x4096x1024, .f32⟩
  | .hbm, ⟨62, _⟩ => ⟨S3x4096x1024, .f32⟩
  | .hbm, ⟨63, _⟩ => ⟨S3x4096x1024, .f32⟩
  | .hbm, ⟨64, _⟩ => ⟨S3x4096x1024, .f32⟩
  | .hbm, ⟨65, _⟩ => ⟨S3x4096x1024, .f32⟩
  | .hbm, ⟨66, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]
-- ==== Moe.lean ====
abbrev S98304x128 : Shape := ⟨2, ![98304, 128]⟩
abbrev S28672 : Shape := ⟨1, ![28672]⟩
abbrev S56 : Shape := ⟨1, ![56]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩
abbrev S56x1 : Shape := ⟨2, ![56, 1]⟩
abbrev S229376x128 : Shape := ⟨2, ![229376, 128]⟩
abbrev S1x1024x512 : Shape := ⟨3, ![1, 1024, 512]⟩
abbrev S1x512x1024 : Shape := ⟨3, ![1, 512, 1024]⟩
abbrev S4096x128 : Shape := ⟨2, ![4096, 128]⟩
abbrev S8192x128 : Shape := ⟨2, ![8192, 128]⟩
abbrev S512x1024 : Shape := ⟨2, ![512, 1024]⟩
abbrev S2 : Shape := ⟨1, ![2]⟩
abbrev S8x128 : Shape := ⟨2, ![8, 128]⟩
abbrev S512x128 : Shape := ⟨2, ![512, 128]⟩
abbrev S1024x512 : Shape := ⟨2, ![1024, 512]⟩
abbrev S512x512 : Shape := ⟨2, ![512, 512]⟩

abbrev nBuf : Space → Nat
  | .hbm => 23
  | .vmem => 11
  | .smem => 3
  | _ => 0

abbrev bufTy : (tb : Table) → Fin (tcTables nBuf tb) → BufTy
  | .hbm, ⟨0, _⟩ => ⟨S98304x128, .f32⟩
  | .hbm, ⟨1, _⟩ => ⟨S56, .i32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S8x1024x3584, .bf16⟩
  | .hbm, ⟨6, _⟩ => ⟨S8x1024x3584, .bf16⟩
  | .hbm, ⟨7, _⟩ => ⟨S8x3584x1024, .bf16⟩
  | .hbm, ⟨8, _⟩ => ⟨S56, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S56, .i32⟩
  | .hbm, ⟨13, _⟩ => ⟨S56, .i32⟩
  | .hbm, ⟨14, _⟩ => ⟨S_, .i32⟩
  | .hbm, ⟨15, _⟩ => ⟨S56, .i32⟩
  | .hbm, ⟨16, _⟩ => ⟨S56, .i1⟩
  | .hbm, ⟨17, _⟩ => ⟨S_, .i32⟩
  | .hbm, ⟨18, _⟩ => ⟨S56, .i32⟩
  | .hbm, ⟨19, _⟩ => ⟨S56, .i32⟩
  | .hbm, ⟨20, _⟩ => ⟨S56, .i32⟩
  | .hbm, ⟨21, _⟩ => ⟨S56x1, .i32⟩
  | .hbm, ⟨22, _⟩ => ⟨S229376x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S4096x128, .f32⟩
  | .local _ .vmem, ⟨7, _⟩ => ⟨S4096x128, .f32⟩
  | .local _ .vmem, ⟨8, _⟩ => ⟨S8192x128, .f32⟩
  | .local _ .vmem, ⟨9, _⟩ => ⟨S512x1024, .bf16⟩
  | .local _ .vmem, ⟨10, _⟩ => ⟨S512x1024, .f32⟩
  | .local _ .smem, ⟨0, _⟩ => ⟨S56, .i32⟩
  | .local _ .smem, ⟨1, _⟩ => ⟨S1, .i32⟩
  | .local _ .smem, ⟨2, _⟩ => ⟨S28672, .i32⟩
  | _, _ => ⟨S98304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v15 : Ref sig .tc := ⟨.hbm, 22, rfl⟩
abbrev main_v14 : Ref sig .tc := ⟨.smem, 0, rfl⟩
abbrev main_arg3 : Ref sig .tc := ⟨.smem, 1, rfl⟩
abbrev main_arg1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![56, 7], ![false, false]⟩

abbrev pre0 : Pipeline.Prefetch sig := ⟨3, ![main_v14.idx, main_arg3.idx, main_arg1.idx], fun | 0 => main_v14.names | 1 => main_arg3.names | 2 => main_arg1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg0 : BitVec 32 := BitVec.ofNat 32 (i 0).val
  let c0_i32_7 : BitVec 32 := 0#32
  let v23 : BitVec 1 := Scalar.cmpi .eq arg0 c0_i32_7
  let v24 : BitVec 32 := Scalar.extui v23
  let c0_i32_8 : BitVec 32 := 0#32
  let v25 : BitVec 1 := Scalar.cmpi .ne v24 c0_i32_8
  v25

@[reducible] def k0_t1_loop : Scf.Loop 32 :=
  let c0_i32_33 : BitVec 32 := 0#32
  let c256_i32 : BitVec 32 := 256#32
  let v67 : BitVec 32 := Scalar.addi c0_i32_33 c256_i32
  let c1_i32_34 : BitVec 32 := 1#32
  ⟨c0_i32_33, v67, c1_i32_34⟩
def k0_off2 (k0_t1 : Fin k0_t1_loop.trips) : Fin 1 → Nat :=
  let c0_i32_38 : BitVec 32 := 0#32
  let c2_i32_36 : BitVec 32 := 2#32
  let c0_i32_33 : BitVec 32 := 0#32
  let c1_i32_34 : BitVec 32 := 1#32
  let arg14 : BitVec 32 := Scf.iv c0_i32_33 c1_i32_34 k0_t1
  let v68 : BitVec 32 := Scalar.muli c2_i32_36 arg14
  let c0_i32_37 : BitVec 32 := 0#32
  let v69 : BitVec 32 := Scalar.addi v68 c0_i32_37
  let v70 : BitVec 32 := Scalar.addi c0_i32_38 v69
  let v71 : Index := Scalar.indexCast v70
  ![v71.toNat]
def k0_mult1 (v72 : BitVec 32) : BitVec 32 :=
  let c8_i32_40 : BitVec 32 := 8#32
  let v74 : BitVec 32 := Scalar.muli v72 c8_i32_40
  v74
def k0_cond1 (i : grid0.Coords) (v0 : BitVec 32) : BitVec 1 :=
  let arg0 : BitVec 32 := BitVec.ofNat 32 (i 0).val
  let v2 : BitVec 1 := Scalar.cmpi .slt arg0 v0
  let arg1 : BitVec 32 := BitVec.ofNat 32 (i 1).val
  let c0_i32 : BitVec 32 := 0#32
  let v3 : BitVec 1 := Scalar.cmpi .eq arg1 c0_i32
  let v4 : BitVec 1 := Scalar.andi v2 v3
  let v5 : BitVec 32 := Scalar.extui v4
  let c0_i32_0 : BitVec 32 := 0#32
  let v6 : BitVec 1 := Scalar.cmpi .ne v5 c0_i32_0
  v6

def k0_mult2 (k0_t1 : Fin k0_t1_loop.trips) : BitVec 32 :=
  let c0_i32_39 : BitVec 32 := 0#32
  let c2_i32_36 : BitVec 32 := 2#32
  let c0_i32_33 : BitVec 32 := 0#32
  let c1_i32_34 : BitVec 32 := 1#32
  let arg14 : BitVec 32 := Scf.iv c0_i32_33 c1_i32_34 k0_t1
  let v68 : BitVec 32 := Scalar.muli c2_i32_36 arg14
  let c0_i32_37 : BitVec 32 := 0#32
  let v69 : BitVec 32 := Scalar.addi v68 c0_i32_37
  let v73 : BitVec 32 := Scalar.addi c0_i32_39 v69
  let c8_i32_41 : BitVec 32 := 8#32
  let v76 : BitVec 32 := Scalar.muli v73 c8_i32_41
  v76
def k0_off3 (k0_t1 : Fin k0_t1_loop.trips) : Fin 2 → Nat :=
  let c0_i32_39 : BitVec 32 := 0#32
  let c2_i32_36 : BitVec 32 := 2#32
  let c0_i32_33 : BitVec 32 := 0#32
  let c1_i32_34 : BitVec 32 := 1#32
  let arg14 : BitVec 32 := Scf.iv c0_i32_33 c1_i32_34 k0_t1
  let v68 : BitVec 32 := Scalar.muli c2_i32_36 arg14
  let c0_i32_37 : BitVec 32 := 0#32
  let v69 : BitVec 32 := Scalar.addi v68 c0_i32_37
  let v73 : BitVec 32 := Scalar.addi c0_i32_39 v69
  let c8_i32_41 : BitVec 32 := 8#32
  let v76 : BitVec 32 := Scalar.muli v73 c8_i32_41
  let v77 : BitVec 32 := v76
  let c0_i32_42 : BitVec 32 := 0#32
  ![v77.toNat, 0]
def k0_off4 (v72 : BitVec 32) : Fin 2 → Nat :=
  let c8_i32_40 : BitVec 32 := 8#32
  let v74 : BitVec 32 := Scalar.muli v72 c8_i32_40
  let v75 : BitVec 32 := v74
  let c0_i32_43 : BitVec 32 := 0#32
  ![v75.toNat, 0]

def k0_chk1 (i : grid0.Coords) (v0 : BitVec 32) (v72 : BitVec 32) : Prop :=
  (∀ (k0_h1 : k0_cond1 i v0 = 1#1), ∀ (k0_h2 : k0_cond2 i = 1#1), 8 ∣ (k0_mult1 v72).toNat) ∧
  (∀ (k0_h1 : k0_cond1 i v0 = 1#1), ∀ (k0_h2 : k0_cond2 i = 1#1), ∀ a, (k0_off4 v72) a + S8x128.size a ≤ S98304x128.size a)
theorem k0_mult1_dvd : ∀ (i : grid0.Coords) (v0 : BitVec 32) (v72 : BitVec 32) (k0_hw1 : k0_chk1 i v0 v72), ∀ (k0_h1 : k0_cond1 i v0 = 1#1), ∀ (k0_h2 : k0_cond2 i = 1#1), 8 ∣ (k0_mult1 v72).toNat := fun i v0 v72 k0_hw1 k0_h1 k0_h2 => k0_hw1.1 k0_h1 k0_h2
theorem k0_off4_inb : ∀ (i : grid0.Coords) (v0 : BitVec 32) (v72 : BitVec 32) (k0_hw1 : k0_chk1 i v0 v72), ∀ (k0_h1 : k0_cond1 i v0 = 1#1), ∀ (k0_h2 : k0_cond2 i = 1#1), ∀ a, (k0_off4 v72) a + S8x128.size a ≤ S98304x128.size a := fun i v0 v72 k0_hw1 k0_h1 k0_h2 => k0_hw1.2 k0_h1 k0_h2

def k0_off5 (k0_t1 : Fin k0_t1_loop.trips) : Fin 1 → Nat :=
  let c0_i32_46 : BitVec 32 := 0#32
  let c2_i32_44 : BitVec 32 := 2#32
  let c0_i32_33 : BitVec 32 := 0#32
  let c1_i32_34 : BitVec 32 := 1#32
  let arg14 : BitVec 32 := Scf.iv c0_i32_33 c1_i32_34 k0_t1
  let v82 : BitVec 32 := Scalar.muli c2_i32_44 arg14
  let c1_i32_45 : BitVec 32 := 1#32
  let v83 : BitVec 32 := Scalar.addi v82 c1_i32_45
  let v84 : BitVec 32 := Scalar.addi c0_i32_46 v83
  let v85 : Index := Scalar.indexCast v84
  ![v85.toNat]
def k0_mult3 (v86 : BitVec 32) : BitVec 32 :=
  let c8_i32_48 : BitVec 32 := 8#32
  let v88 : BitVec 32 := Scalar.muli v86 c8_i32_48
  v88

def k0_mult4 (k0_t1 : Fin k0_t1_loop.trips) : BitVec 32 :=
  let c0_i32_47 : BitVec 32 := 0#32
  let c2_i32_44 : BitVec 32 := 2#32
  let c0_i32_33 : BitVec 32 := 0#32
  let c1_i32_34 : BitVec 32 := 1#32
  let arg14 : BitVec 32 := Scf.iv c0_i32_33 c1_i32_34 k0_t1
  let v82 : BitVec 32 := Scalar.muli c2_i32_44 arg14
  let c1_i32_45 : BitVec 32 := 1#32
  let v83 : BitVec 32 := Scalar.addi v82 c1_i32_45
  let v87 : BitVec 32 := Scalar.addi c0_i32_47 v83
  let c8_i32_49 : BitVec 32 := 8#32
  let v90 : BitVec 32 := Scalar.muli v87 c8_i32_49
  v90
def k0_off6 (k0_t1 : Fin k0_t1_loop.trips) : Fin 2 → Nat :=
  let c0_i32_47 : BitVec 32 := 0#32
  let c2_i32_44 : BitVec 32 := 2#32
  let c0_i32_33 : BitVec 32 := 0#32
  let c1_i32_34 : BitVec 32 := 1#32
  let arg14 : BitVec 32 := Scf.iv c0_i32_33 c1_i32_34 k0_t1
  let v82 : BitVec 32 := Scalar.muli c2_i32_44 arg14
  let c1_i32_45 : BitVec 32 := 1#32
  let v83 : BitVec 32 := Scalar.addi v82 c1_i32_45
  let v87 : BitVec 32 := Scalar.addi c0_i32_47 v83
  let c8_i32_49 : BitVec 32 := 8#32
  let v90 : BitVec 32 := Scalar.muli v87 c8_i32_49
  let v91 : BitVec 32 := v90
  let c0_i32_50 : BitVec 32 := 0#32
  ![v91.toNat, 0]
def k0_off7 (v86 : BitVec 32) : Fin 2 → Nat :=
  let c8_i32_48 : BitVec 32 := 8#32
  let v88 : BitVec 32 := Scalar.muli v86 c8_i32_48
  let v89 : BitVec 32 := v88
  let c0_i32_51 : BitVec 32 := 0#32
  ![v89.toNat, 0]

def k0_chk2 (i : grid0.Coords) (v0 : BitVec 32) (v86 : BitVec 32) : Prop :=
  (∀ (k0_h1 : k0_cond1 i v0 = 1#1), ∀ (k0_h2 : k0_cond2 i = 1#1), 8 ∣ (k0_mult3 v86).toNat) ∧
  (∀ (k0_h1 : k0_cond1 i v0 = 1#1), ∀ (k0_h2 : k0_cond2 i = 1#1), ∀ a, (k0_off7 v86) a + S8x128.size a ≤ S98304x128.size a)
theorem k0_mult3_dvd : ∀ (i : grid0.Coords) (v0 : BitVec 32) (v86 : BitVec 32) (k0_hw2 : k0_chk2 i v0 v86), ∀ (k0_h1 : k0_cond1 i v0 = 1#1), ∀ (k0_h2 : k0_cond2 i = 1#1), 8 ∣ (k0_mult3 v86).toNat := fun i v0 v86 k0_hw2 k0_h1 k0_h2 => k0_hw2.1 k0_h1 k0_h2
theorem k0_off7_inb : ∀ (i : grid0.Coords) (v0 : BitVec 32) (v86 : BitVec 32) (k0_hw2 : k0_chk2 i v0 v86), ∀ (k0_h1 : k0_cond1 i v0 = 1#1), ∀ (k0_h2 : k0_cond2 i = 1#1), ∀ a, (k0_off7 v86) a + S8x128.size a ≤ S98304x128.size a := fun i v0 v86 k0_hw2 k0_h1 k0_h2 => k0_hw2.2 k0_h1 k0_h2

@[reducible] def k0_t2_loop : Scf.Loop 32 :=
  let c0_i32_9 : BitVec 32 := 0#32
  let c512_i32_10 : BitVec 32 := 512#32
  let v27 : BitVec 32 := Scalar.addi c0_i32_9 c512_i32_10
  let c1_i32_11 : BitVec 32 := 1#32
  ⟨c0_i32_9, v27, c1_i32_11⟩
def k0_mult5 : BitVec 32 :=
  let c0_i32_32 : BitVec 32 := 0#32
  c0_i32_32
def k0_mult6 (i : grid0.Coords) (k0_t2 : Fin k0_t2_loop.trips) : BitVec 32 :=
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let c512_i32 : BitVec 32 := 512#32
  let v26 : BitVec 32 := Scalar.muli v22 c512_i32
  let c0_i32_9 : BitVec 32 := 0#32
  let c1_i32_11 : BitVec 32 := 1#32
  let arg14 : BitVec 32 := Scf.iv c0_i32_9 c1_i32_11 k0_t2
  let v67 : BitVec 32 := Scalar.addi v26 arg14
  let c8_i32_33 : BitVec 32 := 8#32
  let v69 : BitVec 32 := Scalar.muli v67 c8_i32_33
  v69
def k0_off8 (i : grid0.Coords) : Fin 1 → Nat :=
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  ![v22.toNat]
def k0_off9 (i : grid0.Coords) (k0_t2 : Fin k0_t2_loop.trips) : Fin 2 → Nat :=
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let c512_i32 : BitVec 32 := 512#32
  let v26 : BitVec 32 := Scalar.muli v22 c512_i32
  let c0_i32_9 : BitVec 32 := 0#32
  let c1_i32_11 : BitVec 32 := 1#32
  let arg14 : BitVec 32 := Scf.iv c0_i32_9 c1_i32_11 k0_t2
  let v67 : BitVec 32 := Scalar.addi v26 arg14
  let c8_i32_33 : BitVec 32 := 8#32
  let v69 : BitVec 32 := Scalar.muli v67 c8_i32_33
  let v70 : BitVec 32 := v69
  let c0_i32_34 : BitVec 32 := 0#32
  ![v70.toNat, 0]
@[reducible] def k0_t3_loop : Scf.Loop 32 :=
  let c0_i32_37 : BitVec 32 := 0#32
  let c256_i32 : BitVec 32 := 256#32
  let v73 : BitVec 32 := Scalar.addi c0_i32_37 c256_i32
  let c1_i32_38 : BitVec 32 := 1#32
  ⟨c0_i32_37, v73, c1_i32_38⟩
def k0_off10 (i : grid0.Coords) (k0_t3 : Fin k0_t3_loop.trips) : Fin 1 → Nat :=
  let arg0 : BitVec 32 := BitVec.ofNat 32 (i 0).val
  let c1_i32_32 : BitVec 32 := 1#32
  let v67 : BitVec 32 := Scalar.addi arg0 c1_i32_32
  let c55_i32 : BitVec 32 := 55#32
  let v68 : BitVec 32 := Scalar.minsi v67 c55_i32
  let c512_i32_33 : BitVec 32 := 512#32
  let v69 : BitVec 32 := Scalar.muli v68 c512_i32_33
  let c2_i32_40 : BitVec 32 := 2#32
  let c0_i32_37 : BitVec 32 := 0#32
  let c1_i32_38 : BitVec 32 := 1#32
  let arg14 : BitVec 32 := Scf.iv c0_i32_37 c1_i32_38 k0_t3
  let v74 : BitVec 32 := Scalar.muli c2_i32_40 arg14
  let c0_i32_41 : BitVec 32 := 0#32
  let v75 : BitVec 32 := Scalar.addi v74 c0_i32_41
  let v76 : BitVec 32 := Scalar.addi v69 v75
  let v77 : Index := Scalar.indexCast v76
  ![v77.toNat]
def k0_mult7 (v78 : BitVec 32) : BitVec 32 :=
  let c8_i32_42 : BitVec 32 := 8#32
  let v80 : BitVec 32 := Scalar.muli v78 c8_i32_42
  v80
def k0_cond3 (i : grid0.Coords) (v0 : BitVec 32) : BitVec 1 :=
  let arg0 : BitVec 32 := BitVec.ofNat 32 (i 0).val
  let c1_i32_13 : BitVec 32 := 1#32
  let v28 : BitVec 32 := Scalar.addi arg0 c1_i32_13
  let v29 : BitVec 1 := Scalar.cmpi .slt v28 v0
  let v30 : BitVec 32 := Scalar.extui v29
  let c0_i32_14 : BitVec 32 := 0#32
  let v31 : BitVec 1 := Scalar.cmpi .ne v30 c0_i32_14
  v31

def k0_mult8 (i : grid0.Coords) (k0_t3 : Fin k0_t3_loop.trips) : BitVec 32 :=
  let c1_i32_34 : BitVec 32 := 1#32
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let v70 : BitVec 32 := Scalar.subi c1_i32_34 v22
  let c512_i32_35 : BitVec 32 := 512#32
  let v71 : BitVec 32 := Scalar.muli v70 c512_i32_35
  let c2_i32_40 : BitVec 32 := 2#32
  let c0_i32_37 : BitVec 32 := 0#32
  let c1_i32_38 : BitVec 32 := 1#32
  let arg14 : BitVec 32 := Scf.iv c0_i32_37 c1_i32_38 k0_t3
  let v74 : BitVec 32 := Scalar.muli c2_i32_40 arg14
  let c0_i32_41 : BitVec 32 := 0#32
  let v75 : BitVec 32 := Scalar.addi v74 c0_i32_41
  let v79 : BitVec 32 := Scalar.addi v71 v75
  let c8_i32_43 : BitVec 32 := 8#32
  let v82 : BitVec 32 := Scalar.muli v79 c8_i32_43
  v82
def k0_off11 (i : grid0.Coords) : Fin 1 → Nat :=
  let c1_i32_36 : BitVec 32 := 1#32
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let v72 : BitVec 32 := Scalar.subi c1_i32_36 v22
  ![v72.toNat]
def k0_off12 (i : grid0.Coords) (k0_t3 : Fin k0_t3_loop.trips) : Fin 2 → Nat :=
  let c1_i32_34 : BitVec 32 := 1#32
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let v70 : BitVec 32 := Scalar.subi c1_i32_34 v22
  let c512_i32_35 : BitVec 32 := 512#32
  let v71 : BitVec 32 := Scalar.muli v70 c512_i32_35
  let c2_i32_40 : BitVec 32 := 2#32
  let c0_i32_37 : BitVec 32 := 0#32
  let c1_i32_38 : BitVec 32 := 1#32
  let arg14 : BitVec 32 := Scf.iv c0_i32_37 c1_i32_38 k0_t3
  let v74 : BitVec 32 := Scalar.muli c2_i32_40 arg14
  let c0_i32_41 : BitVec 32 := 0#32
  let v75 : BitVec 32 := Scalar.addi v74 c0_i32_41
  let v79 : BitVec 32 := Scalar.addi v71 v75
  let c8_i32_43 : BitVec 32 := 8#32
  let v82 : BitVec 32 := Scalar.muli v79 c8_i32_43
  let v83 : BitVec 32 := v82
  let c0_i32_44 : BitVec 32 := 0#32
  ![v83.toNat, 0]
def k0_off13 (v78 : BitVec 32) : Fin 2 → Nat :=
  let c8_i32_42 : BitVec 32 := 8#32
  let v80 : BitVec 32 := Scalar.muli v78 c8_i32_42
  let v81 : BitVec 32 := v80
  let c0_i32_45 : BitVec 32 := 0#32
  ![v81.toNat, 0]

def k0_chk3 (i : grid0.Coords) (v0 : BitVec 32) (v78 : BitVec 32) : Prop :=
  (∀ (k0_h1 : k0_cond1 i v0 = 1#1), ∀ (k0_h3 : k0_cond3 i v0 = 1#1), 8 ∣ (k0_mult7 v78).toNat) ∧
  (∀ (k0_h1 : k0_cond1 i v0 = 1#1), ∀ (k0_h3 : k0_cond3 i v0 = 1#1), ∀ a, (k0_off13 v78) a + S8x128.size a ≤ S98304x128.size a)
theorem k0_mult7_dvd : ∀ (i : grid0.Coords) (v0 : BitVec 32) (v78 : BitVec 32) (k0_hw3 : k0_chk3 i v0 v78), ∀ (k0_h1 : k0_cond1 i v0 = 1#1), ∀ (k0_h3 : k0_cond3 i v0 = 1#1), 8 ∣ (k0_mult7 v78).toNat := fun i v0 v78 k0_hw3 k0_h1 k0_h3 => k0_hw3.1 k0_h1 k0_h3
theorem k0_off13_inb : ∀ (i : grid0.Coords) (v0 : BitVec 32) (v78 : BitVec 32) (k0_hw3 : k0_chk3 i v0 v78), ∀ (k0_h1 : k0_cond1 i v0 = 1#1), ∀ (k0_h3 : k0_cond3 i v0 = 1#1), ∀ a, (k0_off13 v78) a + S8x128.size a ≤ S98304x128.size a := fun i v0 v78 k0_hw3 k0_h1 k0_h3 => k0_hw3.2 k0_h1 k0_h3

def k0_off14 (i : grid0.Coords) (k0_t3 : Fin k0_t3_loop.trips) : Fin 1 → Nat :=
  let arg0 : BitVec 32 := BitVec.ofNat 32 (i 0).val
  let c1_i32_32 : BitVec 32 := 1#32
  let v67 : BitVec 32 := Scalar.addi arg0 c1_i32_32
  let c55_i32 : BitVec 32 := 55#32
  let v68 : BitVec 32 := Scalar.minsi v67 c55_i32
  let c512_i32_33 : BitVec 32 := 512#32
  let v69 : BitVec 32 := Scalar.muli v68 c512_i32_33
  let c2_i32_46 : BitVec 32 := 2#32
  let c0_i32_37 : BitVec 32 := 0#32
  let c1_i32_38 : BitVec 32 := 1#32
  let arg14 : BitVec 32 := Scf.iv c0_i32_37 c1_i32_38 k0_t3
  let v88 : BitVec 32 := Scalar.muli c2_i32_46 arg14
  let c1_i32_47 : BitVec 32 := 1#32
  let v89 : BitVec 32 := Scalar.addi v88 c1_i32_47
  let v90 : BitVec 32 := Scalar.addi v69 v89
  let v91 : Index := Scalar.indexCast v90
  ![v91.toNat]
def k0_mult9 (v92 : BitVec 32) : BitVec 32 :=
  let c8_i32_48 : BitVec 32 := 8#32
  let v94 : BitVec 32 := Scalar.muli v92 c8_i32_48
  v94

def k0_mult10 (i : grid0.Coords) (k0_t3 : Fin k0_t3_loop.trips) : BitVec 32 :=
  let c1_i32_34 : BitVec 32 := 1#32
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let v70 : BitVec 32 := Scalar.subi c1_i32_34 v22
  let c512_i32_35 : BitVec 32 := 512#32
  let v71 : BitVec 32 := Scalar.muli v70 c512_i32_35
  let c2_i32_46 : BitVec 32 := 2#32
  let c0_i32_37 : BitVec 32 := 0#32
  let c1_i32_38 : BitVec 32 := 1#32
  let arg14 : BitVec 32 := Scf.iv c0_i32_37 c1_i32_38 k0_t3
  let v88 : BitVec 32 := Scalar.muli c2_i32_46 arg14
  let c1_i32_47 : BitVec 32 := 1#32
  let v89 : BitVec 32 := Scalar.addi v88 c1_i32_47
  let v93 : BitVec 32 := Scalar.addi v71 v89
  let c8_i32_49 : BitVec 32 := 8#32
  let v96 : BitVec 32 := Scalar.muli v93 c8_i32_49
  v96
def k0_off15 (i : grid0.Coords) : Fin 1 → Nat :=
  let c1_i32_36 : BitVec 32 := 1#32
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let v72 : BitVec 32 := Scalar.subi c1_i32_36 v22
  ![v72.toNat]
def k0_off16 (i : grid0.Coords) (k0_t3 : Fin k0_t3_loop.trips) : Fin 2 → Nat :=
  let c1_i32_34 : BitVec 32 := 1#32
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let v70 : BitVec 32 := Scalar.subi c1_i32_34 v22
  let c512_i32_35 : BitVec 32 := 512#32
  let v71 : BitVec 32 := Scalar.muli v70 c512_i32_35
  let c2_i32_46 : BitVec 32 := 2#32
  let c0_i32_37 : BitVec 32 := 0#32
  let c1_i32_38 : BitVec 32 := 1#32
  let arg14 : BitVec 32 := Scf.iv c0_i32_37 c1_i32_38 k0_t3
  let v88 : BitVec 32 := Scalar.muli c2_i32_46 arg14
  let c1_i32_47 : BitVec 32 := 1#32
  let v89 : BitVec 32 := Scalar.addi v88 c1_i32_47
  let v93 : BitVec 32 := Scalar.addi v71 v89
  let c8_i32_49 : BitVec 32 := 8#32
  let v96 : BitVec 32 := Scalar.muli v93 c8_i32_49
  let v97 : BitVec 32 := v96
  let c0_i32_50 : BitVec 32 := 0#32
  ![v97.toNat, 0]
def k0_off17 (v92 : BitVec 32) : Fin 2 → Nat :=
  let c8_i32_48 : BitVec 32 := 8#32
  let v94 : BitVec 32 := Scalar.muli v92 c8_i32_48
  let v95 : BitVec 32 := v94
  let c0_i32_51 : BitVec 32 := 0#32
  ![v95.toNat, 0]

def k0_chk4 (i : grid0.Coords) (v0 : BitVec 32) (v92 : BitVec 32) : Prop :=
  (∀ (k0_h1 : k0_cond1 i v0 = 1#1), ∀ (k0_h3 : k0_cond3 i v0 = 1#1), 8 ∣ (k0_mult9 v92).toNat) ∧
  (∀ (k0_h1 : k0_cond1 i v0 = 1#1), ∀ (k0_h3 : k0_cond3 i v0 = 1#1), ∀ a, (k0_off17 v92) a + S8x128.size a ≤ S98304x128.size a)
theorem k0_mult9_dvd : ∀ (i : grid0.Coords) (v0 : BitVec 32) (v92 : BitVec 32) (k0_hw4 : k0_chk4 i v0 v92), ∀ (k0_h1 : k0_cond1 i v0 = 1#1), ∀ (k0_h3 : k0_cond3 i v0 = 1#1), 8 ∣ (k0_mult9 v92).toNat := fun i v0 v92 k0_hw4 k0_h1 k0_h3 => k0_hw4.1 k0_h1 k0_h3
theorem k0_off17_inb : ∀ (i : grid0.Coords) (v0 : BitVec 32) (v92 : BitVec 32) (k0_hw4 : k0_chk4 i v0 v92), ∀ (k0_h1 : k0_cond1 i v0 = 1#1), ∀ (k0_h3 : k0_cond3 i v0 = 1#1), ∀ a, (k0_off17 v92) a + S8x128.size a ≤ S98304x128.size a := fun i v0 v92 k0_hw4 k0_h1 k0_h3 => k0_hw4.2 k0_h1 k0_h3

def k0_off18 (i : grid0.Coords) (c0_i32_16 : BitVec 32) : Fin 2 → Nat :=
  let arg0 : BitVec 32 := BitVec.ofNat 32 (i 0).val
  let c2_i32 : BitVec 32 := 2#32
  let c0_i32_3 : BitVec 32 := 0#32
  let v13 : BitVec 1 := Scalar.cmpi .eq c2_i32 c0_i32_3
  let c1_i32 : BitVec 32 := 1#32
  let v14 : BitVec 32 := Scalar.select v13 c1_i32 c2_i32
  let v15 : BitVec 32 := Scalar.remsi arg0 v14
  let c0_i32_5 : BitVec 32 := 0#32
  let v17 : BitVec 1 := Scalar.cmpi .slt v15 c0_i32_5
  let c0_i32_6 : BitVec 32 := 0#32
  let v18 : BitVec 1 := Scalar.cmpi .slt v14 c0_i32_6
  let v19 : BitVec 1 := Scalar.xori v17 v18
  let c0_i32_4 : BitVec 32 := 0#32
  let v16 : BitVec 1 := Scalar.cmpi .ne v15 c0_i32_4
  let v20 : BitVec 1 := Scalar.andi v19 v16
  let v21 : BitVec 32 := Scalar.addi v15 v14
  let v22 : BitVec 32 := Scalar.select v20 v21 v15
  let c512_i32_15 : BitVec 32 := 512#32
  let v32 : BitVec 32 := Scalar.muli v22 c512_i32_15
  let c8_i32 : BitVec 32 := 8#32
  let v33 : BitVec 32 := Scalar.muli v32 c8_i32
  let v34 : BitVec 32 := Scalar.addi v33 c0_i32_16
  let v35 : Index := Scalar.indexCast v34
  let c0_17 : Index := 0#32
  ![v35.toNat, 0]
def k0_cond4 (i : grid0.Coords) (v0 : BitVec 32) : BitVec 1 :=
  let arg0 : BitVec 32 := BitVec.ofNat 32 (i 0).val
  let v2 : BitVec 1 := Scalar.cmpi .slt arg0 v0
  let v7 : BitVec 32 := Scalar.extui v2
  let c0_i32_1 : BitVec 32 := 0#32
  let v8 : BitVec 1 := Scalar.cmpi .ne v7 c0_i32_1
  v8

def k0_cond5 (i : grid0.Coords) : BitVec 1 :=
  let arg1 : BitVec 32 := BitVec.ofNat 32 (i 1).val
  let c6_i32 : BitVec 32 := 6#32
  let v1 : BitVec 1 := Scalar.cmpi .eq arg1 c6_i32
  let v32 : BitVec 32 := Scalar.extui v1
  let c0_i32_20 : BitVec 32 := 0#32
  let v33 : BitVec 1 := Scalar.cmpi .ne v32 c0_i32_20
  v33

def k0_cond6 (i : grid0.Coords) (v0 : BitVec 32) : BitVec 1 :=
  let arg0 : BitVec 32 := BitVec.ofNat 32 (i 0).val
  let v2 : BitVec 1 := Scalar.cmpi .slt arg0 v0
  let v_true : BitVec 1 := 1#1
  let v9 : BitVec 1 := Scalar.xori v2 v_true
  let arg1 : BitVec 32 := BitVec.ofNat 32 (i 1).val
  let c6_i32 : BitVec 32 := 6#32
  let v1 : BitVec 1 := Scalar.cmpi .eq arg1 c6_i32
  let v10 : BitVec 1 := Scalar.andi v9 v1
  let v11 : BitVec 32 := Scalar.extui v10
  let c0_i32_2 : BitVec 32 := 0#32
  let v12 : BitVec 1 := Scalar.cmpi .ne v11 c0_i32_2
  v12

def cc0_transform_1 (k0_off1_inb : ∀ i : grid0.Coords, ∀ a, (k0_off1 i) a + S1.size a ≤ S56.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S56) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S56.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S56) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S56.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S56) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== MoeReferenceIdeal.lean ====
abbrev S98304x128 : Shape := ⟨2, ![98304, 128]⟩
abbrev S28672 : Shape := ⟨1, ![28672]⟩
abbrev S56 : Shape := ⟨1, ![56]⟩
abbrev S1 : Shape := ⟨1, ![1]⟩
abbrev S8x1024x3584 : Shape := ⟨3, ![8, 1024, 3584]⟩
abbrev S8x3584x1024 : Shape := ⟨3, ![8, 3584, 1024]⟩
abbrev S12288x1024 : Shape := ⟨2, ![12288, 1024]⟩
abbrev S_ : Shape := ⟨0, ![]⟩
abbrev S28672x1 : Shape := ⟨2, ![28672, 1]⟩
abbrev S28672x1024 : Shape := ⟨2, ![28672, 1024]⟩
abbrev S56x512 : Shape := ⟨2, ![56, 512]⟩
abbrev S1x8 : Shape := ⟨2, ![1, 8]⟩
abbrev S28672x8 : Shape := ⟨2, ![28672, 8]⟩
abbrev S8x3584x28672 : Shape := ⟨3, ![8, 3584, 28672]⟩
abbrev S8x28672x3584 : Shape := ⟨3, ![8, 28672, 3584]⟩
abbrev S8x28672x1024 : Shape := ⟨3, ![8, 28672, 1024]⟩
abbrev S8x28672 : Shape := ⟨2, ![8, 28672]⟩
abbrev S8x28672x1 : Shape := ⟨3, ![8, 28672, 1]⟩
abbrev S229376x128 : Shape := ⟨2, ![229376, 128]⟩

abbrev nBuf : Space → Nat
  | .hbm => 59
  | .vmem => 0
  | .smem => 0
  | _ => 0

abbrev bufTy : (tb : Table) → Fin (tcTables nBuf tb) → BufTy
  | .hbm, ⟨0, _⟩ => ⟨S98304x128, .f32⟩
  | .hbm, ⟨1, _⟩ => ⟨S28672, .i32⟩
  | .hbm, ⟨2, _⟩ => ⟨S56, .i32⟩
  | .hbm, ⟨3, _⟩ => ⟨S1, .i32⟩
  | .hbm, ⟨4, _⟩ => ⟨S8x1024x3584, .f32⟩
  | .hbm, ⟨5, _⟩ => ⟨S8x1024x3584, .f32⟩
  | .hbm, ⟨6, _⟩ => ⟨S8x3584x1024, .f32⟩
  | .hbm, ⟨7, _⟩ => ⟨S12288x1024, .f32⟩
  | .hbm, ⟨8, _⟩ => ⟨S_, .i32⟩
  | .hbm, ⟨9, _⟩ => ⟨S28672, .i32⟩
  | .hbm, ⟨10, _⟩ => ⟨S28672, .i1⟩
  | .hbm, ⟨11, _⟩ => ⟨S_, .i32⟩
  | .hbm, ⟨12, _⟩ => ⟨S28672, .i32⟩
  | .hbm, ⟨13, _⟩ => ⟨S28672, .i32⟩
  | .hbm, ⟨14, _⟩ => ⟨S28672, .i32⟩
  | .hbm, ⟨15, _⟩ => ⟨S28672x1, .i32⟩
  | .hbm, ⟨16, _⟩ => ⟨S28672x1024, .f32⟩
  | .hbm, ⟨17, _⟩ => ⟨S56x512, .i32⟩
  | .hbm, ⟨18, _⟩ => ⟨S28672, .i32⟩
  | .hbm, ⟨19, _⟩ => ⟨S56, .i32⟩
  | .hbm, ⟨20, _⟩ => ⟨S_, .i32⟩
  | .hbm, ⟨21, _⟩ => ⟨S56, .i32⟩
  | .hbm, ⟨22, _⟩ => ⟨S56, .i1⟩
  | .hbm, ⟨23, _⟩ => ⟨S56x512, .i1⟩
  | .hbm, ⟨24, _⟩ => ⟨S28672, .i1⟩
  | .hbm, ⟨25, _⟩ => ⟨S28672x1, .i1⟩
  | .hbm, ⟨26, _⟩ => ⟨S28672x1, .i32⟩
  | .hbm, ⟨27, _⟩ => ⟨S1x8, .i32⟩
  | .hbm, ⟨28, _⟩ => ⟨S28672x8, .i32⟩
  | .hbm, ⟨29, _⟩ => ⟨S28672x8, .i32⟩
  | .hbm, ⟨30, _⟩ => ⟨S28672x8, .i1⟩
  | .hbm, ⟨31, _⟩ => ⟨S28672x8, .f32⟩
  | .hbm, ⟨32, _⟩ => ⟨S_, .f32⟩
  | .hbm, ⟨33, _⟩ => ⟨S_, .f32⟩
  | .hbm, ⟨34, _⟩ => ⟨S28672x8, .i1⟩
  | .hbm, ⟨35, _⟩ => ⟨S28672x8, .f32⟩
  | .hbm, ⟨36, _⟩ => ⟨S28672x8, .f32⟩
  | .hbm, ⟨37, _⟩ => ⟨S8x3584x28672, .f32⟩
  | .hbm, ⟨38, _⟩ => ⟨S8x28672x3584, .f32⟩
  | .hbm, ⟨39, _⟩ => ⟨S8x28672x3584, .f32⟩
  | .hbm, ⟨40, _⟩ => ⟨S8x28672x3584, .f32⟩
  | .hbm, ⟨41, _⟩ => ⟨S_, .f32⟩
  | .hbm, ⟨42, _⟩ => ⟨S8x28672x3584, .f32⟩
  | .hbm, ⟨43, _⟩ => ⟨S8x28672x3584, .f32⟩
  | .hbm, ⟨44, _⟩ => ⟨S_, .f32⟩
  | .hbm, ⟨45, _⟩ => ⟨S8x28672x3584, .f32⟩
  | .hbm, ⟨46, _⟩ => ⟨S8x28672x3584, .f32⟩
  | .hbm, ⟨47, _⟩ => ⟨S8x28672x3584, .f32⟩
  | .hbm, ⟨48, _⟩ => ⟨S8x3584x28672, .f32⟩
  | .hbm, ⟨49, _⟩ => ⟨S8x28672x3584, .f32⟩
  | .hbm, ⟨50, _⟩ => ⟨S8x28672x3584, .f32⟩
  | .hbm, ⟨51, _⟩ => ⟨S8x28672x1024, .f32⟩
  | .hbm, ⟨52, _⟩ => ⟨S8x28672, .f32⟩
  | .hbm, ⟨53, _⟩ => ⟨S8x28672x1, .f32⟩
  | .hbm, ⟨54, _⟩ => ⟨S8x28672x1024, .f32⟩
  | .hbm, ⟨55, _⟩ => ⟨S8x28672x1024, .f32⟩
  | .hbm, ⟨56, _⟩ => ⟨S_, .f32⟩
  | .hbm, ⟨57, _⟩ => ⟨S28672x1024, .f32⟩
  | .hbm, ⟨58, _⟩ => ⟨S229376x128, .f32⟩
  | _, _ => ⟨S98304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v17 : Ref sig .tc := ⟨.hbm, 31, rfl⟩
abbrev main_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call2_v0 : Ref sig .tc := ⟨.hbm, 39, rfl⟩
abbrev main_call2_v1 : Ref sig .tc := ⟨.hbm, 40, rfl⟩
abbrev main_call2_cst : Ref sig .tc := ⟨.hbm, 41, rfl⟩
abbrev main_call2_v2 : Ref sig .tc := ⟨.hbm, 42, rfl⟩
abbrev main_call2_v3 : Ref sig .tc := ⟨.hbm, 43, rfl⟩
abbrev main_call2_cst_0 : Ref sig .tc := ⟨.hbm, 44, rfl⟩
abbrev main_call2_v4 : Ref sig .tc := ⟨.hbm, 45, rfl⟩
abbrev main_call2_v5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]
-- ==== Proj.lean ====
abbrev S12288x1024 : Shape := ⟨2, ![12288, 1024]⟩
abbrev S3x8x1024 : Shape := ⟨3, ![3, 8, 1024]⟩
abbrev S1x1024 : Shape := ⟨2, ![1, 1024]⟩
abbrev S1024x3072 : Shape := ⟨2, ![1024, 3072]⟩
abbrev S12288x3072 : Shape := ⟨2, ![12288, 3072]⟩
abbrev S512x1024 : Shape := ⟨2, ![512, 1024]⟩
abbrev S1x8x1024 : Shape := ⟨3, ![1, 8, 1024]⟩
abbrev S1024x512 : Shape := ⟨2, ![1024, 512]⟩
abbrev S512x512 : Shape := ⟨2, ![512, 512]⟩
abbrev S8x1024 : Shape := ⟨2, ![8, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S12288x1024, .f32⟩
  | .hbm, ⟨1, _⟩ => ⟨S3x8x1024, .f32⟩
  | .hbm, ⟨2, _⟩ => ⟨S1x1024, .f32⟩
  | .hbm, ⟨3, _⟩ => ⟨S1024x3072, .f32⟩
  | .hbm, ⟨4, _⟩ => ⟨S1024x3072, .bf16⟩
  | .hbm, ⟨5, _⟩ => ⟨S12288x3072, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![24, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjReferenceIdeal.lean ====
abbrev S12288x1024 : Shape := ⟨2, ![12288, 1024]⟩
abbrev S3x8x1024 : Shape := ⟨3, ![3, 8, 1024]⟩
abbrev S1x1024 : Shape := ⟨2, ![1, 1024]⟩
abbrev S1024x3072 : Shape := ⟨2, ![1024, 3072]⟩
abbrev S3x4096x1024 : Shape := ⟨3, ![3, 4096, 1024]⟩
abbrev S3x1x1024 : Shape := ⟨3, ![3, 1, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S3x4096x3072 : Shape := ⟨3, ![3, 4096, 3072]⟩
abbrev S12288x3072 : Shape := ⟨2, ![12288, 3072]⟩

abbrev nBuf : Space → Nat
  | .hbm => 32
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S3x8x1024, .f32⟩
  | .hbm, ⟨2, _⟩ => ⟨S1x1024, .f32⟩
  | .hbm, ⟨3, _⟩ => ⟨S1024x3072, .f32⟩
  | .hbm, ⟨4, _⟩ => ⟨S3x4096x1024, .f32⟩
  | .hbm, ⟨5, _⟩ => ⟨S3x1x1024, .f32⟩
  | .hbm, ⟨6, _⟩ => ⟨S3x1x1024, .f32⟩
  | .hbm, ⟨7, _⟩ => ⟨S3x4096x1024, .f32⟩
  | .hbm, ⟨8, _⟩ => ⟨S_, .f32⟩
  | .hbm, ⟨9, _⟩ => ⟨S3x4096, .f32⟩
  | .hbm, ⟨10, _⟩ => ⟨S3x4096x1, .f32⟩
  | .hbm, ⟨11, _⟩ => ⟨S_, .f32⟩
  | .hbm, ⟨12, _⟩ => ⟨S3x4096x1, .f32⟩
  | .hbm, ⟨13, _⟩ => ⟨S3x4096x1, .f32⟩
  | .hbm, ⟨14, _⟩ => ⟨S_, .f32⟩
  | .hbm, ⟨15, _⟩ => ⟨S3x4096x1, .f32⟩
  | .hbm, ⟨16, _⟩ => ⟨S3x4096x1, .f32⟩
  | .hbm, ⟨17, _⟩ => ⟨S3x4096x1, .f32⟩
  | .hbm, ⟨18, _⟩ => ⟨S3x4096x1024, .f32⟩
  | .hbm, ⟨19, _⟩ => ⟨S3x4096x1024, .f32⟩
  | .hbm, ⟨20, _⟩ => ⟨S1x1x1024, .f32⟩
  | .hbm, ⟨21, _⟩ => ⟨S3x4096x1024, .f32⟩
  | .hbm, ⟨22, _⟩ => ⟨S3x4096x1024, .f32⟩
  | .hbm, ⟨23, _⟩ => ⟨S_, .f32⟩
  | .hbm, ⟨24, _⟩ => ⟨S3x1x1024, .f32⟩
  | .hbm, ⟨25, _⟩ => ⟨S3x1x1024, .f32⟩
  | .hbm, ⟨26, _⟩ => ⟨S3x4096x1024, .f32⟩
  | .hbm, ⟨27, _⟩ => ⟨S3x4096x1024, .f32⟩
  | .hbm, ⟨28, _⟩ => ⟨S3x4096x1024, .f32⟩
  | .hbm, ⟨29, _⟩ => ⟨S3x4096x1024, .f32⟩
  | .hbm, ⟨30, _⟩ => ⟨S3x4096x3072, .f32⟩
  | .hbm, ⟨31, _⟩ => ⟨S12288x3072, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Rope.lean ====
abbrev S12288x1024 : Shape := ⟨2, ![12288, 1024]⟩
abbrev S3x8x1024 : Shape := ⟨3, ![3, 8, 1024]⟩
abbrev S1x1024 : Shape := ⟨2, ![1, 1024]⟩
abbrev S1024x3072 : Shape := ⟨2, ![1024, 3072]⟩
abbrev S4096x64 : Shape := ⟨2, ![4096, 64]⟩
abbrev S64 : Shape := ⟨1, ![64]⟩
abbrev S1x64 : Shape := ⟨2, ![1, 64]⟩
abbrev S_ : Shape := ⟨0, ![]⟩
abbrev S1x4096x1x64 : Shape := ⟨4, ![1, 4096, 1, 64]⟩
abbrev S2x4096x2x64 : Shape := ⟨4, ![2, 4096, 2, 64]⟩
abbrev S8192x128 : Shape := ⟨2, ![8192, 128]⟩
abbrev S4096x128 : Shape := ⟨2, ![4096, 128]⟩
abbrev S12288x128 : Shape := ⟨2, ![12288, 128]⟩
abbrev S12288x3072 : Shape := ⟨2, ![12288, 3072]⟩
abbrev S512x1024 : Shape := ⟨2, ![512, 1024]⟩
abbrev S1x8x1024 : Shape := ⟨3, ![1, 8, 1024]⟩
abbrev S1024x512 : Shape := ⟨2, ![1024, 512]⟩
abbrev S512x128 : Shape := ⟨2, ![512, 128]⟩
abbrev S512x512 : Shape := ⟨2, ![512, 512]⟩
abbrev S8x1024 : Shape := ⟨2, ![8, 1024]⟩
abbrev S512 : Shape := ⟨1, ![512]⟩
abbrev S512x1 : Shape := ⟨2, ![512, 1]⟩

abbrev nBuf : Space → Nat
  | .hbm => 40
  | .vmem => 16
  | .smem => 0
  | _ => 0

abbrev bufTy : (tb : Table) → Fin (tcTables nBuf tb) → BufTy
  | .hbm, ⟨0, _⟩ => ⟨S12288x1024, .f32⟩
  | .hbm, ⟨1, _⟩ => ⟨S3x8x1024, .f32⟩
  | .hbm, ⟨2, _⟩ => ⟨S1x1024, .f32⟩
  | .hbm, ⟨3, _⟩ => ⟨S1024x3072, .f32⟩
  | .hbm, ⟨4, _⟩ => ⟨S4096x64, .f32⟩
  | .hbm, ⟨5, _⟩ => ⟨S4096x64, .f32⟩
  | .hbm, ⟨6, _⟩ => ⟨S64, .i1⟩
  | .hbm, ⟨7, _⟩ => ⟨S1x64, .i1⟩
  | .hbm, ⟨8, _⟩ => ⟨S4096x64, .f32⟩
  | .hbm, ⟨9, _⟩ => ⟨S_, .f32⟩
  | .hbm, ⟨10, _⟩ => ⟨S_, .f32⟩
  | .hbm, ⟨11, _⟩ => ⟨S4096x64, .i1⟩
  | .hbm, ⟨12, _⟩ => ⟨S4096x64, .f32⟩
  | .hbm, ⟨13, _⟩ => ⟨S4096x64, .f32⟩
  | .hbm, ⟨14, _⟩ => ⟨S1x64, .i1⟩
  | .hbm, ⟨15, _⟩ => ⟨S_, .f32⟩
  | .hbm, ⟨16, _⟩ => ⟨S_, .f32⟩
  | .hbm, ⟨17, _⟩ => ⟨S4096x64, .i1⟩
  | .hbm, ⟨18, _⟩ => ⟨S4096x64, .f32⟩
  | .hbm, ⟨19, _⟩ => ⟨S4096x64, .f32⟩
  | .hbm, ⟨20, _⟩ => ⟨S1x4096x1x64, .f32⟩
  | .hbm, ⟨21, _⟩ => ⟨S2x4096x2x64, .f32⟩
  | .hbm, ⟨22, _⟩ => ⟨S8192x128, .f32⟩
  | .hbm, ⟨23, _⟩ => ⟨S_, .f32⟩
  | .hbm, ⟨24, _⟩ => ⟨S4096x128, .f32⟩
  | .hbm, ⟨25, _⟩ => ⟨S12288x128, .f32⟩
  | .hbm, ⟨26, _⟩ => ⟨S1x4096x1x64, .f32⟩
  | .hbm, ⟨27, _⟩ => ⟨S2x4096x2x64, .f32⟩
  | .hbm, ⟨28, _⟩ => ⟨S8192x128, .f32⟩
  | .hbm, ⟨29, _⟩ => ⟨S_, .f32⟩
  | .hbm, ⟨30, _⟩ => ⟨S4096x128, .f32⟩
  | .hbm, ⟨31, _⟩ => ⟨S12288x128, .f32⟩
  | .hbm, ⟨32, _⟩ => ⟨S1x4096x1x64, .f32⟩
  | .hbm, ⟨33, _⟩ => ⟨S2x4096x2x64, .f32⟩
  | .hbm, ⟨34, _⟩ => ⟨S8192x128, .f32⟩
  | .hbm, ⟨35, _⟩ => ⟨S_, .f32⟩
  | .hbm, ⟨36, _⟩ => ⟨S4096x128, .f32⟩
  | .hbm, ⟨37, _⟩ => ⟨S12288x128, .f32⟩
  | .hbm, ⟨38, _⟩ => ⟨S1024x3072, .bf16⟩
  | .hbm, ⟨39, _⟩ => ⟨S12288x3072, .f32⟩
  | .local _ .vmem, ⟨0, _⟩ => ⟨S512x1024, .f32⟩
  | .local _ .vmem, ⟨1, _⟩ => ⟨S512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x512, .bf16⟩
  | .local _ .vmem, ⟨6, _⟩ => ⟨S1024x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x512, .f32⟩
  | .local _ .vmem, ⟨14, _⟩ => ⟨S512x512, .f32⟩
  | .local _ .vmem, ⟨15, _⟩ => ⟨S512x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![24, 6], ![false, false]⟩

def k0_cond2 (i : grid0.Coords) : BitVec 1 :=
  let arg1 : BitVec 32 := BitVec.ofNat 32 (i 1).val
  let c4_i32 : BitVec 32 := 4#32
  let v7 : BitVec 1 := Scalar.cmpi .slt arg1 c4_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c4_i32_5 : BitVec 32 := 4#32
  let v10 : BitVec 1 := Scalar.cmpi .sge arg1 c4_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RopeReferenceIdeal.lean ====
abbrev S12288x1024 : Shape := ⟨2, ![12288, 1024]⟩
abbrev S3x8x1024 : Shape := ⟨3, ![3, 8, 1024]⟩
abbrev S1x1024 : Shape := ⟨2, ![1, 1024]⟩
abbrev S1024x3072 : Shape := ⟨2, ![1024, 3072]⟩
abbrev S4096x64 : Shape := ⟨2, ![4096, 64]⟩
abbrev S3x4096x1024 : Shape := ⟨3, ![3, 4096, 1024]⟩
abbrev S3x1x1024 : Shape := ⟨3, ![3, 1, 1024]⟩
abbrev S_ : Shape := ⟨0, ![]⟩
abbrev S3x4096 : Shape := ⟨2, ![3, 4096]⟩
abbrev S3x4096x1 : Shape := ⟨3, ![3, 4096, 1]⟩
abbrev S1x1x1024 : Shape := ⟨3, ![1, 1, 1024]⟩
abbrev S3x4096x3072 : Shape := ⟨3, ![3, 4096, 3072]⟩
abbrev S3x4096x8x2x64 : Shape := ⟨5, ![3, 4096, 8, 2, 64]⟩
abbrev S1x4096x8x2x64 : Shape := ⟨5, ![1, 4096, 8, 2, 64]⟩
abbrev S2x4096x8x2x64 : Shape := ⟨5, ![2, 4096, 8, 2, 64]⟩
abbrev S2x4096x8x2x16 : Shape := ⟨5, ![2, 4096, 8, 2, 16]⟩
abbrev S1x4096x1x1x64 : Shape := ⟨5, ![1, 4096, 1, 1, 64]⟩
abbrev S12288x3072 : Shape := ⟨2, ![12288, 3072]⟩

abbrev nBuf : Space → Nat
  | .hbm => 76
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S3x8x1024, .f32⟩
  | .hbm, ⟨2, _⟩ => ⟨S1x1024, .f32⟩
  | .hbm, ⟨3, _⟩ => ⟨S1024x3072, .f32⟩
  | .hbm, ⟨4, _⟩ => ⟨S4096x64, .f32⟩
  | .hbm, ⟨5, _⟩ => ⟨S4096x64, .f32⟩
  | .hbm, ⟨6, _⟩ => ⟨S3x4096x1024, .f32⟩
  | .hbm, ⟨7, _⟩ => ⟨S3x1x1024, .f32⟩
  | .hbm, ⟨8, _⟩ => ⟨S3x1x1024, .f32⟩
  | .hbm, ⟨9, _⟩ => ⟨S3x4096x1024, .f32⟩
  | .hbm, ⟨10, _⟩ => ⟨S_, .f32⟩
  | .hbm, ⟨11, _⟩ => ⟨S3x4096, .f32⟩
  | .hbm, ⟨12, _⟩ => ⟨S3x4096x1, .f32⟩
  | .hbm, ⟨13, _⟩ => ⟨S_, .f32⟩
  | .hbm, ⟨14, _⟩ => ⟨S3x4096x1, .f32⟩
  | .hbm, ⟨15, _⟩ => ⟨S3x4096x1, .f32⟩
  | .hbm, ⟨16, _⟩ => ⟨S_, .f32⟩
  | .hbm, ⟨17, _⟩ => ⟨S3x4096x1, .f32⟩
  | .hbm, ⟨18, _⟩ => ⟨S3x4096x1, .f32⟩
  | .hbm, ⟨19, _⟩ => ⟨S3x4096x1, .f32⟩
  | .hbm, ⟨20, _⟩ => ⟨S3x4096x1024, .f32⟩
  | .hbm, ⟨21, _⟩ => ⟨S3x4096x1024, .f32⟩
  | .hbm, ⟨22, _⟩ => ⟨S1x1x1024, .f32⟩
  | .hbm, ⟨23, _⟩ => ⟨S3x4096x1024, .f32⟩
  | .hbm, ⟨24, _⟩ => ⟨S3x4096x1024, .f32⟩
  | .hbm, ⟨25, _⟩ => ⟨S_, .f32⟩
  | .hbm, ⟨26, _⟩ => ⟨S3x1x1024, .f32⟩
  | .hbm, ⟨27, _⟩ => ⟨S3x1x1024, .f32⟩
  | .hbm, ⟨28, _⟩ => ⟨S3x4096x1024, .f32⟩
  | .hbm, ⟨29, _⟩ => ⟨S3x4096x1024, .f32⟩
  | .hbm, ⟨30, _⟩ => ⟨S3x4096x1024, .f32⟩
  | .hbm, ⟨31, _⟩ => ⟨S3x4096x1024, .f32⟩
  | .hbm, ⟨32, _⟩ => ⟨S3x4096x3072, .f32⟩
  | .hbm, ⟨33, _⟩ => ⟨S3x4096x1024, .f32⟩
  | .hbm, ⟨34, _⟩ => ⟨S3x4096x1024, .f32⟩
  | .hbm, ⟨35, _⟩ => ⟨S3x4096x1024, .f32⟩
  | .hbm, ⟨36, _⟩ => ⟨S3x4096x8x2x64, .f32⟩
  | .hbm, ⟨37, _⟩ => ⟨S3x4096x8x2x64, .f32⟩
  | .hbm, ⟨38, _⟩ => ⟨S1x4096x8x2x64, .f32⟩
  | .hbm, ⟨39, _⟩ => ⟨S2x4096x8x2x64, .f32⟩
  | .hbm, ⟨40, _⟩ => ⟨S2x4096x8x2x16, .f32⟩
  | .hbm, ⟨41, _⟩ => ⟨S2x4096x8x2x16, .f32⟩
  | .hbm, ⟨42, _⟩ => ⟨S2x4096x8x2x16, .f32⟩
  | .hbm, ⟨43, _⟩ => ⟨S2x4096x8x2x16, .f32⟩
  | .hbm, ⟨44, _⟩ => ⟨S2x4096x8x2x16, .f32⟩
  | .hbm, ⟨45, _⟩ => ⟨S2x4096x8x2x16, .f32⟩
  | .hbm, ⟨46, _⟩ => ⟨S2x4096x8x2x64, .f32⟩
  | .hbm, ⟨47, _⟩ => ⟨S1x4096x1x1x64, .f32⟩
  | .hbm, ⟨48, _⟩ => ⟨S2x4096x8x2x64, .f32⟩
  | .hbm, ⟨49, _⟩ => ⟨S2x4096x8x2x64, .f32⟩
  | .hbm, ⟨50, _⟩ => ⟨S1x4096x1x1x64, .f32⟩
  | .hbm, ⟨51, _⟩ => ⟨S2x4096x8x2x64, .f32⟩
  | .hbm, ⟨52, _⟩ => ⟨S2x4096x8x2x64, .f32⟩
  | .hbm, ⟨53, _⟩ => ⟨S2x4096x8x2x64, .f32⟩
  | .hbm, ⟨54, _⟩ => ⟨S3x4096x8x2x64, .f32⟩
  | .hbm, ⟨55, _⟩ => ⟨S1x4096x8x2x64, .f32⟩
  | .hbm, ⟨56, _⟩ => ⟨S2x4096x8x2x64, .f32⟩
  | .hbm, ⟨57, _⟩ => ⟨S2x4096x8x2x16, .f32⟩
  | .hbm, ⟨58, _⟩ => ⟨S2x4096x8x2x16, .f32⟩
  | .hbm, ⟨59, _⟩ => ⟨S2x4096x8x2x16, .f32⟩
  | .hbm, ⟨60, _⟩ => ⟨S2x4096x8x2x16, .f32⟩
  | .hbm, ⟨61, _⟩ => ⟨S2x4096x8x2x16, .f32⟩
  | .hbm, ⟨62, _⟩ => ⟨S2x4096x8x2x16, .f32⟩
  | .hbm, ⟨63, _⟩ => ⟨S2x4096x8x2x64, .f32⟩
  | .hbm, ⟨64, _⟩ => ⟨S1x4096x1x1x64, .f32⟩
  | .hbm, ⟨65, _⟩ => ⟨S2x4096x8x2x64, .f32⟩
  | .hbm, ⟨66, _⟩ => ⟨S2x4096x8x2x64, .f32⟩
  | .hbm, ⟨67, _⟩ => ⟨S1x4096x1x1x64, .f32⟩
  | .hbm, ⟨68, _⟩ => ⟨S2x4096x8x2x64, .f32⟩
  | .hbm, ⟨69, _⟩ => ⟨S2x4096x8x2x64, .f32⟩
  | .hbm, ⟨70, _⟩ => ⟨S2x4096x8x2x64, .f32⟩
  | .hbm, ⟨71, _⟩ => ⟨S3x4096x8x2x64, .f32⟩
  | .hbm, ⟨72, _⟩ => ⟨S12288x1024, .f32⟩
  | .hbm, ⟨73, _⟩ => ⟨S12288x1024, .f32⟩
  | .hbm, ⟨74, _⟩ => ⟨S12288x1024, .f32⟩
  | .hbm, ⟨75, _⟩ => ⟨S12288x3072, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩

abbrev nD : Nat := 1
abbrev τ : Topo := Topo.v7x

variable {F : FTy → Type} [FloatOps F]
-- ==== Proof.AttnV.Spec.lean ====
/- One row of the differential attention: the reference's form, the kernel's form, and their equality on finite data. -/
module

public import Idealize.ShloMosaic.Lib.Pointwise
public import Idealize.ShloMosaic.PureOps.Ideal.Laws

@[expose] public section

set_option maxRecDepth 16384

noncomputable section

namespace Cert.AttnV

open Idealize.ShloMosaic

/-- Lane `d` of map `μ`: each head's 128 lanes are two maps of 64. -/
def lane (μ : Fin 2) (d : Fin 64) : Fin 128 := ⟨μ.val * 64 + d.val, by omega⟩

/-- The score of key `j` under map `μ`. -/
def sc (q : Fin 128 → EReal) (k : Fin 4608 → Fin 128 → EReal) (μ : Fin 2) (j : Fin 4608) : EReal :=
  (∑ d, q (lane μ d) * k j (lane μ d)) * Ideal.ofBits FTy.f32 1040187392#32

/-- The greatest score. -/
def top (s : Fin 4608 → EReal) : EReal := Finset.fold max (Ideal.ofBits FTy.f32 4286578688#32) s Finset.univ

/-- The weight of key `j`, before the division by the sum of the weights. -/
def wt (s : Fin 4608 → EReal) (j : Fin 4608) : EReal := Ideal.exp (s j - top s)

/-- The reference's row: the values under the difference of the two softmaxes. -/
def refOut (q : Fin 128 → EReal) (k v : Fin 4608 → Fin 128 → EReal) (lam : EReal) (e : Fin 128) : EReal :=
  ∑ j, v j e * (Ideal.div (wt (sc q k 0) j) (∑ x, wt (sc q k 0) x)
    - lam * Ideal.div (wt (sc q k 1) j) (∑ x, wt (sc q k 1) x))

/-- The kernel's score of key `j` under the first map: the second half's lanes of the query are zeroed. -/
def ks0 (q : Fin 128 → EReal) (k : Fin 4608 → Fin 128 → EReal) (j : Fin 4608) : EReal :=
  ∑ x : Fin 128, Scalar.select (IntOp.cmpi CmpIPredicate.slt (BitVec.ofNat 32 x.val) 64#32)
    (q x * Ideal.ofBits FTy.f32 1040187392#32 * k j x) 0

/-- The kernel's score of key `j` under the second map: the first half's lanes of the query are zeroed. -/
def ks1 (q : Fin 128 → EReal) (k : Fin 4608 → Fin 128 → EReal) (j : Fin 4608) : EReal :=
  ∑ x : Fin 128, Scalar.select (IntOp.cmpi CmpIPredicate.slt (BitVec.ofNat 32 x.val) 64#32)
    0 (q x * Ideal.ofBits FTy.f32 1040187392#32 * k j x)

/-- The kernel's average under scores `s`: the weighted values over the weighted ones. -/
def avg (s : Fin 4608 → EReal) (v : Fin 4608 → Fin 128 → EReal) (e : Fin 128) : EReal :=
  Ideal.div (∑ x, wt s x * v x e) (∑ x, wt s x * 1)

/-- The kernel's row. -/
def kerOut (q : Fin 128 → EReal) (k v : Fin 4608 → Fin 128 → EReal) (lam : EReal) (e : Fin 128) : EReal :=
  avg (ks0 q k) v e - lam * avg (ks1 q k) v e

/-- The norm, gain and constant scale of a row. -/
def fin (o g : Fin 128 → EReal) (e : Fin 128) : EReal :=
  o e * Ideal.rsqrt (Ideal.div (∑ x, o x * o x) (Ideal.ofBits FTy.f32 1124073472#32) + Ideal.ofBits FTy.f32 897988541#32)
    * g e * Ideal.ofBits FTy.f32 1057455962#32

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale constant is an eighth. -/
theorem eighth : Ideal.ofBits FTy.f32 1040187392#32 = ((1 / 8 : ℝ) : EReal) := by
  simp [Ideal.ofBits, Ideal.ieee, -EReal.coe_mul]; norm_num

/-- The start of the maximum is `⊥`. -/
theorem ninf : Ideal.ofBits FTy.f32 4286578688#32 = (⊥ : EReal) := by
  simp [Ideal.ofBits, Ideal.ieee]

/-- The greatest of real scores is a real. -/
theorem top_real (S : Fin 4608 → ℝ) : ∃ T : ℝ, top (fun j => (S j : EReal)) = (T : EReal) := by
  have h : ∀ s : Finset (Fin 4608), Finset.fold max (⊥ : EReal) (fun j => (S j : EReal)) s = ⊥ ∧ s = ∅
      ∨ ∃ T : ℝ, Finset.fold max (⊥ : EReal) (fun j => (S j : EReal)) s = (T : EReal) := by
    intro s
    induction s using Finset.induction_on with
    | empty => exact .inl ⟨rfl, rfl⟩
    | insert a s ha ih =>
      refine .inr ?_
      rw [Finset.fold_insert ha]
      rcases ih with ⟨e, -⟩ | ⟨T, e⟩
      · exact ⟨S a, by rw [e]; exact max_eq_left bot_le⟩
      · exact ⟨max (S a) T, by rw [e]; exact (EReal.coe_strictMono.monotone.map_max).symm⟩
  unfold top
  rw [ninf]
  rcases h Finset.univ with ⟨-, e⟩ | h
  · exact absurd e (Finset.univ_nonempty (α := Fin 4608)).ne_empty
  · exact h

/-- The weights of real scores are positive reals. -/
theorem wt_real (S : Fin 4608 → ℝ) : ∃ P : Fin 4608 → ℝ, (∀ j, 0 < P j) ∧ ∀ j, wt (fun j => (S j : EReal)) j = (P j : EReal) := by
  obtain ⟨T, hT⟩ := top_real S
  refine ⟨fun j => Real.exp (S j - T), fun j => Real.exp_pos _, fun j => ?_⟩
  unfold wt
  rw [hT, ← EReal.coe_sub]
  rfl

/-- The division of reals. -/
theorem div_real (x y : ℝ) (h : y ≠ 0) : Ideal.div (x : EReal) (y : EReal) = ((x / y : ℝ) : EReal) := by
  rw [Ideal.div_coe h, ← EReal.coe_mul, mul_one_div]

/-- A sum over the 128 lanes, half by half. -/
theorem sum_lanes (f : Fin 128 → EReal) : ∑ x, f x = ∑ d, f (lane 0 d) + ∑ d, f (lane 1 d) := by
  rw [Fin.sum_univ_two_halves 64 64 rfl]
  refine congrArg₂ (· + ·) (Finset.sum_congr rfl fun d _ => congrArg f (Fin.ext ?_)) (Finset.sum_congr rfl fun d _ => congrArg f (Fin.ext ?_))
  · show d.val = 0 * 64 + d.val; omega
  · show 64 + d.val = 1 * 64 + d.val; omega

/-- The first half's lanes are below 64. -/
theorem low_lane : ∀ d : Fin 64, IntOp.cmpi CmpIPredicate.slt (BitVec.ofNat 32 (lane 0 d).val) 64#32 = 1#1 := by decide +kernel

/-- The second half's are not. -/
theorem high_lane : ∀ d : Fin 64, IntOp.cmpi CmpIPredicate.slt (BitVec.ofNat 32 (lane 1 d).val) 64#32 = 0#1 := by decide +kernel

/-- A choice on the bit one. -/
theorem sel_one (a b : EReal) : Scalar.select 1#1 a b = a := rfl

/-- A choice on the bit zero. -/
theorem sel_zero (a b : EReal) : Scalar.select 0#1 a b = b := rfl

/-- The two forms of a score agree on real queries and keys, and are real. -/
theorem score_real (q : Fin 128 → ℝ) (k : Fin 4608 → Fin 128 → ℝ) (μ : Fin 2) (j : Fin 4608) :
    sc (fun l => (q l : EReal)) (fun j l => (k j l : EReal)) μ j = (((∑ d, q (lane μ d) * k j (lane μ d)) * (1 / 8) : ℝ) : EReal) := by
  unfold sc
  rw [eighth, EReal.coe_mul, coe_sum]
  simp only [EReal.coe_mul]

/-- The kernel's first score is the reference's. -/
theorem ks0_eq (q : Fin 128 → ℝ) (k : Fin 4608 → Fin 128 → ℝ) :
    ks0 (fun l => (q l : EReal)) (fun j l => (k j l : EReal)) = sc (fun l => (q l : EReal)) (fun j l => (k j l : EReal)) 0 := by
  funext j
  rw [score_real]
  unfold ks0
  rw [sum_lanes]
  simp only [low_lane, high_lane, sel_one, sel_zero, eighth]
  simp only [← EReal.coe_mul, ← coe_sum, Finset.sum_const_zero, add_zero]
  rw [EReal.coe_eq_coe_iff, Finset.sum_mul]
  exact Finset.sum_congr rfl fun d _ => by ring

/-- The kernel's second score is the reference's. -/
theorem ks1_eq (q : Fin 128 → ℝ) (k : Fin 4608 → Fin 128 → ℝ) :
    ks1 (fun l => (q l : EReal)) (fun j l => (k j l : EReal)) = sc (fun l => (q l : EReal)) (fun j l => (k j l : EReal)) 1 := by
  funext j
  rw [score_real]
  unfold ks1
  rw [sum_lanes]
  simp only [low_lane, high_lane, sel_one, sel_zero, eighth]
  simp only [← EReal.coe_mul, ← coe_sum, Finset.sum_const_zero, zero_add]
  rw [EReal.coe_eq_coe_iff, Finset.sum_mul]
  exact Finset.sum_congr rfl fun d _ => by ring

/-- The kernel's row is the reference's, on finite queries, keys, values and mixing weight. -/
theorem kerOut_eq (q : Fin 128 → EReal) (k v : Fin 4608 → Fin 128 → EReal) (lam : EReal)
    (hq : ∀ l, ∃ r : ℝ, q l = r) (hk : ∀ j l, ∃ r : ℝ, k j l = r) (hv : ∀ j l, ∃ r : ℝ, v j l = r) (hl : ∃ r : ℝ, lam = r)
    (e : Fin 128) : kerOut q k v lam e = refOut q k v lam e := by
  choose Q hQ using hq
  choose K hK using hk
  choose W hW using hv
  obtain ⟨Λ, rfl⟩ := hl
  obtain rfl : q = fun l => (Q l : EReal) := funext hQ
  obtain rfl : k = fun j l => (K j l : EReal) := funext fun j => funext (hK j)
  obtain rfl : v = fun j l => (W j l : EReal) := funext fun j => funext (hW j)
  unfold kerOut refOut
  rw [ks0_eq, ks1_eq]
  have h0 : sc (fun l => (Q l : EReal)) (fun j l => (K j l : EReal)) 0 = fun j => _ := funext (score_real Q K 0)
  have h1 : sc (fun l => (Q l : EReal)) (fun j l => (K j l : EReal)) 1 = fun j => _ := funext (score_real Q K 1)
  rw [h0, h1]
  obtain ⟨P0, p0, e0⟩ := wt_real fun j => (∑ d, Q (lane 0 d) * K j (lane 0 d)) * (1 / 8)
  obtain ⟨P1, p1, e1⟩ := wt_real fun j => (∑ d, Q (lane 1 d) * K j (lane 1 d)) * (1 / 8)
  unfold avg
  simp only [e0, e1, mul_one, ← EReal.coe_mul, ← coe_sum]
  have l0 : (∑ x, P0 x) ≠ 0 := (Finset.sum_pos (fun j _ => p0 j) Finset.univ_nonempty).ne'
  have l1 : (∑ x, P1 x) ≠ 0 := (Finset.sum_pos (fun j _ => p1 j) Finset.univ_nonempty).ne'
  simp only [div_real _ _ l0, div_real _ _ l1, ← EReal.coe_mul, ← EReal.coe_sub, ← coe_sum]
  rw [EReal.coe_eq_coe_iff, Finset.sum_div, Finset.sum_div, Finset.mul_sum, ← Finset.sum_sub_distrib]
  exact Finset.sum_congr rfl fun j _ => by ring

/-- The arguments of the call, read by batch, head, position and lane. -/
structure Args where
  /-- The queries. -/
  q : Fin 2 → Fin 8 → Fin 4096 → Fin 128 → EReal
  /-- The keys: the segment's own, then the cached ones. -/
  k : Fin 2 → Fin 8 → Fin 4608 → Fin 128 → EReal
  /-- The values: the segment's own, then the cached ones. -/
  v : Fin 2 → Fin 8 → Fin 4608 → Fin 128 → EReal
  /-- The mixing weight of the second map. -/
  lam : EReal
  /-- The gain of the norm. -/
  g : Fin 128 → EReal

/-- The mixing weight of the four vectors that give it. -/
def lamOf (x y z w : Fin 64 → EReal) : EReal :=
  Ideal.exp (∑ a, x a * y a) - Ideal.exp (∑ a, z a * w a) + Ideal.ofBits FTy.f32 1055981900#32

/-- The result at row `i` of batch `b`, lane `e` of head `h`. -/
def Args.res (A : Args) (b : Fin 2) (h : Fin 8) (i : Fin 4096) (e : Fin 128) : EReal :=
  fin (refOut (A.q b h i) (A.k b h) (A.v b h) A.lam) A.g e

/-- The kernel's form of the result. -/
def Args.kres (A : Args) (b : Fin 2) (h : Fin 8) (i : Fin 4096) (e : Fin 128) : EReal :=
  fin (kerOut (A.q b h i) (A.k b h) (A.v b h) A.lam) A.g e

/-- The arguments the two forms must find real. -/
structure Args.Real (A : Args) : Prop where
  /-- The queries are. -/
  q : ∀ b h i l, ∃ r : ℝ, A.q b h i l = r
  /-- The keys are. -/
  k : ∀ b h j l, ∃ r : ℝ, A.k b h j l = r
  /-- The values are. -/
  v : ∀ b h j l, ∃ r : ℝ, A.v b h j l = r
  /-- The mixing weight is. -/
  lam : ∃ r : ℝ, A.lam = r

/-- The two forms of the result agree on real arguments. -/
theorem Args.kres_eq (A : Args) (hA : A.Real) (b : Fin 2) (h : Fin 8) (i : Fin 4096) (e : Fin 128) : A.kres b h i e = A.res b h i e := by
  unfold Args.kres Args.res
  rw [show kerOut (A.q b h i) (A.k b h) (A.v b h) A.lam = refOut (A.q b h i) (A.k b h) (A.v b h) A.lam from
    funext (kerOut_eq _ _ _ _ (hA.q b h i) (hA.k b h) (hA.v b h) hA.lam)]

end Cert.AttnV
-- ==== Proof.AttnV.Block.lean ====
/- What the attention kernel leaves in its result array: at every row and head, the kernel's form of `Spec.lean`. -/
module

public import proofs.«01_k».proof.Proof.AttnV.Spec
public import proofs.«01_k».proof.Proof.Gen.KernelIdeal.Value
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.AttnV

open Cert.KernelIdeal Cert.KernelIdeal.Gen Idealize.ShloMosaic Idealize.ShloMosaic.TcCoe Idealize.SL.Sem

variable (m : (ℓ : Loc nD τ sig) → Buf (Elt Ideal) ℓ) (c : Dev nD)

/-- The argument arrays, read by their coordinates. -/
def kargs : Args where
  q b h i l := m (c.tc.loc main_arg0) (ix2 ⟨4096 + (b.val * 4096 + i.val), by omega⟩ ⟨h.val * 128 + l.val, by omega⟩)
  k b h j l := if hj : j.val < 4096 then m (c.tc.loc main_arg0) (ix2 ⟨4096 + (b.val * 4096 + j.val), by omega⟩ ⟨1024 + (h.val * 128 + l.val), by omega⟩)
    else m (c.tc.loc main_arg1) (ix5 b ⟨j.val - 4096, by omega⟩ h ⟨l.val / 64, by omega⟩ ⟨l.val % 64, by omega⟩)
  v b h j l := if hj : j.val < 4096 then m (c.tc.loc main_arg0) (ix2 ⟨4096 + (b.val * 4096 + j.val), by omega⟩ ⟨2048 + (h.val * 128 + l.val), by omega⟩)
    else m (c.tc.loc main_arg2) (ix4 b ⟨j.val - 4096, by omega⟩ h l)
  lam := lamOf (fun x => m (c.tc.loc main_arg3) (ix1 x)) (fun x => m (c.tc.loc main_arg4) (ix1 x)) (fun x => m (c.tc.loc main_arg5) (ix1 x))
    (fun x => m (c.tc.loc main_arg6) (ix1 x))
  g e := m (c.tc.loc main_arg7) (ix1 e)

/-- The cached keys that the region reads, a head's two maps side by side. -/
theorem v10 (b : Fin 2) (a : Fin 512) (e : Fin 1024) : (V m c main_v10 : Vec Ideal S2x512x1024 .f32) (ix3 b a e)
    = m (c.tc.loc main_arg1) (ix5 b a ⟨e.val / 128, by omega⟩ ⟨e.val / 64 % 2, by omega⟩ ⟨e.val % 64, by omega⟩) := by
  unfold V
  after_reads_at

/-- The cached values that the region reads. -/
theorem v11 (b : Fin 2) (a : Fin 512) (e : Fin 1024) : (V m c main_v11 : Vec Ideal S2x512x1024 .f32) (ix3 b a e)
    = m (c.tc.loc main_arg2) (ix4 b a ⟨e.val / 128, by omega⟩ ⟨e.val % 128, by omega⟩) := by
  unfold V
  after_reads_at

/-- The gain that the region reads. -/
theorem v9 (e : Fin 128) : (V m c main_v9 : Vec Ideal S1x128 .f32) (ix2 0 e) = (kargs m c).g e := by
  unfold V kargs
  after_reads_at

/-- The mixing weight that the region reads, on every lane. -/
theorem v8 (e : Fin 128) : (V m c main_v8 : Vec Ideal S1x128 .f32) (ix2 0 e) = (kargs m c).lam := by
  unfold V
  after_reads_at
  rfl

/-- The printed index maps, decided over the grid: the block of each window at a point. -/
theorem idx_all : ∀ t : Fin cfg0.N, win0_0.index t (0 : Fin 2) = 16 + t.val / 128 * 16 + t.val % 16 ∧ win0_0.index t (1 : Fin 2) = t.val / 16 % 8
    ∧ win0_1.index t (0 : Fin 2) = 1 + t.val / 128 ∧ win0_1.index t (1 : Fin 2) = 8 + t.val / 16 % 8
    ∧ win0_2.index t (0 : Fin 2) = 1 + t.val / 128 ∧ win0_2.index t (1 : Fin 2) = 16 + t.val / 16 % 8
    ∧ win0_3.index t (0 : Fin 3) = t.val / 128 ∧ win0_3.index t (1 : Fin 3) = 0 ∧ win0_3.index t (2 : Fin 3) = t.val / 16 % 8
    ∧ win0_4.index t (0 : Fin 3) = t.val / 128 ∧ win0_4.index t (1 : Fin 3) = 0 ∧ win0_4.index t (2 : Fin 3) = t.val / 16 % 8
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 128 * 16 + t.val % 16 ∧ win0_7.index t (1 : Fin 2) = t.val / 16 % 8 :=
  (by decide +kernel : ∀ t : Fin grid0.N, _)

/-- The point of batch `b`, head `h` and row block `i`. -/
def pt (b : Fin 2) (h : Fin 8) (i : Fin 16) : Fin cfg0.N := ⟨(b.val * 8 + h.val) * 16 + i.val, lt_of_lt_of_eq (by omega) N_0.symm⟩

/-- The row at place `a` of row block `i`. -/
def row (i : Fin 16) (a : Fin 256) : Fin 4096 := ⟨i.val * 256 + a.val, by omega⟩

variable (b : Fin 2) (h : Fin 8) (i : Fin 16)

/-- The coordinates of a point. -/
theorem pt_coords : (pt b h i).val / 128 = b.val ∧ (pt b h i).val / 16 % 8 = h.val ∧ (pt b h i).val % 16 = i.val := by
  refine ⟨?_, ?_, ?_⟩
  · show ((b.val * 8 + h.val) * 16 + i.val) / 128 = b.val; omega
  · show ((b.val * 8 + h.val) * 16 + i.val) / 16 % 8 = h.val; omega
  · show ((b.val * 8 + h.val) * 16 + i.val) % 16 = i.val; omega

/-- The block of queries. -/
theorem blk0 (a : Fin 256) (e : Fin 128) :
    (iblk m c 0 (pt b h i) : Vec Ideal S256x128 .f32) (ix2 a e) = (kargs m c).q b h (row i a) e := by
  obtain ⟨e0, e1, -⟩ := idx_all (pt b h i)
  obtain ⟨p0, p1, p2⟩ := pt_coords b h i
  unfold kargs row
  dsimp only
  blk_ext [iblk, V]
  all_goals omega

/-- The block of the segment's keys. -/
theorem blk1 (a : Fin 4096) (e : Fin 128) :
    (iblk m c 1 (pt b h i) : Vec Ideal S4096x128 .f32) (ix2 a e)
      = m (c.tc.loc main_arg0) (ix2 ⟨4096 + (b.val * 4096 + a.val), by omega⟩ ⟨1024 + (h.val * 128 + e.val), by omega⟩) := by
  obtain ⟨-, -, e0, e1, -⟩ := idx_all (pt b h i)
  obtain ⟨p0, p1, p2⟩ := pt_coords b h i
  blk_ext [iblk, V]
  all_goals omega

/-- The block of the segment's values. -/
theorem blk2 (a : Fin 4096) (e : Fin 128) :
    (iblk m c 2 (pt b h i) : Vec Ideal S4096x128 .f32) (ix2 a e)
      = m (c.tc.loc main_arg0) (ix2 ⟨4096 + (b.val * 4096 + a.val), by omega⟩ ⟨2048 + (h.val * 128 + e.val), by omega⟩) := by
  obtain ⟨-, -, -, -, e0, e1, -⟩ := idx_all (pt b h i)
  obtain ⟨p0, p1, p2⟩ := pt_coords b h i
  blk_ext [iblk, V]
  all_goals omega

/-- The block of the cached keys. -/
theorem blk3 (a : Fin 512) (e : Fin 128) :
    (iblk m c 3 (pt b h i) : Vec Ideal S1x512x128 .f32) (ix3 0 a e)
      = m (c.tc.loc main_arg1) (ix5 b a h ⟨e.val / 64, by omega⟩ ⟨e.val % 64, by omega⟩) := by
  obtain ⟨-, -, -, -, -, -, e0, e1, e2, -⟩ := idx_all (pt b h i)
  obtain ⟨p0, p1, p2⟩ := pt_coords b h i
  have w := v10 m c b a ⟨h.val * 128 + e.val, by omega⟩
  have f0 : (⟨(h.val * 128 + e.val) / 128, by omega⟩ : Fin 8) = h := Fin.ext (by show (h.val * 128 + e.val) / 128 = h.val; omega)
  have f1 : (⟨(h.val * 128 + e.val) / 64 % 2, by omega⟩ : Fin 2) = ⟨e.val / 64, by omega⟩ := Fin.ext (by show (h.val * 128 + e.val) / 64 % 2 = e.val / 64; omega)
  have f2 : (⟨(h.val * 128 + e.val) % 64, by omega⟩ : Fin 64) = ⟨e.val % 64, by omega⟩ := Fin.ext (by show (h.val * 128 + e.val) % 64 = e.val % 64; omega)
  dsimp only at w
  rw [f0, f1, f2] at w
  refine Eq.trans ?_ w
  blk_ext [iblk]
  all_goals omega

/-- The block of the cached values. -/
theorem blk4 (a : Fin 512) (e : Fin 128) :
    (iblk m c 4 (pt b h i) : Vec Ideal S1x512x128 .f32) (ix3 0 a e) = m (c.tc.loc main_arg2) (ix4 b a h e) := by
  obtain ⟨-, -, -, -, -, -, -, -, -, e0, e1, e2, -⟩ := idx_all (pt b h i)
  obtain ⟨p0, p1, p2⟩ := pt_coords b h i
  have w := v11 m c b a ⟨h.val * 128 + e.val, by omega⟩
  have f0 : (⟨(h.val * 128 + e.val) / 128, by omega⟩ : Fin 8) = h := Fin.ext (by show (h.val * 128 + e.val) / 128 = h.val; omega)
  have f1 : (⟨(h.val * 128 + e.val) % 128, by omega⟩ : Fin 128) = e := Fin.ext (by show (h.val * 128 + e.val) % 128 = e.val; omega)
  dsimp only at w
  rw [f0, f1] at w
  refine Eq.trans ?_ w
  blk_ext [iblk]
  all_goals omega

/-- The block of the mixing weight. -/
theorem blk5 (e : Fin 128) : (iblk m c 5 (pt b h i) : Vec Ideal S1x128 .f32) (ix2 0 e) = (kargs m c).lam := by
  obtain ⟨-, -, -, -, -, -, -, -, -, -, -, -, e0, e1, -⟩ := idx_all (pt b h i)
  refine Eq.trans ?_ (v8 m c e)
  blk_ext [iblk]
  all_goals omega

/-- The block of the gain. -/
theorem blk6 (e : Fin 128) : (iblk m c 6 (pt b h i) : Vec Ideal S1x128 .f32) (ix2 0 e) = (kargs m c).g e := by
  obtain ⟨-, -, -, -, -, -, -, -, -, -, -, -, -, -, e0, e1, -⟩ := idx_all (pt b h i)
  refine Eq.trans ?_ (v9 m c e)
  blk_ext [iblk]
  all_goals omega

/-- The narrowed block of the segment's keys. -/
theorem pay2_apply (O : Vec Ideal S4096x128 .f32) (a : Fin 4096) (e : Fin 128) : k0_pay2 O (ix2 a e) = O (ix2 a e) := by
  pointwise [k0_pay2]

/-- The narrowed block of the segment's values. -/
theorem pay3_apply (O : Vec Ideal S4096x128 .f32) (a : Fin 4096) (e : Fin 128) : k0_pay3 O (ix2 a e) = O (ix2 a e) := by
  pointwise [k0_pay3]

/-- The narrowed block of the cached keys. -/
theorem pay4_apply (O : Vec Ideal S1x512x128 .f32) (a : Fin 512) (e : Fin 128) : k0_pay4 O (ix2 a e) = O (ix3 0 a e) := by
  pointwise [k0_pay4]

/-- The narrowed block of the cached values. -/
theorem pay5_apply (O : Vec Ideal S1x512x128 .f32) (a : Fin 512) (e : Fin 128) : k0_pay5 O (ix2 a e) = O (ix3 0 a e) := by
  pointwise [k0_pay5]

/-- The ones beside the values. -/
theorem pay6_apply (a : Fin 4608) (e : Fin 128) : k0_pay6 (F := Ideal) (ix2 a e) = 1 := by
  pointwise [k0_pay6]

/-- The keys of a batch and head, as the scratch holds them. -/
def keys : S4608x128.Idx → Elt Ideal .bf16 := fun y => (kargs m c).k b h (y 0) (y 1)

/-- The values of a batch and head beside lanes of ones, as the scratch holds them. -/
def vals : S4608x256.Idx → Elt Ideal .bf16 := fun y => if hy : (y 1).val < 128 then (kargs m c).v b h (y 0) ⟨(y 1).val, hy⟩ else (1 : EReal)

/-- The stored block of the segment's keys, at its place. -/
theorem keys_low (a : Fin 4096) (e : Fin 128) (y : S4608x128.Idx) (h0 : (y 0).val = a.val) (h1 : (y 1).val = e.val) :
    k0_pay2 (iblk m c 1 (pt b h i)) (ix2 a e) = keys m c b h y := by
  have hy : y = ix2 ⟨a.val, by omega⟩ e := by funext d; match d with | ⟨0, _⟩ => exact Fin.ext h0 | ⟨1, _⟩ => exact Fin.ext h1
  rw [hy]
  refine (pay2_apply _ _ _).trans ((blk1 m c b h i _ _).trans ?_)
  have p : a.val < 4096 := a.isLt
  refine Eq.trans ?_ (dif_pos p).symm
  rfl

/-- The stored block of the cached keys, at its place. -/
theorem keys_high (a : Fin 512) (e : Fin 128) (y : S4608x128.Idx) (h0 : (y 0).val = 4096 + a.val) (h1 : (y 1).val = e.val) :
    k0_pay4 (iblk m c 3 (pt b h i)) (ix2 a e) = keys m c b h y := by
  have hy : y = ix2 ⟨4096 + a.val, by omega⟩ e := by funext d; match d with | ⟨0, _⟩ => exact Fin.ext h0 | ⟨1, _⟩ => exact Fin.ext h1
  rw [hy]
  refine (pay4_apply _ _ _).trans ((blk3 m c b h i _ _).trans ?_)
  have n : ¬ (4096 + a.val < 4096) := by omega
  refine Eq.trans ?_ (dif_neg n).symm
  have f : (⟨4096 + a.val - 4096, by omega⟩ : Fin 512) = a := Fin.ext (by show 4096 + a.val - 4096 = a.val; omega)
  exact congrArg (fun z => m (c.tc.loc main_arg1) (ix5 b z h ⟨e.val / 64, by omega⟩ ⟨e.val % 64, by omega⟩)) f.symm

/-- The stored block of the segment's values, at its place. -/
theorem vals_low (a : Fin 4096) (e : Fin 128) (y : S4608x256.Idx) (h0 : (y 0).val = a.val) (h1 : (y 1).val = e.val) :
    k0_pay3 (iblk m c 2 (pt b h i)) (ix2 a e) = vals m c b h y := by
  have hy : y = ix2 ⟨a.val, by omega⟩ ⟨e.val, by omega⟩ := by funext d; match d with | ⟨0, _⟩ => exact Fin.ext h0 | ⟨1, _⟩ => exact Fin.ext h1
  rw [hy]
  refine (pay3_apply _ _ _).trans ((blk2 m c b h i _ _).trans ?_)
  refine Eq.trans ?_ (dif_pos (show e.val < 128 from e.isLt)).symm
  have p : a.val < 4096 := a.isLt
  refine Eq.trans ?_ (dif_pos p).symm
  rfl

/-- The stored block of the cached values, at its place. -/
theorem vals_high (a : Fin 512) (e : Fin 128) (y : S4608x256.Idx) (h0 : (y 0).val = 4096 + a.val) (h1 : (y 1).val = e.val) :
    k0_pay5 (iblk m c 4 (pt b h i)) (ix2 a e) = vals m c b h y := by
  have hy : y = ix2 ⟨4096 + a.val, by omega⟩ ⟨e.val, by omega⟩ := by funext d; match d with | ⟨0, _⟩ => exact Fin.ext h0 | ⟨1, _⟩ => exact Fin.ext h1
  rw [hy]
  refine (pay5_apply _ _ _).trans ((blk4 m c b h i _ _).trans ?_)
  refine Eq.trans ?_ (dif_pos (show e.val < 128 from e.isLt)).symm
  have n : ¬ (4096 + a.val < 4096) := by omega
  refine Eq.trans ?_ (dif_neg n).symm
  have f : (⟨4096 + a.val - 4096, by omega⟩ : Fin 512) = a := Fin.ext (by show 4096 + a.val - 4096 = a.val; omega)
  exact congrArg (fun z => m (c.tc.loc main_arg2) (ix4 b z h e)) f.symm

/-- The stored ones, at their place. -/
theorem vals_ones (a : Fin 4608) (e : Fin 128) (y : S4608x256.Idx) (h1 : (y 1).val = 128 + e.val) :
    k0_pay6 (F := Ideal) (ix2 a e) = vals m c b h y := by
  refine (pay6_apply _ _).trans ?_
  have n : ¬ (y 1).val < 128 := by omega
  unfold vals
  rw [dif_neg n]

/-- An index of a rank-two shape is its two coordinates. -/
theorem ix2_eta {n k : ℕ} (x : Shape.Idx ⟨2, ![n, k]⟩) : x = ix2 (x 0) (x 1) := by
  funext a; match a with | ⟨0, _⟩ => rfl | ⟨1, _⟩ => rfl

/-- The stores of a head's first point leave the keys. -/
theorem keys_canon (y : S4608x128.Idx) :
    View.canon (Val := Elt Ideal) (e := .bf16) [⟨Rect.unit ![4096, 0] ![512, 128] inb_S4608x128_S512x128_4096_0, k0_pay4 (iblk m c 3 (pt b h i))⟩,
        ⟨Rect.unit ![0, 0] ![4096, 128] inb_S4608x128_S4096x128_0_0, k0_pay2 (iblk m c 1 (pt b h i))⟩] y = keys m c b h y := by
  refine View.canon_apply_of_pieces (keys m c b h) _ (View.PiecesOf.mem ?_) y ?_
  on_goal 1 => refine ⟨fun x => ?_, fun x => ?_, trivial⟩
  · refine (congrArg _ (ix2_eta x)).trans (keys_high m c b h i (x 0) (x 1) _ ?_ ?_)
    · show 4096 + 1 * (x 0).val = 4096 + (x 0).val; omega
    · show 0 + 1 * (x 1).val = (x 1).val; omega
  · refine (congrArg _ (ix2_eta x)).trans (keys_low m c b h i (x 0) (x 1) _ ?_ ?_)
    · show 0 + 1 * (x 0).val = (x 0).val; omega
    · show 0 + 1 * (x 1).val = (x 1).val; omega
  · have l0 : (y 0).val < 4608 := (y 0).isLt
    have l1 : (y 1).val < 128 := (y 1).isLt
    by_cases hy : (y 0).val < 4096
    · refine ⟨_, List.mem_cons_of_mem _ List.mem_cons_self, ?_⟩
      rw [Rect.mem_set_unit]
      intro a
      match a with
      | ⟨0, _⟩ => show 0 ≤ (y 0).val ∧ (y 0).val < 0 + 4096; omega
      | ⟨1, _⟩ => show 0 ≤ (y 1).val ∧ (y 1).val < 0 + 128; omega
    · refine ⟨_, List.mem_cons_self, ?_⟩
      rw [Rect.mem_set_unit]
      intro a
      match a with
      | ⟨0, _⟩ => show 4096 ≤ (y 0).val ∧ (y 0).val < 4096 + 512; omega
      | ⟨1, _⟩ => show 0 ≤ (y 1).val ∧ (y 1).val < 0 + 128; omega

/-- The stores of a head's first point leave the values and the ones. -/
theorem vals_canon (y : S4608x256.Idx) :
    View.canon (Val := Elt Ideal) (e := .bf16) [⟨Rect.unit ![0, 128] ![4608, 128] inb_S4608x256_S4608x128_0_128, k0_pay6 (F := Ideal)⟩,
        ⟨Rect.unit ![4096, 0] ![512, 128] inb_S4608x256_S512x128_4096_0, k0_pay5 (iblk m c 4 (pt b h i))⟩,
        ⟨Rect.unit ![0, 0] ![4096, 128] inb_S4608x256_S4096x128_0_0, k0_pay3 (iblk m c 2 (pt b h i))⟩] y = vals m c b h y := by
  refine View.canon_apply_of_pieces (vals m c b h) _ (View.PiecesOf.mem ?_) y ?_
  on_goal 1 => refine ⟨fun x => ?_, fun x => ?_, fun x => ?_, trivial⟩
  · refine (congrArg _ (ix2_eta x)).trans (vals_ones m c b h (x 0) (x 1) _ ?_)
    show 128 + 1 * (x 1).val = 128 + (x 1).val; omega
  · refine (congrArg _ (ix2_eta x)).trans (vals_high m c b h i (x 0) (x 1) _ ?_ ?_)
    · show 4096 + 1 * (x 0).val = 4096 + (x 0).val; omega
    · show 0 + 1 * (x 1).val = (x 1).val; omega
  · refine (congrArg _ (ix2_eta x)).trans (vals_low m c b h i (x 0) (x 1) _ ?_ ?_)
    · show 0 + 1 * (x 0).val = (x 0).val; omega
    · show 0 + 1 * (x 1).val = (x 1).val; omega
  · have l0 : (y 0).val < 4608 := (y 0).isLt
    have l1 : (y 1).val < 256 := (y 1).isLt
    by_cases hz : (y 1).val < 128
    · by_cases hy : (y 0).val < 4096
      · refine ⟨_, List.mem_cons_of_mem _ (List.mem_cons_of_mem _ List.mem_cons_self), ?_⟩
        rw [Rect.mem_set_unit]
        intro a
        match a with
        | ⟨0, _⟩ => show 0 ≤ (y 0).val ∧ (y 0).val < 0 + 4096; omega
        | ⟨1, _⟩ => show 0 ≤ (y 1).val ∧ (y 1).val < 0 + 128; omega
      · refine ⟨_, List.mem_cons_of_mem _ List.mem_cons_self, ?_⟩
        rw [Rect.mem_set_unit]
        intro a
        match a with
        | ⟨0, _⟩ => show 4096 ≤ (y 0).val ∧ (y 0).val < 4096 + 512; omega
        | ⟨1, _⟩ => show 0 ≤ (y 1).val ∧ (y 1).val < 0 + 128; omega
    · refine ⟨_, List.mem_cons_self, ?_⟩
      rw [Rect.mem_set_unit]
      intro a
      match a with
      | ⟨0, _⟩ => show 0 ≤ (y 0).val ∧ (y 0).val < 0 + 4608; omega
      | ⟨1, _⟩ => show 128 ≤ (y 1).val ∧ (y 1).val < 128 + 128; omega

/-- A point that is not a head's first leaves the scratch as it was. -/
theorem held (t : Fin cfg0.N) (h0 : ¬ t.val % 16 = 0) :
    (outsAt0 m c t.val t.isLt).2 = (outsAt0 m c (t.val - 1) (Nat.lt_of_le_of_lt (Nat.sub_le _ _) t.isLt)).2 := by
  rw [outsAt0_B m c t h0]
  refine Prod.ext ?_ ?_
  · rfl
  · rfl

/-- After a head's first point the scratch holds the head's keys and values. -/
theorem scratch_first (t : Fin cfg0.N) (ht : t = pt b h 0) : (outsAt0 m c t.val t.isLt).2 = (keys m c b h, vals m c b h) := by
  have h0 : t.val % 16 = 0 := by subst ht; exact (pt_coords b h 0).2.2
  rw [outsAt0_A m c t h0]
  refine Prod.ext ?_ ?_
  · frame_out
    subst ht
    exact funext (keys_canon m c b h 0)
  · frame_out
    subst ht
    exact funext (vals_canon m c b h 0)

/-- At every point of a head the scratch holds its keys and values. -/
theorem scratch (n : ℕ) (hn : n < 16) : (outsAt0 m c (pt b h ⟨n, hn⟩).val (pt b h ⟨n, hn⟩).isLt).2 = (keys m c b h, vals m c b h) := by
  induction n with
  | zero => exact scratch_first m c b h _ rfl
  | succ n ih =>
    rw [held m c (pt b h ⟨n + 1, hn⟩) (by rw [(pt_coords b h _).2.2]; exact Nat.succ_ne_zero n)]
    exact ih (by omega)

/-- The output block of a point, over its blocks and the head's keys and values. -/
theorem out_block : (outsAt0 m c (pt b h i).val (pt b h i).isLt).1
    = k0_pay1 (k0_pay7 (iblk m c 0 (pt b h i)) (keys m c b h) (vals m c b h) (iblk m c 5 (pt b h i))) (iblk m c 6 (pt b h i)) := by
  have hi := (pt_coords b h i).2.2
  by_cases h0 : (pt b h i).val % 16 = 0
  · rw [outsAt0_A m c _ h0]
    frame_out
    rw [View.readCov_eq_canon', View.readCov_eq_canon']
    congr 2
    · funext y
      refine (keys_canon m c b h i _).trans (congrArg _ ?_)
      funext a
      match a with
      | ⟨0, _⟩ => exact Fin.ext (by show 0 + 1 * (y 0).val = (y 0).val; omega)
      | ⟨1, _⟩ => exact Fin.ext (by show 0 + 1 * (y 1).val = (y 1).val; omega)
    · funext y
      refine (vals_canon m c b h i _).trans (congrArg _ ?_)
      funext a
      match a with
      | ⟨0, _⟩ => exact Fin.ext (by show 0 + 1 * (y 0).val = (y 0).val; omega)
      | ⟨1, _⟩ => exact Fin.ext (by show 0 + 1 * (y 1).val = (y 1).val; omega)
  · rw [outsAt0_B m c _ h0]
    frame_out
    simp only [read_unread_whole]
    obtain ⟨n, hn⟩ : ∃ n, i.val = n + 1 := ⟨i.val - 1, by omega⟩
    have e := scratch m c b h n (by omega)
    have q : (pt b h i).val - 1 = (pt b h ⟨n, by omega⟩).val := by
      show (b.val * 8 + h.val) * 16 + i.val - 1 = (b.val * 8 + h.val) * 16 + n; omega
    have e' : (outsAt0 m c ((pt b h i).val - 1) (Nat.lt_of_le_of_lt (Nat.sub_le _ _) (pt b h i).isLt)).2 = (keys m c b h, vals m c b h) := by
      rw [← e]; congr 1; congr 1
    rw [e']

/-- The two averages of a row, mixed. -/
theorem pay7_apply (Q : Vec Ideal S256x128 .f32) (K : Vec Ideal S4608x128 .bf16) (W : Vec Ideal S4608x256 .bf16) (L : Vec Ideal S1x128 .f32)
    (q : Fin 128 → EReal) (k v : Fin 4608 → Fin 128 → EReal) (lam : EReal) (a : Fin 256) (e : Fin 128)
    (hq : ∀ l, Q (ix2 a l) = q l) (hk : ∀ j l, K (ix2 j l) = k j l) (hv : ∀ (j : Fin 4608) (l : Fin 128), W (ix2 j ⟨l.val, by omega⟩) = v j l)
    (h1 : ∀ (j : Fin 4608) (l : Fin 128), W (ix2 j ⟨128 + l.val, by omega⟩) = (1 : EReal)) (hl : L (ix2 0 e) = lam) :
    k0_pay7 Q K W L (ix2 a e) = kerOut q k v lam e := by
  pointwise [k0_pay7]
  simp only [hq, hk, hv, h1, hl]
  rfl

/-- The norm, gain and scale of a row. -/
theorem pay1_apply (O : FVec Ideal S256x128 .f32) (G : Vec Ideal S1x128 .f32) (a : Fin 256) (e : Fin 128) :
    k0_pay1 O G (ix2 a e) = fin (fun x => O (ix2 a x)) (fun x => G (ix2 0 x)) e := by
  pointwise [k0_pay1]
  rfl

/-- The output block of a point is the kernel's form of the result. -/
theorem out_apply (a : Fin 256) (e : Fin 128) :
    (outsAt0 m c (pt b h i).val (pt b h i).isLt).1 (ix2 a e) = (kargs m c).kres b h (row i a) e := by
  rw [out_block]
  refine (pay1_apply _ _ _ _).trans ?_
  unfold Args.kres
  congr 1
  · funext x
    refine pay7_apply _ _ _ _ _ _ _ _ a x (fun l => blk0 m c b h i a l) (fun j l => rfl) (fun j l => ?_) (fun j l => ?_) (blk5 m c b h i x)
    · exact dif_pos (show l.val < 128 from l.isLt)
    · exact dif_neg (show ¬ 128 + l.val < 128 by omega)
  · exact funext fun x => blk6 m c b h i x

/-- The kernel's form of the whole result array. -/
def G12 : S8192x1024.Idx → EReal := fun y =>
  (kargs m c).kres ⟨(y 0).val / 4096, by have : (y 0).val < 8192 := (y 0).isLt; omega⟩ ⟨(y 1).val / 128, by have : (y 1).val < 1024 := (y 1).isLt; omega⟩
    ⟨(y 0).val % 4096, by omega⟩ ⟨(y 1).val % 128, by omega⟩

/-- The result array ends at the kernel's form. -/
theorem arr7 : (dats m 0 c).arrAt 7 (cfgs 0).N = G12 m c := by
  refine (dats m 0 c).arrAt_eq_of_covers 7 _ (by decide +kernel) fun t hf y => ?_
  blk_simp
  rw [after0_7]
  obtain ⟨-, -, -, -, -, -, -, -, -, -, -, -, -, -, -, -, i0, i1⟩ := idx_all t
  have ht : t.val < 256 := lt_of_lt_of_eq t.isLt N_0
  obtain ⟨b, h, i, rfl⟩ : ∃ b h i, t = pt b h i := ⟨⟨t.val / 128, by omega⟩, ⟨t.val / 16 % 8, by omega⟩, ⟨t.val % 16, by omega⟩, Fin.ext (by
    show t.val = (t.val / 128 * 8 + t.val / 16 % 8) * 16 + t.val % 16; omega)⟩
  obtain ⟨p0, p1, p2⟩ := pt_coords b h i
  have l0 : (y 0).val < 256 := (y 0).isLt
  have l1 : (y 1).val < 128 := (y 1).isLt
  refine (congrArg _ (ix2_eta y)).trans ((out_apply m c b h i (y 0) (y 1)).trans ?_)
  have w0 : ((win0_7.blk (pt b h i)).view.emb y 0).val = (b.val * 16 + i.val) * 256 + (y 0).val := by
    have : ((win0_7.blk (pt b h i)).view.emb y 0).val = win0_7.index (pt b h i) (0 : Fin 2) * 256 + (y 0).val := by
      blk_simp
    rw [this, i0, p0, p2]
  have w1 : ((win0_7.blk (pt b h i)).view.emb y 1).val = h.val * 128 + (y 1).val := by
    have : ((win0_7.blk (pt b h i)).view.emb y 1).val = win0_7.index (pt b h i) (1 : Fin 2) * 128 + (y 1).val := by
      blk_simp
    rw [this, i1, p1]
  unfold G12
  congr 1
  · exact Fin.ext (by show b.val = _ / 4096; rw [w0]; omega)
  · exact Fin.ext (by show h.val = _ / 128; rw [w1]; omega)
  · exact Fin.ext (by show i.val * 256 + (y 0).val = _ % 4096; rw [w0]; omega)
  · exact Fin.ext (by show (y 1).val = _ % 128; rw [w1]; omega)

end Cert.AttnV
-- ==== Proof.AttnV.Ref.lean ====
/- The plain reference of the differential attention, read at an index. -/
module

public import proofs.«01_k».proof.Proof.AttnV.Spec
public import proofs.«01_k».proof.Proof.Gen.ReferenceIdeal.Read

@[expose] public section

set_option maxRecDepth 16384

noncomputable section

namespace Cert.AttnV

open Cert.ReferenceIdeal Cert.ReferenceIdeal.Gen Cert.ReferenceIdeal.Read Idealize.ShloMosaic Idealize.ShloMosaic.TcCoe Idealize.SL.Sem

variable (x0 : (⟨S12288x3072, .f32⟩ : BufTy).Contents (Elt Ideal)) (x1 : (⟨S2x512x8x2x64, .f32⟩ : BufTy).Contents (Elt Ideal))
  (x2 : (⟨S2x512x8x128, .f32⟩ : BufTy).Contents (Elt Ideal))
  (x3 x4 x5 x6 : (⟨S64, .f32⟩ : BufTy).Contents (Elt Ideal)) (x7 : (⟨S128, .f32⟩ : BufTy).Contents (Elt Ideal))

/-- The argument arrays, read by their coordinates. -/
def argsOf : Args where
  q b h i l := x0 (ix2 ⟨4096 + (b.val * 4096 + i.val), by omega⟩ ⟨h.val * 128 + l.val, by omega⟩)
  k b h j l := if hj : j.val < 4096 then x0 (ix2 ⟨4096 + (b.val * 4096 + j.val), by omega⟩ ⟨1024 + (h.val * 128 + l.val), by omega⟩)
    else x1 (ix5 b ⟨j.val - 4096, by omega⟩ h ⟨l.val / 64, by omega⟩ ⟨l.val % 64, by omega⟩)
  v b h j l := if hj : j.val < 4096 then x0 (ix2 ⟨4096 + (b.val * 4096 + j.val), by omega⟩ ⟨2048 + (h.val * 128 + l.val), by omega⟩)
    else x2 (ix4 b ⟨j.val - 4096, by omega⟩ h l)
  lam := lamOf (fun x => x3 (ix1 x)) (fun x => x4 (ix1 x)) (fun x => x5 (ix1 x)) (fun x => x6 (ix1 x))
  g e := x7 (ix1 e)

/-- The reference's score. -/
theorem ref_s (b : Fin 2) (h : Fin 8) (μ : Fin 2) (i : Fin 4096) (j : Fin 4608) :
    val_main_v20 (F := Ideal) x0 x1 (ix5 b h μ i j) = sc ((argsOf x0 x1 x2 x3 x4 x5 x6 x7).q b h i) ((argsOf x0 x1 x2 x3 x4 x5 x6 x7).k b h) μ j := by
  pointwise [val_main_v20, val_main_v19, val_main_cst_2, val_main_v18, val_main_v8, val_main_v6, val_main_v5, val_main_v3, val_main_v2, val_main_v1, val_main_v0]
  unfold sc argsOf lane
  refine congrArg (· * _) (Finset.sum_congr rfl fun x _ => congrArg₂ (· * ·) (congrArg x0 ?_) ?_)
  · refine congrArg (ix2 _) (Fin.ext ?_)
    show h.val * 128 + μ.val * 64 + x.val = h.val * 128 + (μ.val * 64 + x.val)
    omega
  · dsimp only
    split
    · refine congrArg x0 (congrArg (ix2 _) (Fin.ext ?_))
      show 1024 + (h.val * 128 + μ.val * 64 + x.val) = 1024 + (h.val * 128 + (μ.val * 64 + x.val))
      omega
    · refine congrArg x1 ?_
      have e1 : (⟨(μ.val * 64 + x.val) / 64, by omega⟩ : Fin 2) = μ := Fin.ext (by show (μ.val * 64 + x.val) / 64 = μ.val; omega)
      have e2 : (⟨(μ.val * 64 + x.val) % 64, by omega⟩ : Fin 64) = x := Fin.ext (by show (μ.val * 64 + x.val) % 64 = x.val; omega)
      rw [e1, e2]

/-- The reference's greatest score. -/
theorem ref_max (b : Fin 2) (h : Fin 8) (μ : Fin 2) (i : Fin 4096) :
    val_main_v21 (F := Ideal) x0 x1 (ix4 b h μ i) = top (sc ((argsOf x0 x1 x2 x3 x4 x5 x6 x7).q b h i) ((argsOf x0 x1 x2 x3 x4 x5 x6 x7).k b h) μ) := by
  have e : val_main_v21 (F := Ideal) x0 x1 (ix4 b h μ i)
      = Finset.fold max (Ideal.ofBits FTy.f32 4286578688#32) (fun x => val_main_v20 (F := Ideal) x0 x1 (ix5 b h μ i x)) Finset.univ := by
    pointwise [val_main_v21, val_main_cst_3]
  rw [e]
  simp only [ref_s x0 x1 x2 x3 x4 x5 x6 x7]
  rfl

/-- The reference's weight. -/
theorem ref_e (b : Fin 2) (h : Fin 8) (μ : Fin 2) (i : Fin 4096) (j : Fin 4608) :
    val_main_v27 (F := Ideal) x0 x1 (ix5 b h μ i j) = wt (sc ((argsOf x0 x1 x2 x3 x4 x5 x6 x7).q b h i) ((argsOf x0 x1 x2 x3 x4 x5 x6 x7).k b h) μ) j := by
  rw [val_main_v27_apply, val_main_v26_apply, val_main_v25_apply, val_main_v24_apply, val_main_v23_apply, val_main_v22_apply]
  have e : idx_main_v24 (idx_main_v25 (ix5 b h μ i j)) = ix4 b h μ i := by
    funext a; match a with | ⟨0, _⟩ => rfl | ⟨1, _⟩ => rfl | ⟨2, _⟩ => rfl | ⟨3, _⟩ => rfl
  rw [e, ref_max x0 x1 x2 x3 x4 x5 x6 x7, ref_s x0 x1 x2 x3 x4 x5 x6 x7]
  show Ideal.exp (_ - max (Ideal.ofBits FTy.f32 4286578688#32) _) = _
  rw [ninf, max_eq_right bot_le]
  rfl

/-- The reference's probability. -/
theorem ref_p (b : Fin 2) (h : Fin 8) (μ : Fin 2) (i : Fin 4096) (j : Fin 4608) :
    val_main_v31 (F := Ideal) x0 x1 (ix5 b h μ i j)
      = Ideal.div (wt (sc ((argsOf x0 x1 x2 x3 x4 x5 x6 x7).q b h i) ((argsOf x0 x1 x2 x3 x4 x5 x6 x7).k b h) μ) j) (∑ x, wt (sc ((argsOf x0 x1 x2 x3 x4 x5 x6 x7).q b h i) ((argsOf x0 x1 x2 x3 x4 x5 x6 x7).k b h) μ) x) := by
  rw [val_main_v31_apply, val_main_v30_apply, val_main_v29_apply, val_main_v28_apply]
  have e : ∀ k, idx_main_v28 (idx_main_v29 (idx_main_v30 (ix5 b h μ i j))) k = ix5 b h μ i k := fun k => by
    funext a; match a with | ⟨0, _⟩ => rfl | ⟨1, _⟩ => rfl | ⟨2, _⟩ => rfl | ⟨3, _⟩ => rfl | ⟨4, _⟩ => rfl
  simp only [e, ref_e x0 x1 x2 x3 x4 x5 x6 x7]
  show Ideal.div _ (Ideal.ofBits FTy.f32 0#32 + _) = _
  rw [Ideal.ofBits_zero_f32, zero_add]

/-- The reference's values. -/
theorem ref_v (b : Fin 2) (h : Fin 8) (e : Fin 128) (j : Fin 4608) :
    val_main_v9 (F := Ideal) x0 x2 (ix4 b j h e) = (argsOf x0 x1 x2 x3 x4 x5 x6 x7).v b h j e := by
  pointwise [val_main_v9, val_main_v7, val_main_v4, val_main_v1, val_main_v0]
  rfl

/-- The reference's mixing weight. -/
theorem ref_lam : val_main_v17 (F := Ideal) x3 x4 x5 x6 (fun a => a.elim0) = (argsOf x0 x1 x2 x3 x4 x5 x6 x7).lam := by
  pointwise [val_main_v17, val_main_v16, val_main_v15, val_main_v14, val_main_v13, val_main_v12, val_main_v11, val_main_v10, val_main_cst_1, val_main_cst_0, val_main_cst]
  rfl

/-- The first map's probabilities. -/
theorem ref_a0 (b : Fin 2) (h : Fin 8) (i : Fin 4096) (j : Fin 4608) :
    val_main_v33 (F := Ideal) x0 x1 (ix4 b h i j) = val_main_v31 (F := Ideal) x0 x1 (ix5 b h 0 i j) := by
  rw [val_main_v33_apply, val_main_v32_apply]
  refine congrArg _ (funext fun a => ?_)
  match a with
  | ⟨0, _⟩ => exact Fin.ext (by show (((b.val * 8 + h.val) * 4096 + i.val) * 4608 + j.val) / 150994944 = b.val; omega)
  | ⟨1, _⟩ => exact Fin.ext (by show (((b.val * 8 + h.val) * 4096 + i.val) * 4608 + j.val) / 18874368 % 8 = h.val; omega)
  | ⟨2, _⟩ => rfl
  | ⟨3, _⟩ => exact Fin.ext (by show (((b.val * 8 + h.val) * 4096 + i.val) * 4608 + j.val) / 4608 % 4096 = i.val; omega)
  | ⟨4, _⟩ => exact Fin.ext (by show (((b.val * 8 + h.val) * 4096 + i.val) * 4608 + j.val) % 4608 = j.val; omega)

/-- The second map's probabilities. -/
theorem ref_a1 (b : Fin 2) (h : Fin 8) (i : Fin 4096) (j : Fin 4608) :
    val_main_v35 (F := Ideal) x0 x1 (ix4 b h i j) = val_main_v31 (F := Ideal) x0 x1 (ix5 b h 1 i j) := by
  rw [val_main_v35_apply, val_main_v34_apply]
  refine congrArg _ (funext fun a => ?_)
  match a with
  | ⟨0, _⟩ => exact Fin.ext (by show (((b.val * 8 + h.val) * 4096 + i.val) * 4608 + j.val) / 150994944 = b.val; omega)
  | ⟨1, _⟩ => exact Fin.ext (by show (((b.val * 8 + h.val) * 4096 + i.val) * 4608 + j.val) / 18874368 % 8 = h.val; omega)
  | ⟨2, _⟩ => rfl
  | ⟨3, _⟩ => exact Fin.ext (by show (((b.val * 8 + h.val) * 4096 + i.val) * 4608 + j.val) / 4608 % 4096 = i.val; omega)
  | ⟨4, _⟩ => exact Fin.ext (by show (((b.val * 8 + h.val) * 4096 + i.val) * 4608 + j.val) % 4608 = j.val; omega)

/-- The reference's difference of the two maps. -/
theorem ref_a (b : Fin 2) (h : Fin 8) (i : Fin 4096) (j : Fin 4608) :
    val_main_v38 (F := Ideal) x0 x1 x3 x4 x5 x6 (ix4 b h i j)
      = Ideal.div (wt (sc ((argsOf x0 x1 x2 x3 x4 x5 x6 x7).q b h i) ((argsOf x0 x1 x2 x3 x4 x5 x6 x7).k b h) 0) j) (∑ x, wt (sc ((argsOf x0 x1 x2 x3 x4 x5 x6 x7).q b h i) ((argsOf x0 x1 x2 x3 x4 x5 x6 x7).k b h) 0) x)
        - (argsOf x0 x1 x2 x3 x4 x5 x6 x7).lam * Ideal.div (wt (sc ((argsOf x0 x1 x2 x3 x4 x5 x6 x7).q b h i) ((argsOf x0 x1 x2 x3 x4 x5 x6 x7).k b h) 1) j) (∑ x, wt (sc ((argsOf x0 x1 x2 x3 x4 x5 x6 x7).q b h i) ((argsOf x0 x1 x2 x3 x4 x5 x6 x7).k b h) 1) x) := by
  rw [val_main_v38_apply, val_main_v37_apply, val_main_v36_apply, ref_a0, ref_a1, ref_p x0 x1 x2 x3 x4 x5 x6 x7, ref_p x0 x1 x2 x3 x4 x5 x6 x7,
    show idx_main_v36 (ix4 b h i j) = (fun a => a.elim0) from funext fun a => a.elim0, ref_lam x0 x1 x2 x3 x4 x5 x6 x7]
  rfl

/-- The reference's row before the norm. -/
theorem ref_o (b : Fin 2) (h : Fin 8) (i : Fin 4096) (e : Fin 128) :
    val_main_v40 (F := Ideal) x0 x1 x2 x3 x4 x5 x6 (ix4 b i h e) = refOut ((argsOf x0 x1 x2 x3 x4 x5 x6 x7).q b h i) ((argsOf x0 x1 x2 x3 x4 x5 x6 x7).k b h) ((argsOf x0 x1 x2 x3 x4 x5 x6 x7).v b h) (argsOf x0 x1 x2 x3 x4 x5 x6 x7).lam e := by
  rw [val_main_v40_apply, val_main_v39_apply]
  have e1 : ∀ k, lidx_main_v39 (idx_main_v40 (ix4 b i h e)) k = ix4 b k h e := fun k => by
    funext a; match a with | ⟨0, _⟩ => rfl | ⟨1, _⟩ => rfl | ⟨2, _⟩ => rfl | ⟨3, _⟩ => rfl
  have e2 : ∀ k, ridx_main_v39 (idx_main_v40 (ix4 b i h e)) k = ix4 b h i k := fun k => by
    funext a; match a with | ⟨0, _⟩ => rfl | ⟨1, _⟩ => rfl | ⟨2, _⟩ => rfl | ⟨3, _⟩ => rfl
  unfold refOut
  refine Finset.sum_congr rfl fun k _ => ?_
  rw [e1, e2, ref_v x0 x1 x2 x3 x4 x5 x6 x7, ref_a x0 x1 x2 x3 x4 x5 x6 x7]

/-- The reference's result. -/
theorem ref_out (r : Fin 8192) (d : Fin 1024) :
    val_main_v56 (F := Ideal) x0 x1 x2 x3 x4 x5 x6 x7 (ix2 r d)
      = (argsOf x0 x1 x2 x3 x4 x5 x6 x7).res ⟨r.val / 4096, by omega⟩ ⟨d.val / 128, by omega⟩ ⟨r.val % 4096, by omega⟩ ⟨d.val % 128, by omega⟩ := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_cst_6, val_main_cst_7, val_main_cst_8, val_main_cst_9]
  simp only [ref_o x0 x1 x2 x3 x4 x5 x6 x7]
  rfl

end Cert.AttnV
-- ==== Proof.AttnV.Fin.lean ====
/- The precondition of the attention claim: the arrays it names hold reals. -/
module

public import proofs.«01_k».proof.Pre_finite
public import proofs.«01_k».proof.Proof.AttnV.Spec
public import Idealize.ShloMosaic.PureOps.Ideal

@[expose] public section

noncomputable section

namespace Cert.AttnV

open Idealize.ShloMosaic

/-- An extended real whose magnitude compares below the infinity constant is real. -/
theorem real_of_cmp (x : EReal) (h : FloatOps.cmpf (F := Ideal) (φ := .f32) .olt (FloatOps.absf (F := Ideal) (φ := .f32) x) (Ideal.ofBits FTy.f32 0x7F800000#32) = 1#1) :
    ∃ r : ℝ, x = r := by
  have ht : Ideal.ofBits FTy.f32 0x7F800000#32 = ⊤ := by simp [Ideal.ofBits, Ideal.ieee]
  rw [ht] at h
  induction x with
  | bot => exact absurd h (by simp [FloatOps.cmpf, FloatOps.absf, Ideal.cmp])
  | top => exact absurd h (by simp [FloatOps.cmpf, FloatOps.absf, Ideal.cmp])
  | coe r => exact ⟨r, rfl⟩

variable [Cert.Pre_finite.Facts] (x0 : FVec Ideal Cert.Pre_finite.S12288x3072 .f32) (x1 : FVec Ideal Cert.Pre_finite.S2x512x8x2x64 .f32) (x2 : FVec Ideal Cert.Pre_finite.S2x512x8x128 .f32)
  (x3 x4 x5 x6 : FVec Ideal Cert.Pre_finite.S64 .f32) (x7 : FVec Ideal Cert.Pre_finite.S128 .f32)

/-- The first array holds reals. -/
theorem fin0 (h : (Cert.Pre_finite.fn (F := Ideal) x0 x1 x2 x3 x4 x5 x6 x7).1 = fun _ => 1#1) (y) : ∃ r : ℝ, (x0 y : EReal) = r :=
  real_of_cmp (x0 y) (congrFun h y)

/-- The second array holds reals. -/
theorem fin1 (h : (Cert.Pre_finite.fn (F := Ideal) x0 x1 x2 x3 x4 x5 x6 x7).2.1 = fun _ => 1#1) (y) : ∃ r : ℝ, (x1 y : EReal) = r :=
  real_of_cmp (x1 y) (congrFun h y)

/-- The third array holds reals. -/
theorem fin2 (h : (Cert.Pre_finite.fn (F := Ideal) x0 x1 x2 x3 x4 x5 x6 x7).2.2.1 = fun _ => 1#1) (y) : ∃ r : ℝ, (x2 y : EReal) = r :=
  real_of_cmp (x2 y) (congrFun h y)

/-- The fourth array holds reals. -/
theorem fin3 (h : (Cert.Pre_finite.fn (F := Ideal) x0 x1 x2 x3 x4 x5 x6 x7).2.2.2.1 = fun _ => 1#1) (y) : ∃ r : ℝ, (x3 y : EReal) = r :=
  real_of_cmp (x3 y) (congrFun h y)

/-- The fifth array holds reals. -/
theorem fin4 (h : (Cert.Pre_finite.fn (F := Ideal) x0 x1 x2 x3 x4 x5 x6 x7).2.2.2.2.1 = fun _ => 1#1) (y) : ∃ r : ℝ, (x4 y : EReal) = r :=
  real_of_cmp (x4 y) (congrFun h y)

/-- The sixth array holds reals. -/
theorem fin5 (h : (Cert.Pre_finite.fn (F := Ideal) x0 x1 x2 x3 x4 x5 x6 x7).2.2.2.2.2.1 = fun _ => 1#1) (y) : ∃ r : ℝ, (x5 y : EReal) = r :=
  real_of_cmp (x5 y) (congrFun h y)

/-- The seventh array holds reals. -/
theorem fin6 (h : (Cert.Pre_finite.fn (F := Ideal) x0 x1 x2 x3 x4 x5 x6 x7).2.2.2.2.2.2 = fun _ => 1#1) (y) : ∃ r : ℝ, (x6 y : EReal) = r :=
  real_of_cmp (x6 y) (congrFun h y)

/-- A mixing weight of real vectors is real. -/
theorem lamOf_real (x y z w : Fin 64 → EReal) (hx : ∀ a, ∃ r : ℝ, x a = r) (hy : ∀ a, ∃ r : ℝ, y a = r) (hz : ∀ a, ∃ r : ℝ, z a = r)
    (hw : ∀ a, ∃ r : ℝ, w a = r) : ∃ r : ℝ, lamOf x y z w = r := by
  choose X hX using hx
  choose Y hY using hy
  choose Z hZ using hz
  choose W hW using hw
  obtain ⟨C, hC⟩ : ∃ C : ℝ, Ideal.ofBits FTy.f32 1055981900#32 = C := by
    simp [Ideal.ofBits, Ideal.ieee, -EReal.coe_mul]
  refine ⟨Real.exp (∑ a, X a * Y a) - Real.exp (∑ a, Z a * W a) + C, ?_⟩
  unfold lamOf
  simp only [hX, hY, hZ, hW, hC, ← EReal.coe_mul, ← coe_sum, Ideal.exp_coe, ← EReal.coe_sub, ← EReal.coe_add]

end Cert.AttnV
-- ==== Proof.AttnV.Claim.lean ====
/- The attention kernel against its reference: the equation of the two results and the claims about the pair. -/
module

public import proofs.«01_k».proof.Defs
public import proofs.«01_k».proof.Proof.AttnV.Block
public import proofs.«01_k».proof.Proof.AttnV.Ref
public import proofs.«01_k».proof.Proof.AttnV.Fin
public import proofs.«01_k».proof.Proof.Gen.Kernel.Frame
public import proofs.«01_k».proof.Proof.Gen.KernelIdeal
public import proofs.«01_k».proof.Proof.Gen.ReferenceIdeal
public import proofs.«01_k».proof.Proof.Gen.Pre_finite

@[expose] public section

set_option maxRecDepth 16384

noncomputable section

namespace Cert.AttnV

open Idealize.ShloMosaic Idealize.ShloMosaic.TcCoe Idealize.SL.Sem

attribute [local instance] Cert.Kernel.Gen.facts Cert.KernelIdeal.Gen.facts Cert.ReferenceIdeal.Gen.facts Cert.Pre_finite.Gen.facts

/-- Under the precondition the arguments' queries, keys, values and mixing weight are real. -/
theorem kargs_real (m : (ℓ : Loc Cert.KernelIdeal.nD Cert.KernelIdeal.τ Cert.KernelIdeal.sig) → Buf (Elt Ideal) ℓ) (hm : Cert.Pre_KernelIdeal_finite m)
    (c : Dev Cert.KernelIdeal.nD) : (kargs m c).Real := by
  obtain ⟨h0, h1, h2, h3, h4, h5, h6⟩ := hm c
  refine ⟨fun b h i l => fin0 _ _ _ _ _ _ _ _ h0 _, fun b h j l => ?_, fun b h j l => ?_, ?_⟩
  · unfold kargs
    dsimp only
    split
    · exact fin0 _ _ _ _ _ _ _ _ h0 _
    · exact fin1 _ _ _ _ _ _ _ _ h1 _
  · unfold kargs
    dsimp only
    split
    · exact fin0 _ _ _ _ _ _ _ _ h0 _
    · exact fin2 _ _ _ _ _ _ _ _ h2 _
  · exact lamOf_real _ _ _ _ (fun a => fin3 _ _ _ _ _ _ _ _ h3 _) (fun a => fin4 _ _ _ _ _ _ _ _ h4 _) (fun a => fin5 _ _ _ _ _ _ _ _ h5 _)
      (fun a => fin6 _ _ _ _ _ _ _ _ h6 _)

/-- From memories agreeing on the arguments, the kernel's result array is the reference's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hm : Cert.Pre_KernelIdeal_finite m) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7)) :
    Cert.ReferenceIdeal.Value.res_main_v56 m' c = G12 m c := by
  rw [Cert.ReferenceIdeal.Read.val_main_v56_eq, h0, h1, h2, h3, h4, h5, h6, h7]
  funext i
  refine (congrArg _ (ix2_eta i)).trans ((ref_out _ _ _ _ _ _ _ _ (i 0) (i 1)).trans ?_)
  exact ((kargs m c).kres_eq (kargs_real m hm c) _ _ _ _).symm

/-- The kernel's frame. -/
theorem frame_k : Cert.quiescent_Kernel := fun m ρ _ => Cert.Kernel.Gen.frame m ρ

/-- The idealized kernel's frame. -/
theorem frame_ki : Cert.quiescent_KernelIdeal := fun m ρ _ => Cert.KernelIdeal.Gen.frame m ρ

/-- The idealized kernel's frame, from memories that meet the precondition. -/
theorem frame_kip : Cert.quiescent_KernelIdeal_pre_finite := fun m ρ _ => Cert.KernelIdeal.Gen.frame m ρ

/-- The reference's frame. -/
theorem frame_r : Cert.quiescent_ReferenceIdeal := fun m ρ _ => by
  refine (θ_run _ _ _).mono (fun r h => ?_) (Cert.ReferenceIdeal.Value.run m ρ)
  exact ⟨fun c => (h c).2, sem_eq_zero_of_no_sems (by decide) _⟩

/-- The reference's frame, from memories that meet the precondition. -/
theorem frame_rp : Cert.quiescent_ReferenceIdeal_pre_finite := fun m ρ _ => frame_r m ρ trivial

/-- The kernel computes the reference's result. -/
theorem algebraic : Cert.algebraic_KernelIdeal_ReferenceIdeal_pre_finite := fun m g m' g' hf hm => by
  refine ⟨fun c => G12 m c, ?_, ?_⟩
  · refine (θ_run _ _ _).mono (fun r h c => ?_) (Cert.KernelIdeal.Value.run_blocks m g)
    exact ⟨(h c).1.trans (arr7 m c), (h c).2⟩
  · refine (θ_run _ _ _).mono (fun r h c => ?_) (Cert.ReferenceIdeal.Value.run m' g')
    obtain ⟨h0, h1, h2, h3, h4, h5, h6, h7⟩ := hm c
    exact ⟨(h c).1.trans (results_eq m m' hf c h0 h1 h2 h3 h4 h5 h6 h7), (h c).2⟩

end Cert.AttnV
-- ==== Proof.FfnV.Spec.lean ====
/- The dense feed-forward block of one row, written once: what both programs are shown to compute. -/
module

public import Idealize.ShloMosaic.Lib.Pointwise
public import Idealize.ShloMosaic.PureOps.Ideal.Laws

@[expose] public section

noncomputable section

namespace Cert.FfnV

open Idealize.ShloMosaic

/-- The seven arguments, read by their coordinates. -/
structure Args where
  /-- the rows of the residual stream -/
  x : Fin 12288 → Fin 1024 → EReal
  /-- the eight modulation rows of each of the three groups of 4096 rows -/
  md : Fin 3 → Fin 8 → Fin 1024 → EReal
  /-- the gain of the norm before the block -/
  gpre : Fin 1024 → EReal
  /-- the gain of the norm after the block -/
  gpost : Fin 1024 → EReal
  /-- the gate weights -/
  wg : Fin 1024 → Fin 2816 → EReal
  /-- the up weights -/
  wu : Fin 1024 → Fin 2816 → EReal
  /-- the down weights -/
  wd : Fin 2816 → Fin 1024 → EReal

/-- The reciprocal root mean square of a row, with the epsilon of the norm. -/
def rinv (v : Fin 1024 → EReal) : EReal :=
  Ideal.rsqrt (Ideal.div (∑ j, v j * v j) (Ideal.ofBits FTy.f32 1149239296#32) + Ideal.ofBits FTy.f32 897988541#32)

namespace Args

variable (A : Args)

/-- The group of 4096 rows that a row belongs to. -/
def grp (r : Fin 12288) : Fin 3 := ⟨r.val / 4096, by omega⟩

/-- The normalised and modulated row. -/
def hid (r : Fin 12288) (k : Fin 1024) : EReal :=
  A.x r k * rinv (A.x r) * A.gpre k * (1 + A.md (grp r) 4 k) + A.md (grp r) 3 k

/-- One gate pre-activation. -/
def gate (r : Fin 12288) (f : Fin 2816) : EReal := ∑ k, A.hid r k * A.wg k f

/-- One hidden unit: the gate's silu times the up projection. -/
def act (r : Fin 12288) (f : Fin 2816) : EReal :=
  A.gate r f * Ideal.logistic (A.gate r f) * ∑ k, A.hid r k * A.wu k f

/-- The down projection. -/
def down (r : Fin 12288) (d : Fin 1024) : EReal := ∑ f, A.act r f * A.wd f d

/-- The block's result: the row plus its gated, normalised feed-forward value. -/
def res (r : Fin 12288) (d : Fin 1024) : EReal :=
  A.x r d + A.md (grp r) 5 d * (A.down r d * rinv (A.down r) * A.gpost d)

end Args

end Cert.FfnV
-- ==== Proof.FfnV.Block.lean ====
/- What the dense feed-forward kernel leaves in its result array: at every row, the block of `Spec.lean`. -/
module

public import proofs.«01_k».proof.Proof.FfnV.Spec
public import proofs.«01_k».proof.Proof.Gen.FfnIdeal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.FfnV

open Cert.FfnIdeal Cert.FfnIdeal.Gen Idealize.ShloMosaic Idealize.ShloMosaic.TcCoe Idealize.SL.Sem

variable (m : (ℓ : Loc nD τ sig) → Buf (Elt Ideal) ℓ)

/-- The output block after a second point (odd position), over the blocks of this point and the point before:
    the residual step on the two halves' accumulated products. -/
theorem outs_odd (c : Dev nD) (t : Fin cfg0.N) (s : Fin cfg0.N) (hs : t.val = s.val + 1) (h0 : s.val % 2 = 0) :
    (outsAt0 m c t.val t.isLt).1 = k0_pay4 (iblk m c 0 t)
      (k0_pay3 (k0_pay1 (iblk m c 0 s) (iblk m c 1 s) (iblk m c 2 s)) (iblk m c 4 t) (iblk m c 5 t)
        (k0_pay3 (k0_pay1 (iblk m c 0 s) (iblk m c 1 s) (iblk m c 2 s)) (iblk m c 4 s) (iblk m c 5 s) (k0_pay2 (F := Ideal)) (iblk m c 6 s))
        (iblk m c 6 t)) (iblk m c 1 t) (iblk m c 3 t) := by
  rw [outsAt0_B m c t (by omega) (by omega)]
  have e : ∀ (n : ℕ) (hn : n < cfg0.N), n = s.val → outsAt0 m c n hn = outsAt0 m c s.val s.isLt := fun n hn h => by subst h; rfl
  rw [e _ _ (by omega), outsAt0_A m c s h0 (by omega)]
  frame_out
  simp only [read_unread_whole]

/-- The printed index maps, decided over the grid: the block of each window at a point. -/
theorem idx_all : ∀ t : Fin cfg0.N, win0_0.index t (0 : Fin 2) = t.val / 2 ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val % 2
    ∧ win0_5.index t (0 : Fin 2) = 0 ∧ win0_5.index t (1 : Fin 2) = t.val % 2
    ∧ win0_6.index t (0 : Fin 2) = t.val % 2 ∧ win0_6.index t (1 : Fin 2) = 0 :=
  (by decide +kernel : ∀ t : Fin grid0.N, _)

/-- The argument arrays, read by their coordinates. -/
def kargs (c : Dev nD) : Args where
  x r k := m (c.tc.loc main_arg0) (ix2 r k)
  md b j k := m (c.tc.loc main_arg1) (ix3 b j k)
  gpre k := m (c.tc.loc main_arg2) (ix2 0 k)
  gpost k := m (c.tc.loc main_arg3) (ix2 0 k)
  wg k f := m (c.tc.loc main_arg4) (ix2 k f)
  wu k f := m (c.tc.loc main_arg5) (ix2 k f)
  wd f k := m (c.tc.loc main_arg6) (ix2 f k)

/-- The row at place `a` of row block `b`. -/
def row (b : Fin 24) (a : Fin 512) : Fin 12288 := ⟨b.val * 512 + a.val, by omega⟩

/-- The hidden unit at place `f` of half `h`. -/
def unit (h : Fin 2) (f : Fin 1408) : Fin 2816 := ⟨h.val * 1408 + f.val, by omega⟩

/-- The point of row block `b` and half `h`. -/
def pt (b : Fin 24) (h : Fin 2) : Fin cfg0.N := ⟨2 * b.val + h.val, lt_of_lt_of_eq (by omega) N_0.symm⟩

variable (c : Dev nD) (b : Fin 24) (h : Fin 2)

/-- The block of rows. -/
theorem blk0 (a : Fin 512) (k : Fin 1024) :
    (iblk m c 0 (pt b h) : Vec Ideal S512x1024 .f32) (ix2 a k) = (kargs m c).x (row b a) k := by
  obtain ⟨e0, e1, -⟩ := idx_all (pt b h)
  have : (pt b h).val / 2 = b.val := by show (2 * b.val + h.val) / 2 = b.val; omega
  unfold kargs row
  dsimp only
  blk_ext [iblk, V]
  all_goals omega

/-- The block of modulation rows. -/
theorem blk1 (a : Fin 512) (j : Fin 8) (k : Fin 1024) :
    (iblk m c 1 (pt b h) : Vec Ideal S1x8x1024 .f32) (ix3 0 j k) = (kargs m c).md (Args.grp (row b a)) j k := by
  obtain ⟨-, -, e0, e1, e2, -⟩ := idx_all (pt b h)
  have : (pt b h).val / 16 = (b.val * 512 + a.val) / 4096 := by show (2 * b.val + h.val) / 16 = _; omega
  unfold kargs row Args.grp
  dsimp only
  blk_ext [iblk, V]
  all_goals omega

/-- The gain before the block. -/
theorem blk2 (k : Fin 1024) : (iblk m c 2 (pt b h) : Vec Ideal S1x1024 .f32) (ix2 0 k) = (kargs m c).gpre k := by
  obtain ⟨-, -, -, -, -, e0, e1, -⟩ := idx_all (pt b h)
  unfold kargs
  dsimp only
  blk_ext [iblk, V]
  all_goals omega

/-- The gain after the block. -/
theorem blk3 (k : Fin 1024) : (iblk m c 3 (pt b h) : Vec Ideal S1x1024 .f32) (ix2 0 k) = (kargs m c).gpost k := by
  obtain ⟨-, -, -, -, -, -, -, e0, e1, -⟩ := idx_all (pt b h)
  unfold kargs
  dsimp only
  blk_ext [iblk, V]
  all_goals omega

/-- The half of the gate weights. -/
theorem blk4 (k : Fin 1024) (f : Fin 1408) :
    (iblk m c 4 (pt b h) : Vec Ideal S1024x1408 .bf16) (ix2 k f) = (kargs m c).wg k (unit h f) := by
  obtain ⟨-, -, -, -, -, -, -, -, -, e0, e1, -⟩ := idx_all (pt b h)
  have : (pt b h).val % 2 = h.val := by show (2 * b.val + h.val) % 2 = h.val; omega
  unfold kargs unit
  dsimp only
  blk_ext [iblk, V]
  all_goals omega

/-- The half of the up weights. -/
theorem blk5 (k : Fin 1024) (f : Fin 1408) :
    (iblk m c 5 (pt b h) : Vec Ideal S1024x1408 .bf16) (ix2 k f) = (kargs m c).wu k (unit h f) := by
  obtain ⟨-, -, -, -, -, -, -, -, -, -, -, e0, e1, -⟩ := idx_all (pt b h)
  have : (pt b h).val % 2 = h.val := by show (2 * b.val + h.val) % 2 = h.val; omega
  unfold kargs unit
  dsimp only
  blk_ext [iblk, V]
  all_goals omega

/-- The half of the down weights. -/
theorem blk6 (f : Fin 1408) (k : Fin 1024) :
    (iblk m c 6 (pt b h) : Vec Ideal S1408x1024 .bf16) (ix2 f k) = (kargs m c).wd (unit h f) k := by
  obtain ⟨-, -, -, -, -, -, -, -, -, -, -, -, -, e0, e1⟩ := idx_all (pt b h)
  have : (pt b h).val % 2 = h.val := by show (2 * b.val + h.val) % 2 = h.val; omega
  unfold kargs unit
  dsimp only
  blk_ext [iblk, V]
  all_goals omega

/-- The scratch the first point fills: the modulated rows. -/
theorem hid_apply (a : Fin 512) (k : Fin 1024) :
    k0_pay1 (iblk m c 0 (pt b h)) (iblk m c 1 (pt b h)) (iblk m c 2 (pt b h)) (ix2 a k) = (kargs m c).hid (row b a) k := by
  have e0 := blk0 m c b h a
  have e1 := fun j k => blk1 m c b h a j k
  have e2 := blk2 m c b h
  generalize iblk m c 0 (pt b h) = X at *
  generalize iblk m c 1 (pt b h) = M at *
  generalize iblk m c 2 (pt b h) = G at *
  pointwise [k0_pay1]
  simp only [e0, e1, e2]
  rfl

/-- The accumulator starts at zero. -/
theorem zero_apply (a : Fin 512) (k : Fin 1024) : k0_pay2 (F := Ideal) (ix2 a k) = 0 := by
  pointwise [k0_pay2]

/-- One half's step: what the accumulator held plus the half's products. -/
theorem step_apply (H : Vec Ideal S512x1024 .bf16) (acc : Vec Ideal S512x1024 .f32) (a : Fin 512) (d : Fin 1024)
    (hH : ∀ k, H (ix2 a k) = (kargs m c).hid (row b a) k) :
    k0_pay3 H (iblk m c 4 (pt b h)) (iblk m c 5 (pt b h)) acc (iblk m c 6 (pt b h)) (ix2 a d)
      = acc (ix2 a d) + ∑ f, (kargs m c).act (row b a) (unit h f) * (kargs m c).wd (unit h f) d := by
  have e4 := blk4 m c b h
  have e5 := blk5 m c b h
  have e6 := blk6 m c b h
  generalize iblk m c 4 (pt b h) = X at *
  generalize iblk m c 5 (pt b h) = M at *
  generalize iblk m c 6 (pt b h) = G at *
  pointwise [k0_pay3]
  simp only [hH, e4, e5, e6]
  rfl

/-- The residual step at an index. -/
theorem last_apply (acc : Vec Ideal S512x1024 .f32) (a : Fin 512) (d : Fin 1024)
    (hacc : ∀ k, acc (ix2 a k) = (kargs m c).down (row b a) k) :
    k0_pay4 (iblk m c 0 (pt b h)) acc (iblk m c 1 (pt b h)) (iblk m c 3 (pt b h)) (ix2 a d) = (kargs m c).res (row b a) d := by
  have e0 := blk0 m c b h a
  have e1 := fun j k => blk1 m c b h a j k
  have e2 := blk3 m c b h
  generalize iblk m c 0 (pt b h) = X at *
  generalize iblk m c 1 (pt b h) = M at *
  generalize iblk m c 3 (pt b h) = G at *
  pointwise [k0_pay4]
  simp only [e0, e1, e2, hacc]
  rfl

/-- The two halves make the whole sum over the hidden units. -/
theorem down_halves (A : Args) (r : Fin 12288) (d : Fin 1024) :
    A.down r d = 0 + ∑ f, A.act r (unit 0 f) * A.wd (unit 0 f) d + ∑ f, A.act r (unit 1 f) * A.wd (unit 1 f) d := by
  unfold Args.down
  rw [Fin.sum_univ_two_halves 1408 1408 rfl, zero_add]
  refine congrArg₂ (· + ·) (Finset.sum_congr rfl fun f _ => ?_) (Finset.sum_congr rfl fun f _ => ?_)
  · have : (⟨f.val, by omega⟩ : Fin 2816) = unit 0 f := Fin.ext (by show f.val = 0 * 1408 + f.val; omega)
    rw [← this]
  · have : (⟨1408 + f.val, by omega⟩ : Fin 2816) = unit 1 f := Fin.ext (by show 1408 + f.val = 1 * 1408 + f.val; omega)
    rw [← this]

/-- The block written back after row block `b`'s second point. -/
theorem out_apply (a : Fin 512) (d : Fin 1024) :
    (outsAt0 m c (pt b 1).val (pt b 1).isLt).1 (ix2 a d) = (kargs m c).res (row b a) d := by
  rw [outs_odd m c (pt b 1) (pt b 0) rfl (by show (2 * b.val + 0) % 2 = 0; omega)]
  refine last_apply m c b 1 _ a d fun k => ?_
  rw [step_apply m c b 1 _ _ a k (hid_apply m c b 0 a), step_apply m c b 0 _ _ a k (hid_apply m c b 0 a), zero_apply,
    down_halves]

/-- The result array: every element is the block's result at its row. -/
theorem G7_apply (r : Fin 12288) (d : Fin 1024) : Cert.FfnIdeal.Value.G7 m c (ix2 r d) = (kargs m c).res r d := by
  have hp : Cert.FfnIdeal.Value.pt7Of (ix2 r d) = (pt ⟨r.val / 512, by omega⟩ 1).val := by
    show 2 * (1 * (r.val / 512 - 0) + 1 * (d.val / 1024 - 0)) + 1 = 2 * (r.val / 512) + 1
    omega
  have hl : Cert.FfnIdeal.Value.loc7Of (ix2 r d) = ix2 ⟨r.val % 512, by omega⟩ d := by
    funext a
    match a with
    | ⟨0, _⟩ => rfl
    | ⟨1, _⟩ => exact Fin.ext (show d.val % 1024 = d.val by omega)
  unfold Cert.FfnIdeal.Value.G7
  rw [dif_pos (lt_of_eq_of_lt hp (pt _ 1).isLt), hl, Cert.FfnIdeal.Value.fold0_congr m c _ _ _ (by have := (pt ⟨r.val / 512, by omega⟩ 1).isLt; omega) hp,
    ← Cert.FfnIdeal.Value.outsAt0_sweep m c _ (pt _ 1).isLt, out_apply]
  congr 1
  exact Fin.ext (show r.val / 512 * 512 + r.val % 512 = r.val by omega)

end Cert.FfnV
-- ==== Proof.FfnV.Ref.lean ====
/- The plain reference of the dense feed-forward block, read at an index. -/
module

public import proofs.«01_k».proof.Proof.FfnV.Spec
public import proofs.«01_k».proof.Proof.Gen.FfnReferenceIdeal.Read

@[expose] public section

set_option maxRecDepth 16384

noncomputable section

namespace Cert.FfnV

open Cert.FfnReferenceIdeal Cert.FfnReferenceIdeal.Gen Cert.FfnReferenceIdeal.Read Idealize.ShloMosaic Idealize.ShloMosaic.TcCoe Idealize.SL.Sem

variable (x0 : (⟨S12288x1024, .f32⟩ : BufTy).Contents (Elt Ideal)) (x1 : (⟨S3x8x1024, .f32⟩ : BufTy).Contents (Elt Ideal))
  (x2 x3 : (⟨S1x1024, .f32⟩ : BufTy).Contents (Elt Ideal)) (x4 x5 : (⟨S1024x2816, .f32⟩ : BufTy).Contents (Elt Ideal))
  (x6 : (⟨S2816x1024, .f32⟩ : BufTy).Contents (Elt Ideal))

/-- The argument arrays, read by their coordinates. -/
def argsOf : Args where
  x r k := x0 (ix2 r k)
  md b j k := x1 (ix3 b j k)
  gpre k := x2 (ix2 0 k)
  gpost k := x3 (ix2 0 k)
  wg k f := x4 (ix2 k f)
  wu k f := x5 (ix2 k f)
  wd f k := x6 (ix2 f k)

/-- The row that the reference's group `b` and place `s` name. -/
def rowOf (b : Fin 3) (s : Fin 4096) : Fin 12288 := ⟨b.val * 4096 + s.val, by omega⟩

/-- That row lies in group `b`. -/
theorem grp_rowOf (b : Fin 3) (s : Fin 4096) : Args.grp (rowOf b s) = b :=
  Fin.ext (show (b.val * 4096 + s.val) / 4096 = b.val by omega)

/-- The reference's modulated row. -/
theorem ref_hid (b : Fin 3) (s : Fin 4096) (k : Fin 1024) :
    val_main_v22 x0 x1 x2 (ix3 b s k) = (argsOf x0 x1 x2 x3 x4 x5 x6).hid (rowOf b s) k := by
  pointwise [val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold Args.hid
  rw [grp_rowOf]
  rfl

/-- The reference's hidden unit. -/
theorem ref_act (b : Fin 3) (s : Fin 4096) (f : Fin 2816) :
    val_main_v26 x0 x1 x2 x4 x5 (ix3 b s f) = (argsOf x0 x1 x2 x3 x4 x5 x6).act (rowOf b s) f := by
  pointwise [val_main_v26, val_main_v25, val_main_v24, val_main_v23, val_main_call0_v5, val_main_call0_v4, val_main_call0_v3, val_main_call0_v2, val_main_call0_v1, val_main_call0_v0, val_main_call0_cst, val_main_call0_cst_0]
  simp only [ref_hid x0 x1 x2 x3 x4 x5 x6]
  rfl

/-- The reference's result before its rows are laid out flat. -/
theorem ref_res (b : Fin 3) (s : Fin 4096) (f : Fin 1024) :
    val_main_v43 x0 x1 x2 x3 x4 x5 x6 (ix3 b s f) = (argsOf x0 x1 x2 x3 x4 x5 x6).res (rowOf b s) f := by
  pointwise [val_main_v43, val_main_v42, val_main_v41, val_main_v40, val_main_v39, val_main_v38, val_main_v37, val_main_v36, val_main_v35, val_main_v34, val_main_v33, val_main_v32, val_main_v31, val_main_v30, val_main_v29, val_main_v28, val_main_v27,  val_main_cst_3, val_main_cst_4, val_main_cst_5, val_main_v3, val_main_v0]
  simp only [ref_act x0 x1 x2 x3 x4 x5 x6]
  unfold Args.res
  rw [grp_rowOf]
  rfl

/-- The reference's result at row `r`. -/
theorem ref_out (r : Fin 12288) (k : Fin 1024) :
    val_main_v44 x0 x1 x2 x3 x4 x5 x6 (ix2 r k) = (argsOf x0 x1 x2 x3 x4 x5 x6).res r k := by
  pointwise [val_main_v44]
  rw [ref_res]
  congr 1
  apply Fin.ext
  show r.val / 4096 * 4096 + r.val % 4096 = r.val
  omega

end Cert.FfnV
-- ==== Proof.FfnV.Claim.lean ====
/- The dense feed-forward kernel against its reference: the equation of the two results and the claims about the pair. -/
module

public import proofs.«01_k».proof.Defs
public import proofs.«01_k».proof.Proof.FfnV.Block
public import proofs.«01_k».proof.Proof.FfnV.Ref
public import proofs.«01_k».proof.Proof.Gen.Ffn.Frame
public import proofs.«01_k».proof.Proof.Gen.FfnIdeal
public import proofs.«01_k».proof.Proof.Gen.FfnReferenceIdeal

@[expose] public section

set_option maxRecDepth 16384

noncomputable section

namespace Cert.FfnV

open Idealize.ShloMosaic Idealize.ShloMosaic.TcCoe Idealize.SL.Sem

attribute [local instance] Cert.Ffn.Gen.facts Cert.FfnIdeal.Gen.facts Cert.FfnReferenceIdeal.Gen.facts

/-- From memories agreeing on the arguments, the kernel's result array is the reference's. -/
theorem results_eq (m : (ℓ : Loc Cert.FfnIdeal.nD Cert.FfnIdeal.τ Cert.FfnIdeal.sig) → Buf (Elt Ideal) ℓ)
    (m' : (ℓ : Loc Cert.FfnReferenceIdeal.nD Cert.FfnReferenceIdeal.τ Cert.FfnReferenceIdeal.sig) → Buf (Elt Ideal) ℓ)
    (c : Dev Cert.FfnIdeal.nD)
    (h0 : m' (c.tc.loc Cert.FfnReferenceIdeal.main_arg0) = m (c.tc.loc Cert.FfnIdeal.main_arg0))
    (h1 : m' (c.tc.loc Cert.FfnReferenceIdeal.main_arg1) = m (c.tc.loc Cert.FfnIdeal.main_arg1))
    (h2 : m' (c.tc.loc Cert.FfnReferenceIdeal.main_arg2) = m (c.tc.loc Cert.FfnIdeal.main_arg2))
    (h3 : m' (c.tc.loc Cert.FfnReferenceIdeal.main_arg3) = m (c.tc.loc Cert.FfnIdeal.main_arg3))
    (h4 : m' (c.tc.loc Cert.FfnReferenceIdeal.main_arg4) = m (c.tc.loc Cert.FfnIdeal.main_arg4))
    (h5 : m' (c.tc.loc Cert.FfnReferenceIdeal.main_arg5) = m (c.tc.loc Cert.FfnIdeal.main_arg5))
    (h6 : m' (c.tc.loc Cert.FfnReferenceIdeal.main_arg6) = m (c.tc.loc Cert.FfnIdeal.main_arg6)) :
    Cert.FfnReferenceIdeal.Value.res_main_v44 m' c = Cert.FfnIdeal.Value.G7 m c := by
  rw [Cert.FfnReferenceIdeal.Read.val_main_v44_eq, h0, h1, h2, h3, h4, h5, h6]
  funext i
  have hi : i = ix2 (i 0) (i 1) := by funext a; match a with | ⟨0, _⟩ => rfl | ⟨1, _⟩ => rfl
  rw [hi]
  exact (ref_out ..).trans (G7_apply m c (i 0) (i 1)).symm

/-- The kernel's frame. -/
theorem frame_k : Cert.quiescent_Ffn := fun m ρ _ => Cert.Ffn.Gen.frame m ρ

/-- The idealized kernel's frame. -/
theorem frame_ki : Cert.quiescent_FfnIdeal := fun m ρ _ => Cert.FfnIdeal.Gen.frame m ρ

/-- The reference's frame. -/
theorem frame_r : Cert.quiescent_FfnReferenceIdeal := fun m ρ _ => by
  refine (θ_run _ _ _).mono (fun r h => ?_) (Cert.FfnReferenceIdeal.Value.run m ρ)
  exact ⟨fun c => (h c).2, sem_eq_zero_of_no_sems (by decide) _⟩

/-- The kernel computes the reference's result. -/
theorem algebraic : Cert.algebraic_FfnIdeal_FfnReferenceIdeal := fun m g m' g' _ hm => by
  refine ⟨fun c => Cert.FfnIdeal.Value.G7 m c, Cert.FfnIdeal.Value.run m g, ?_⟩
  refine (θ_run _ _ _).mono (fun r h c => ?_) (Cert.FfnReferenceIdeal.Value.run m' g')
  obtain ⟨h0, h1, h2, h3, h4, h5, h6⟩ := hm c
  exact ⟨(h c).1.trans (results_eq m m' c h0 h1 h2 h3 h4 h5 h6), (h c).2⟩

end Cert.FfnV
-- ==== Proof.MoeV.Flight.lean ====
/- The rows a tile of the expert call gathers: which rows of the activations go to which rows of the scratch buffer,
   what a copy in flight delivers, and the state of the buffer's two halves between grid points. -/
module

public import proofs.«01_k».proof.Proof.Gen.MoeIdeal
public import proofs.«01_k».proof.Proof.Gen.MoeIdeal.Skeleton
public import proofs.«01_k».proof.Proof.Gen.MoeIdeal.Launch
public import Idealize.ShloMosaic.Lib.Pipeline.Frame
public import Idealize.ShloMosaic.Lib.Batch
public import Idealize.ShloMosaic.Lib.Pipeline.ValueKit
public import Idealize.ShloMosaic.Lib.Pipeline.ReadBack
public import Idealize.ShloMosaic.Lib.Ring
public import Idealize.ShloMosaic.Lib.Tactic

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The counters the copies in flight are accounted with. -/
abbrev EC : UEmb Counters (MT nD τ sig Unit (Elt F) ℕ (Pipeline.UD sig nD τ) ℕ) :=
  countersEmb (U := Pipeline.UD sig nD τ)

/-! ## Rows -/

theorem box_inb (s j : ℕ) (hs : s < 2) (hj : j < 512) : ∀ a, (![4096 * s + 8 * j, 0] : Fin 2 → ℕ) a + S8x128.size a ≤ S8192x128.size a := by
  intro a; fin_cases a
  · show 4096 * s + 8 * j + 8 ≤ 8192; omega
  · show 0 + 128 ≤ 128; omega
/-- The eight rows of the scratch buffer that row `j` of a tile is gathered to, in half `μ % 2`. -/
abbrev box (μ : ℕ) (j : Fin 512) : Finset S8192x128.Idx :=
  (Rect.unit (s := S8192x128) ![4096 * (μ % 2) + 8 * j.val, 0] S8x128.size (box_inb (μ % 2) j.val (Nat.mod_lt _ (by decide)) j.isLt)).set
theorem mem_box (μ : ℕ) (j : Fin 512) (y : S8192x128.Idx) : y ∈ box μ j ↔ (y 0).val / 8 = 512 * (μ % 2) + j.val := by
  rw [Rect.mem_set_unit]
  have h1 : (y 1).val < 128 := (y 1).isLt
  constructor
  · intro H; have a0 : 4096 * (μ % 2) + 8 * j.val ≤ (y 0).val ∧ (y 0).val < 4096 * (μ % 2) + 8 * j.val + 8 := H 0; omega
  · intro H a; fin_cases a
    · show 4096 * (μ % 2) + 8 * j.val ≤ (y 0).val ∧ (y 0).val < 4096 * (μ % 2) + 8 * j.val + 8; omega
    · show 0 ≤ (y 1).val ∧ (y 1).val < 0 + 128; omega
/-- Half `μ % 2` of the scratch buffer. -/
def half (μ : ℕ) : Finset S8192x128.Idx := Finset.univ.filter fun y => (y 0).val / 4096 = μ % 2
theorem mem_half (μ : ℕ) (y : S8192x128.Idx) : y ∈ half μ ↔ (y 0).val / 4096 = μ % 2 := by simp [half]
theorem box_disjoint (μ : ℕ) : ∀ j j' : Fin 512, j ≠ j' → Disjoint (box μ j) (box μ j') := fun j j' hne => by
  rw [Finset.disjoint_left]; intro y hy hy'; rw [mem_box] at hy hy'; exact hne (Fin.ext (by omega))
theorem box_cover (μ : ℕ) : Finset.univ.biUnion (box μ) = half μ := by
  ext y; simp only [Finset.mem_biUnion, Finset.mem_univ, true_and, mem_box, mem_half]
  have h0 : (y 0).val < 8192 := (y 0).isLt
  constructor
  · rintro ⟨j, hj⟩; have := j.isLt; omega
  · intro h; refine ⟨⟨(y 0).val / 8 - 512 * (μ % 2), by omega⟩, ?_⟩; dsimp only; omega
theorem half_union (μ : ℕ) : half μ ∪ half (μ + 1) = Finset.univ := by
  ext y; simp only [Finset.mem_union, mem_half, Finset.mem_univ, iff_true]
  have h0 : (y 0).val < 8192 := (y 0).isLt; omega
theorem half_disjoint (μ : ℕ) : Disjoint (half μ) (half (μ + 1)) := by
  rw [Finset.disjoint_left]; intro y hy hy'; rw [mem_half] at hy hy'; omega

theorem srcBox_inb (w : ℕ) (hw : w < 12288) : ∀ a, (![8 * w, 0] : Fin 2 → ℕ) a + S8x128.size a ≤ S98304x128.size a := by
  intro a; fin_cases a
  · show 8 * w + 8 ≤ 98304; omega
  · show 0 + 128 ≤ 128; omega
/-- The eight rows of the activations that hold token `w`. -/
abbrev srcBox (w : ℕ) (hw : w < 12288) : Finset S98304x128.Idx :=
  (Rect.unit (s := S98304x128) ![8 * w, 0] S8x128.size (srcBox_inb w hw)).set

/-- The token row `j` of tile `μ` is gathered from: the table's word at `512 μ + j`. -/
def word (T : S28672.Idx → BitVec 32) (μ j : ℕ) : ℕ :=
  (T (ix1 (⟨(512 * μ + j) % 28672, Nat.mod_lt _ (by decide)⟩ : Fin 28672))).toNat % 12288
theorem word_lt (T : S28672.Idx → BitVec 32) (μ j : ℕ) : word T μ j < 12288 := Nat.mod_lt _ (by decide)

/-- What the rows of half `μ % 2` hold once tile `μ` is gathered (stated at every row of the buffer). -/
def gath (T : S28672.Idx → BitVec 32) (H : S98304x128.Idx → Elt F .f32) (μ : ℕ) : S8192x128.Idx → Elt F .f32 := fun y =>
  H (ix2 (⟨8 * word T μ ((y 0).val / 8 % 512) + (y 0).val % 8,
        by have := word_lt T μ ((y 0).val / 8 % 512); omega⟩ : Fin 98304) (⟨(y 1).val, (y 1).isLt⟩ : Fin 128))

/-! ## Cells -/

theorem cell_inb (s : ℕ) (hs : s < 2) : ∀ a, (![s] : Fin 1 → ℕ) a + S1.size a ≤ S2.size a := by
  intro a; fin_cases a; show s + 1 ≤ 2; omega
/-- The semaphore of half `μ % 2`. -/
def cell (μ : ℕ) : DmaSem sig :=
  ((cc0_scratch3.slice (Rect.unit (s := S2) ![μ % 2] S1.size (cell_inb (μ % 2) (Nat.mod_lt _ (by decide))))).squeeze S_ squeezes_S1_S_).sem
theorem cell_eq (o : Fin 1 → ℕ) (h : ∀ a, o a + S1.size a ≤ S2.size a) (μ : ℕ) (e : o = ![μ % 2]) :
    ((cc0_scratch3.slice (Rect.unit (s := S2) o S1.size h)).squeeze S_ squeezes_S1_S_).sem = cell μ := by
  subst e; rfl
theorem cell_mod (μ ν : ℕ) (h : μ % 2 = ν % 2) : cell μ = cell ν :=
  (cell_eq _ (cell_inb (μ % 2) (Nat.mod_lt _ (by decide))) ν (by rw [h]))

/-! ## Copies in flight -/

section Flight

variable (c : Dev nD) (T : S28672.Idx → BitVec 32) (H : S98304x128.Idx → Elt F .f32)

/-- Eight rows of the scratch buffer, and of the activations. -/
abbrev xAt (S : Finset S8192x128.Idx) (f : S8192x128.Idx → Elt F .f32) : sProp 𝕄 :=
  ((c : Thread nD τ).loc cc0_scratch0) ↦[S]{fullShare} f
abbrev hAt (S : Finset S98304x128.Idx) (q : PosShare TreeShare) : sProp 𝕄 :=
  ((c : Thread nD τ).loc main_arg0) ↦[S]{q} H

/-- What copy `j` of tile `μ` delivers: its rows of the scratch buffer gathered, and the read share of its source. -/
abbrev dlv (μ : ℕ) (j : Fin 512) : sProp 𝕄 :=
  iprop(xAt c (box μ j) (gath T H μ) ∗ hAt c H (srcBox (word T μ j.val) (word_lt T μ j.val)) (Transfers.shareTokN fullShare j.val))
/-- The rest of copy `j`'s read share, kept while it is in flight. -/
abbrev keep (μ : ℕ) (j : Fin 512) : sProp 𝕄 :=
  hAt c H (Finset.univ \ srcBox (word T μ j.val) (word_lt T μ j.val)) (Transfers.shareTokN fullShare j.val)

/-- Tile `μ`'s copies: `k` started, `u` units of their credit consumed. -/
abbrev batch (μ k u : ℕ) : sProp 𝕄 :=
  Transfers.Batch EC (c : Thread nD τ) (.dma (cell μ)) () 128 (dlv c T H μ) k u

/-- No copy in flight: both cells at zero, the activations held whole. -/
abbrev idleSt : sProp 𝕄 :=
  iprop(semVal ((c : Thread nD τ), SemLoc.dma (cell 0)) 0 ∗ semVal ((c : Thread nD τ), SemLoc.dma (cell 1)) 0 ∗ hAt c H Finset.univ fullShare)
/-- All copies of tile `μ` in flight, the other cell at zero. -/
abbrev flySt (μ : ℕ) : sProp 𝕄 :=
  iprop(batch c T H μ 512 0 ∗ bigSep Finset.univ (keep c T H μ) ∗ hAt c H Finset.univ (Transfers.shareDrop fullShare 512)
    ∗ semVal ((c : Thread nD τ), SemLoc.dma (cell (μ + 1))) 0)

/-- A read token of the activations is its source rows and the rest. -/
theorem tok_split (μ : ℕ) (j : Fin 512) :
    hAt c H Finset.univ (Transfers.shareTokN fullShare j.val)
      ⊢ iprop(hAt c H (srcBox (word T μ j.val) (word_lt T μ j.val)) (Transfers.shareTokN fullShare j.val) ∗ keep c T H μ j) :=
  (pointsTo_split_subset (Finset.subset_univ _)).1
theorem tok_join (μ : ℕ) (j : Fin 512) :
    iprop(hAt c H (srcBox (word T μ j.val) (word_lt T μ j.val)) (Transfers.shareTokN fullShare j.val) ∗ keep c T H μ j)
      ⊢ hAt c H Finset.univ (Transfers.shareTokN fullShare j.val) :=
  (pointsTo_split_subset (Finset.subset_univ _)).2

theorem toks_range : (bigSep Finset.univ fun j : Fin 512 => hAt c H Finset.univ (Transfers.shareTokN fullShare j.val))
    = bigSep (Finset.range 512) fun j => hAt c H Finset.univ (Transfers.shareTokN fullShare j) := by
  rw [← Ring.rangeSet_univ]
  exact Ring.bigSep_rangeSet_eq_range (NB := 512) (lo := 0) (hi := 512) le_rfl
    (fun j => hAt c H Finset.univ (Transfers.shareTokN fullShare j)) (fun k hk => by simp only [Nat.zero_add])
/-- The activations whole are the read tokens of 512 copies and the rest of the share, -/
theorem h_toks : hAt c H Finset.univ fullShare
    ⊢ iprop(hAt c H Finset.univ (Transfers.shareDrop fullShare 512)
        ∗ bigSep Finset.univ fun j : Fin 512 => hAt c H Finset.univ (Transfers.shareTokN fullShare j.val)) := by
  rw [toks_range]; exact (Transfers.pointsTo_toks_range fullShare 512).1
/-- and back. -/
theorem h_untok : iprop(hAt c H Finset.univ (Transfers.shareDrop fullShare 512)
        ∗ bigSep Finset.univ fun j : Fin 512 => hAt c H Finset.univ (Transfers.shareTokN fullShare j.val))
    ⊢ hAt c H Finset.univ fullShare := by
  rw [toks_range]; exact (Transfers.pointsTo_toks_range fullShare 512).2

/-- Half `μ % 2` of the scratch buffer is its 512 boxes. -/
theorem half_boxes (μ : ℕ) (f : S8192x128.Idx → Elt F .f32) :
    xAt c (half μ) f = bigSep Finset.univ fun j : Fin 512 => xAt c (box μ j) f :=
  Ring.pointsTo_sub_blocks (ℓ := (c : Thread nD τ).loc cc0_scratch0) (box μ) (box_disjoint μ) (half μ) (box_cover μ) f

theorem dlv_storable (μ : ℕ) (j : Fin 512) : BI.Storable (upEmb : UEmb _ 𝕄) (dlv c T H μ j) := inferInstance

end Flight

end Cert.MoeIdeal.V
-- ==== Proof.MoeV.Issue.lean ====
/- One copy of a gathered row: the step that starts it, and the step that waits for one. -/
module

public import proofs.«01_k».proof.Proof.MoeV.Flight

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Eight rows of the scratch buffer and eight rows of the activations, as the kernel slices them. -/
abbrev dstRow (o : Fin 2 → ℕ) (h : ∀ a, o a + S8x128.size a ≤ S8192x128.size a) : Memref sig .tc .vmem S8x128 .f32 :=
  (Memref.whole cc0_scratch0).slice (Rect.unit (s := S8192x128) o S8x128.size h) (fun _ => rfl)
abbrev srcRow (o : Fin 2 → ℕ) (h : ∀ a, o a + S8x128.size a ≤ S98304x128.size a) : Memref sig .tc .hbm S8x128 .f32 :=
  (Memref.whole main_arg0).slice (Rect.unit (s := S98304x128) o S8x128.size h) (fun _ => rfl)
abbrev semAt (o : Fin 1 → ℕ) (h : ∀ a, o a + S1.size a ≤ S2.size a) : DmaSem sig :=
  ((cc0_scratch3.slice (Rect.unit (s := S2) o S1.size h)).squeeze S_ squeezes_S1_S_).sem

section Step

variable (c : Dev nD) (T : S28672.Idx → BitVec 32) (H : S98304x128.Idx → Elt F .f32)

/-- What a landed copy leaves in its rows is what the tile gathers there. -/
theorem landed (μ : ℕ) (j : Fin 512) (hd) (hs) (fd : S8192x128.Idx → Elt F .f32) (y : S8192x128.Idx) (hy : y ∈ box μ j) :
    (dstRow ![4096 * (μ % 2) + 8 * j.val, 0] hd).view.write (Elt F) fd
      ((srcRow ![8 * word T μ j.val, 0] hs).view.read (Elt F) H) Finset.univ y = gath T H μ y := by
  have h0 := (mem_box μ j y).1 hy
  have h1 : (y 1).val < 128 := (y 1).isLt
  have hj := j.isLt
  have e : y = (dstRow ![4096 * (μ % 2) + 8 * j.val, 0] hd).view.emb
      (ix2 (⟨(y 0).val % 8, Nat.mod_lt _ (by decide)⟩ : Fin 8) (⟨(y 1).val, h1⟩ : Fin 128)) := by
    funext a; fin_cases a
    · apply Fin.ext
      show (y 0).val = (4096 * (μ % 2) + 8 * j.val) + 1 * ((y 0).val % 8)
      omega
    · apply Fin.ext
      show (y 1).val = 0 + 1 * (y 1).val
      omega
  have k : (y 0).val / 8 % 512 = j.val := by omega
  conv_lhs => rw [e]
  rw [View.write_emb_of_mem _ _ (Finset.mem_univ _)]
  show H _ = H _
  congr 1
  funext a; fin_cases a
  · apply Fin.ext
    show 8 * word T μ j.val + 1 * ((y 0).val % 8) = 8 * word T μ ((y 0).val / 8 % 512) + (y 0).val % 8
    rw [k]; omega
  · apply Fin.ext
    show 0 + 1 * (y 1).val = (y 1).val
    omega

/-- Starting copy `j` of tile `μ`: its rows, a read token and the batch so far go in; the batch with one more copy and the
    rest of the token come back. -/
theorem issue_row {𝒟 : Defs nD τ sig (Elt F) Λ₀} (𝒱 : Variants) {bd : Option 𝒱.V} {α : Type} {Q : α → sProp 𝕄}
    {k : PUnit → Prog (TpuEff nD τ sig (Elt F) Λ₀ .tc) α} (od os : Fin 2 → ℕ) (oc : Fin 1 → ℕ) (hd) (hs) (hc)
    {h1 : (srcRow os hs).view.WordExact} {h2 : (dstRow od hd).view.WordExact} {h3}
    (μ j : ℕ) (hj : j < 512) (ed : od = ![4096 * (μ % 2) + 8 * j, 0]) (es : os = ![8 * word T μ j, 0]) (ec : oc = ![μ % 2]) :
    iprop((∃ f, xAt c (box μ ⟨j, hj⟩) f) ∗ hAt c H Finset.univ (Transfers.shareTokN fullShare j) ∗ batch c T H μ j 0)
      ⊢ iprop((iprop(batch c T H μ (j + 1) 0 ∗ keep c T H μ ⟨j, hj⟩) -∗ wp frame (wpE 𝒟 𝒱 (c : Thread nD τ) bd) Set.univ (k ⟨⟩) Q)
        -∗ wp frame (wpE 𝒟 𝒱 (c : Thread nD τ) bd) Set.univ
          (.op (.enqueueDma (srcRow os hs) (.here (dstRow od hd)) (.dma (semAt oc hc)) h1 h2 h3) k) Q) := by
  subst ed es ec
  iintro ⟨⟨%f, Hx⟩, Ht, HB⟩ Hk
  ihave Ht' := (tok_split c T H μ ⟨j, hj⟩) $$ Ht
  icases Ht' with ⟨Hs, Hr⟩
  iapply (Transfers.wp_dmaBatch EC 𝒱 (c : Thread nD τ) bd (src := srcRow _ hs) (dst := dstRow _ hd) (sm := .dma (semAt _ hc))
    (via := ReadAs.same) (fs := H) (fd := f) (Sd := box μ ⟨j, hj⟩) (D := dlv c T H μ) (j := j) (u := 0)
    (q := Transfers.shareTokN fullShare j) () 128 rfl (subset_of_eq (View.set_slice_whole _ _)) hj (Nat.zero_le _) ?_) $$ [Hs Hx HB]
  · iintro ⟨Hx, Hs⟩
    isplitl [Hx]
    · iapply (Entails.of_eq (pointsTo_congr fun y hy => landed T H μ ⟨j, hj⟩ hd hs f y hy)) $$ Hx
    · iapply (Entails.of_eq (congrArg (fun S => hAt c H S (Transfers.shareTokN fullShare j)) (View.set_slice_whole main_arg0 _))) $$ Hs
  · isplitl [Hs]
    · iapply (Entails.of_eq (congrArg (fun S => hAt c H S (Transfers.shareTokN fullShare j)) (View.set_slice_whole main_arg0 _).symm)) $$ Hs
    isplitl [Hx]; · iexact Hx
    iexact HB
  iintro HB
  iapply Hk
  isplitl [HB]; · iexact HB
  iexact Hr

/-- Waiting for one copy's credit on tile `μ`'s cell: nothing comes back but the count. -/
theorem wait_row {𝒟 : Defs nD τ sig (Elt F) Λ₀} (𝒱 : Variants) {bd : Option 𝒱.V} {α : Type} {Q : α → sProp 𝕄}
    {k : PUnit → Prog (TpuEff nD τ sig (Elt F) Λ₀ .tc) α} (od os : Fin 2 → ℕ) (oc : Fin 1 → ℕ) (hd) (hs) (hc)
    {h1 : (srcRow os hs).view.WordExact} {h2 : (dstRow od hd).view.WordExact}
    (μ j : ℕ) (hj : j < 512) (ec : oc = ![μ % 2]) (W : Waits sig Unit) :
    iprop(batch c T H μ 512 (128 * j) ∗ owes (c : Thread nD τ) 0 W)
      ⊢ iprop((iprop(batch c T H μ 512 (128 * (j + 1)) ∗ owes (c : Thread nD τ) 0 (insert (SemLoc.dma (cell μ), ()) W))
            -∗ wp frame (wpE 𝒟 𝒱 (c : Thread nD τ) bd) Set.univ (k ⟨⟩) Q)
        -∗ wp frame (wpE 𝒟 𝒱 (c : Thread nD τ) bd) Set.univ
          (.op (.waitDma2 (semAt oc hc) (srcRow os hs) (dstRow od hd) h1 h2) k) Q) := by
  subst ec
  iintro ⟨HB, HO⟩ Hk
  iapply (Transfers.wp_waitBatchMul EC 𝒱 (c : Thread nD τ) bd (srcw := srcRow _ hs) (dstw := dstRow _ hd) (sem := semAt _ hc)
    () (N := 128) 1 rfl (D := dlv c T H μ) (j := 512) (u := 128 * j) (by omega) (W := W)) $$ [HB HO]
  · isplitl [HB]; · iexact HB
    iexact HO
  iintro ⟨HB, HO⟩
  iapply Hk
  isplitl [HB]; · iexact HB
  iexact HO

end Step

end Cert.MoeIdeal.V
-- ==== Proof.MoeV.Off.lean ====
/- The offsets of the expert call's copies and of its strided reads, in closed form, and the tokens its table words name. -/
module

public import proofs.«01_k».proof.Proof.MoeV.Flight
public import Idealize.ShloMosaic.Lib.WordCmp
public import Idealize.ShloMosaic.Lib.Affine

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Affine
theorem off8_eq (i : grid0.Coords) : k0_off8 i = ![(i 0).val % 2] := by
  have r_i0 : (i 0).val < 56 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v13 : Affine.Fails _ := Affine.eq_fails h_c2_i32 h_c0_i32_3 (by omega)
  have h_c1_i32 : Affine.IsInt 1#32 (1) := Affine.ofNat _ (by omega)
  have h_v14 : Affine.IsInt _ (2) := Affine.select_fails h_v13 h_c1_i32 h_c2_i32 (by omega)
  have h_v15 : Affine.IsInt _ ((((i 0).val : Int) % 2)) := Affine.remsi h_arg0 h_v14 (by omega)
  have h_c0_i32_5 : Affine.IsInt 0#32 (0) := Affine.ofNat _ (by omega)
  have h_v17 : Affine.Fails _ := Affine.slt_fails h_v15 h_c0_i32_5 (by omega)
  have h_c0_i32_6 : Affine.IsInt 0#32 (0) := Affine.ofNat _ (by omega)
  have h_v18 : Affine.Fails _ := Affine.slt_fails h_v14 h_c0_i32_6 (by omega)
  have h_v19 : Affine.Fails _ := Affine.xori_ff h_v17 h_v18
  have h_c0_i32_4 : Affine.IsInt 0#32 (0) := Affine.ofNat _ (by omega)
  have h_v16 : Affine.Term _ := Affine.cmpi_term .ne h_v15 h_c0_i32_4
  have h_v20 : Affine.Fails _ := Affine.andi_fails_left h_v19 h_v16
  have h_v21 : Affine.IsInt _ ((((i 0).val : Int) % 2) + 2) := Affine.addi h_v15 h_v14 (by omega)
  have h_v22 : Affine.IsInt _ ((((i 0).val : Int) % 2)) := Affine.select_fails h_v20 h_v21 h_v15 (by omega)
  exact Affine.vec_cons h_v22 (by omega) <| Affine.vec_nil
theorem off9_eq (i : grid0.Coords) (k0_t2 : Fin k0_t2_loop.trips) : k0_off9 i k0_t2 = ![4096 * ((i 0).val % 2) + 8 * k0_t2.val, 0] := by
  have r_i0 : (i 0).val < 56 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v13 : Affine.Fails _ := Affine.eq_fails h_c2_i32 h_c0_i32_3 (by omega)
  have h_c1_i32 : Affine.IsInt 1#32 (1) := Affine.ofNat _ (by omega)
  have h_v14 : Affine.IsInt _ (2) := Affine.select_fails h_v13 h_c1_i32 h_c2_i32 (by omega)
  have h_v15 : Affine.IsInt _ ((((i 0).val : Int) % 2)) := Affine.remsi h_arg0 h_v14 (by omega)
  have h_c0_i32_5 : Affine.IsInt 0#32 (0) := Affine.ofNat _ (by omega)
  have h_v17 : Affine.Fails _ := Affine.slt_fails h_v15 h_c0_i32_5 (by omega)
  have h_c0_i32_6 : Affine.IsInt 0#32 (0) := Affine.ofNat _ (by omega)
  have h_v18 : Affine.Fails _ := Affine.slt_fails h_v14 h_c0_i32_6 (by omega)
  have h_v19 : Affine.Fails _ := Affine.xori_ff h_v17 h_v18
  have h_c0_i32_4 : Affine.IsInt 0#32 (0) := Affine.ofNat _ (by omega)
  have h_v16 : Affine.Term _ := Affine.cmpi_term .ne h_v15 h_c0_i32_4
  have h_v20 : Affine.Fails _ := Affine.andi_fails_left h_v19 h_v16
  have h_v21 : Affine.IsInt _ ((((i 0).val : Int) % 2) + 2) := Affine.addi h_v15 h_v14 (by omega)
  have h_v22 : Affine.IsInt _ ((((i 0).val : Int) % 2)) := Affine.select_fails h_v20 h_v21 h_v15 (by omega)
  have h_c512_i32 : Affine.IsInt 512#32 (512) := Affine.ofNat _ (by omega)
  have h_v26 : Affine.IsInt _ (512 * (((i 0).val : Int) % 2)) := Affine.muli h_v22 h_c512_i32 (by omega)
  have h_c0_i32_9 : Affine.IsInt 0#32 (0) := Affine.ofNat _ (by omega)
  have h_c1_i32_11 : Affine.IsInt 1#32 (1) := Affine.ofNat _ (by omega)
  have r_k0_t2 : k0_t2.val < 512 := Nat.lt_of_lt_of_le k0_t2.isLt k0_t2_abs.2.1
  have h_arg14 : Affine.IsInt _ ((k0_t2.val : Int)) := Affine.iv h_c0_i32_9 h_c1_i32_11 k0_t2.val (by omega)
  have c_arg14 : (k0_t2.val : Int) ≤ 512 - 1 := Affine.iv_lt k0_t2_abs.1 k0_t2.isLt k0_t2_abs.2.2 h_arg14
  have h_v67 : Affine.IsInt _ (512 * (((i 0).val : Int) % 2) + (k0_t2.val : Int)) := Affine.addi h_v26 h_arg14 (by omega)
  have h_c8_i32_33 : Affine.IsInt 8#32 (8) := Affine.ofNat _ (by omega)
  have h_v69 : Affine.IsInt _ (4096 * (((i 0).val : Int) % 2) + 8 * (k0_t2.val : Int)) := Affine.muli h_v67 h_c8_i32_33 (by omega)
  have h_c0_i32_34 : Affine.IsInt 0#32 (0) := Affine.ofNat _ (by omega)
  exact Affine.vec_cons h_v69 (by omega) <| Affine.vec_cons (Affine.ofNat 0 (by omega) : Affine.IsInt 0#32 0) (by omega) <| Affine.vec_nil
theorem off11_eq (i : grid0.Coords) : k0_off11 i = ![((i 0).val + 1) % 2] := by
  have h_c1_i32_36 : Affine.IsInt 1#32 (1) := Affine.ofNat _ (by omega)
  have r_i0 : (i 0).val < 56 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v13 : Affine.Fails _ := Affine.eq_fails h_c2_i32 h_c0_i32_3 (by omega)
  have h_c1_i32 : Affine.IsInt 1#32 (1) := Affine.ofNat _ (by omega)
  have h_v14 : Affine.IsInt _ (2) := Affine.select_fails h_v13 h_c1_i32 h_c2_i32 (by omega)
  have h_v15 : Affine.IsInt _ ((((i 0).val : Int) % 2)) := Affine.remsi h_arg0 h_v14 (by omega)
  have h_c0_i32_5 : Affine.IsInt 0#32 (0) := Affine.ofNat _ (by omega)
  have h_v17 : Affine.Fails _ := Affine.slt_fails h_v15 h_c0_i32_5 (by omega)
  have h_c0_i32_6 : Affine.IsInt 0#32 (0) := Affine.ofNat _ (by omega)
  have h_v18 : Affine.Fails _ := Affine.slt_fails h_v14 h_c0_i32_6 (by omega)
  have h_v19 : Affine.Fails _ := Affine.xori_ff h_v17 h_v18
  have h_c0_i32_4 : Affine.IsInt 0#32 (0) := Affine.ofNat _ (by omega)
  have h_v16 : Affine.Term _ := Affine.cmpi_term .ne h_v15 h_c0_i32_4
  have h_v20 : Affine.Fails _ := Affine.andi_fails_left h_v19 h_v16
  have h_v21 : Affine.IsInt _ ((((i 0).val : Int) % 2) + 2) := Affine.addi h_v15 h_v14 (by omega)
  have h_v22 : Affine.IsInt _ ((((i 0).val : Int) % 2)) := Affine.select_fails h_v20 h_v21 h_v15 (by omega)
  have h_v72 : Affine.IsInt _ (-(((i 0).val : Int) % 2) + 1) := Affine.subi h_c1_i32_36 h_v22 (by omega)
  exact Affine.vec_cons h_v72 (by omega) <| Affine.vec_nil
theorem off12_eq (i : grid0.Coords) (k0_t3 : Fin k0_t3_loop.trips) : k0_off12 i k0_t3 = ![4096 * (((i 0).val + 1) % 2) + 8 * (2 * k0_t3.val), 0] := by
  have h_c1_i32_34 : Affine.IsInt 1#32 (1) := Affine.ofNat _ (by omega)
  have r_i0 : (i 0).val < 56 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v13 : Affine.Fails _ := Affine.eq_fails h_c2_i32 h_c0_i32_3 (by omega)
  have h_c1_i32 : Affine.IsInt 1#32 (1) := Affine.ofNat _ (by omega)
  have h_v14 : Affine.IsInt _ (2) := Affine.select_fails h_v13 h_c1_i32 h_c2_i32 (by omega)
  have h_v15 : Affine.IsInt _ ((((i 0).val : Int) % 2)) := Affine.remsi h_arg0 h_v14 (by omega)
  have h_c0_i32_5 : Affine.IsInt 0#32 (0) := Affine.ofNat _ (by omega)
  have h_v17 : Affine.Fails _ := Affine.slt_fails h_v15 h_c0_i32_5 (by omega)
  have h_c0_i32_6 : Affine.IsInt 0#32 (0) := Affine.ofNat _ (by omega)
  have h_v18 : Affine.Fails _ := Affine.slt_fails h_v14 h_c0_i32_6 (by omega)
  have h_v19 : Affine.Fails _ := Affine.xori_ff h_v17 h_v18
  have h_c0_i32_4 : Affine.IsInt 0#32 (0) := Affine.ofNat _ (by omega)
  have h_v16 : Affine.Term _ := Affine.cmpi_term .ne h_v15 h_c0_i32_4
  have h_v20 : Affine.Fails _ := Affine.andi_fails_left h_v19 h_v16
  have h_v21 : Affine.IsInt _ ((((i 0).val : Int) % 2) + 2) := Affine.addi h_v15 h_v14 (by omega)
  have h_v22 : Affine.IsInt _ ((((i 0).val : Int) % 2)) := Affine.select_fails h_v20 h_v21 h_v15 (by omega)
  have h_v70 : Affine.IsInt _ (-(((i 0).val : Int) % 2) + 1) := Affine.subi h_c1_i32_34 h_v22 (by omega)
  have h_c512_i32_35 : Affine.IsInt 512#32 (512) := Affine.ofNat _ (by omega)
  have h_v71 : Affine.IsInt _ (-512 * (((i 0).val : Int) % 2) + 512) := Affine.muli h_v70 h_c512_i32_35 (by omega)
  have h_c2_i32_40 : Affine.IsInt 2#32 (2) := Affine.ofNat _ (by omega)
  have h_c0_i32_37 : Affine.IsInt 0#32 (0) := Affine.ofNat _ (by omega)
  have h_c1_i32_38 : Affine.IsInt 1#32 (1) := Affine.ofNat _ (by omega)
  have r_k0_t3 : k0_t3.val < 256 := Nat.lt_of_lt_of_le k0_t3.isLt k0_t3_abs.2.1
  have h_arg14 : Affine.IsInt _ ((k0_t3.val : Int)) := Affine.iv h_c0_i32_37 h_c1_i32_38 k0_t3.val (by omega)
  have c_arg14 : (k0_t3.val : Int) ≤ 256 - 1 := Affine.iv_lt k0_t3_abs.1 k0_t3.isLt k0_t3_abs.2.2 h_arg14
  have h_v74 : Affine.IsInt _ (2 * (k0_t3.val : Int)) := Affine.muli h_c2_i32_40 h_arg14 (by omega)
  have h_c0_i32_41 : Affine.IsInt 0#32 (0) := Affine.ofNat _ (by omega)
  have h_v75 : Affine.IsInt _ (2 * (k0_t3.val : Int)) := Affine.addi h_v74 h_c0_i32_41 (by omega)
  have h_v79 : Affine.IsInt _ (-512 * (((i 0).val : Int) % 2) + 2 * (k0_t3.val : Int) + 512) := Affine.addi h_v71 h_v75 (by omega)
  have h_c8_i32_43 : Affine.IsInt 8#32 (8) := Affine.ofNat _ (by omega)
  have h_v82 : Affine.IsInt _ (-4096 * (((i 0).val : Int) % 2) + 16 * (k0_t3.val : Int) + 4096) := Affine.muli h_v79 h_c8_i32_43 (by omega)
  have h_c0_i32_44 : Affine.IsInt 0#32 (0) := Affine.ofNat _ (by omega)
  exact Affine.vec_cons h_v82 (by omega) <| Affine.vec_cons (Affine.ofNat 0 (by omega) : Affine.IsInt 0#32 0) (by omega) <| Affine.vec_nil
theorem off15_eq (i : grid0.Coords) : k0_off15 i = ![((i 0).val + 1) % 2] := by
  have h_c1_i32_36 : Affine.IsInt 1#32 (1) := Affine.ofNat _ (by omega)
  have r_i0 : (i 0).val < 56 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v13 : Affine.Fails _ := Affine.eq_fails h_c2_i32 h_c0_i32_3 (by omega)
  have h_c1_i32 : Affine.IsInt 1#32 (1) := Affine.ofNat _ (by omega)
  have h_v14 : Affine.IsInt _ (2) := Affine.select_fails h_v13 h_c1_i32 h_c2_i32 (by omega)
  have h_v15 : Affine.IsInt _ ((((i 0).val : Int) % 2)) := Affine.remsi h_arg0 h_v14 (by omega)
  have h_c0_i32_5 : Affine.IsInt 0#32 (0) := Affine.ofNat _ (by omega)
  have h_v17 : Affine.Fails _ := Affine.slt_fails h_v15 h_c0_i32_5 (by omega)
  have h_c0_i32_6 : Affine.IsInt 0#32 (0) := Affine.ofNat _ (by omega)
  have h_v18 : Affine.Fails _ := Affine.slt_fails h_v14 h_c0_i32_6 (by omega)
  have h_v19 : Affine.Fails _ := Affine.xori_ff h_v17 h_v18
  have h_c0_i32_4 : Affine.IsInt 0#32 (0) := Affine.ofNat _ (by omega)
  have h_v16 : Affine.Term _ := Affine.cmpi_term .ne h_v15 h_c0_i32_4
  have h_v20 : Affine.Fails _ := Affine.andi_fails_left h_v19 h_v16
  have h_v21 : Affine.IsInt _ ((((i 0).val : Int) % 2) + 2) := Affine.addi h_v15 h_v14 (by omega)
  have h_v22 : Affine.IsInt _ ((((i 0).val : Int) % 2)) := Affine.select_fails h_v20 h_v21 h_v15 (by omega)
  have h_v72 : Affine.IsInt _ (-(((i 0).val : Int) % 2) + 1) := Affine.subi h_c1_i32_36 h_v22 (by omega)
  exact Affine.vec_cons h_v72 (by omega) <| Affine.vec_nil
theorem off16_eq (i : grid0.Coords) (k0_t3 : Fin k0_t3_loop.trips) : k0_off16 i k0_t3 = ![4096 * (((i 0).val + 1) % 2) + 8 * (2 * k0_t3.val + 1), 0] := by
  have h_c1_i32_34 : Affine.IsInt 1#32 (1) := Affine.ofNat _ (by omega)
  have r_i0 : (i 0).val < 56 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v13 : Affine.Fails _ := Affine.eq_fails h_c2_i32 h_c0_i32_3 (by omega)
  have h_c1_i32 : Affine.IsInt 1#32 (1) := Affine.ofNat _ (by omega)
  have h_v14 : Affine.IsInt _ (2) := Affine.select_fails h_v13 h_c1_i32 h_c2_i32 (by omega)
  have h_v15 : Affine.IsInt _ ((((i 0).val : Int) % 2)) := Affine.remsi h_arg0 h_v14 (by omega)
  have h_c0_i32_5 : Affine.IsInt 0#32 (0) := Affine.ofNat _ (by omega)
  have h_v17 : Affine.Fails _ := Affine.slt_fails h_v15 h_c0_i32_5 (by omega)
  have h_c0_i32_6 : Affine.IsInt 0#32 (0) := Affine.ofNat _ (by omega)
  have h_v18 : Affine.Fails _ := Affine.slt_fails h_v14 h_c0_i32_6 (by omega)
  have h_v19 : Affine.Fails _ := Affine.xori_ff h_v17 h_v18
  have h_c0_i32_4 : Affine.IsInt 0#32 (0) := Affine.ofNat _ (by omega)
  have h_v16 : Affine.Term _ := Affine.cmpi_term .ne h_v15 h_c0_i32_4
  have h_v20 : Affine.Fails _ := Affine.andi_fails_left h_v19 h_v16
  have h_v21 : Affine.IsInt _ ((((i 0).val : Int) % 2) + 2) := Affine.addi h_v15 h_v14 (by omega)
  have h_v22 : Affine.IsInt _ ((((i 0).val : Int) % 2)) := Affine.select_fails h_v20 h_v21 h_v15 (by omega)
  have h_v70 : Affine.IsInt _ (-(((i 0).val : Int) % 2) + 1) := Affine.subi h_c1_i32_34 h_v22 (by omega)
  have h_c512_i32_35 : Affine.IsInt 512#32 (512) := Affine.ofNat _ (by omega)
  have h_v71 : Affine.IsInt _ (-512 * (((i 0).val : Int) % 2) + 512) := Affine.muli h_v70 h_c512_i32_35 (by omega)
  have h_c2_i32_46 : Affine.IsInt 2#32 (2) := Affine.ofNat _ (by omega)
  have h_c0_i32_37 : Affine.IsInt 0#32 (0) := Affine.ofNat _ (by omega)
  have h_c1_i32_38 : Affine.IsInt 1#32 (1) := Affine.ofNat _ (by omega)
  have r_k0_t3 : k0_t3.val < 256 := Nat.lt_of_lt_of_le k0_t3.isLt k0_t3_abs.2.1
  have h_arg14 : Affine.IsInt _ ((k0_t3.val : Int)) := Affine.iv h_c0_i32_37 h_c1_i32_38 k0_t3.val (by omega)
  have c_arg14 : (k0_t3.val : Int) ≤ 256 - 1 := Affine.iv_lt k0_t3_abs.1 k0_t3.isLt k0_t3_abs.2.2 h_arg14
  have h_v88 : Affine.IsInt _ (2 * (k0_t3.val : Int)) := Affine.muli h_c2_i32_46 h_arg14 (by omega)
  have h_c1_i32_47 : Affine.IsInt 1#32 (1) := Affine.ofNat _ (by omega)
  have h_v89 : Affine.IsInt _ (2 * (k0_t3.val : Int) + 1) := Affine.addi h_v88 h_c1_i32_47 (by omega)
  have h_v93 : Affine.IsInt _ (-512 * (((i 0).val : Int) % 2) + 2 * (k0_t3.val : Int) + 513) := Affine.addi h_v71 h_v89 (by omega)
  have h_c8_i32_49 : Affine.IsInt 8#32 (8) := Affine.ofNat _ (by omega)
  have h_v96 : Affine.IsInt _ (-4096 * (((i 0).val : Int) % 2) + 16 * (k0_t3.val : Int) + 4104) := Affine.muli h_v93 h_c8_i32_49 (by omega)
  have h_c0_i32_50 : Affine.IsInt 0#32 (0) := Affine.ofNat _ (by omega)
  exact Affine.vec_cons h_v96 (by omega) <| Affine.vec_cons (Affine.ofNat 0 (by omega) : Affine.IsInt 0#32 0) (by omega) <| Affine.vec_nil
theorem off18_eq (i : grid0.Coords) (r : Fin 8) : k0_off18 i (BitVec.ofNat 32 r.val) = ![4096 * ((i 0).val % 2) + r.val, 0] := by
  have r_r : r.val < 8 := r.isLt
  have h_c0_i32_16 : Affine.IsInt (BitVec.ofNat 32 r.val) ((r.val : Int)) := Affine.ofNat _ (by omega)
  have r_i0 : (i 0).val < 56 := (i 0).isLt
  have h_arg0 : Affine.IsInt (BitVec.ofNat 32 (i 0).val) (((i 0).val : Int)) := Affine.ofNat _ (by omega)
  have h_c2_i32 : Affine.IsInt 2#32 (2) := Affine.ofNat _ (by omega)
  have h_c0_i32_3 : Affine.IsInt 0#32 (0) := Affine.ofNat _ (by omega)
  have h_v13 : Affine.Fails _ := Affine.eq_fails h_c2_i32 h_c0_i32_3 (by omega)
  have h_c1_i32 : Affine.IsInt 1#32 (1) := Affine.ofNat _ (by omega)
  have h_v14 : Affine.IsInt _ (2) := Affine.select_fails h_v13 h_c1_i32 h_c2_i32 (by omega)
  have h_v15 : Affine.IsInt _ ((((i 0).val : Int) % 2)) := Affine.remsi h_arg0 h_v14 (by omega)
  have h_c0_i32_5 : Affine.IsInt 0#32 (0) := Affine.ofNat _ (by omega)
  have h_v17 : Affine.Fails _ := Affine.slt_fails h_v15 h_c0_i32_5 (by omega)
  have h_c0_i32_6 : Affine.IsInt 0#32 (0) := Affine.ofNat _ (by omega)
  have h_v18 : Affine.Fails _ := Affine.slt_fails h_v14 h_c0_i32_6 (by omega)
  have h_v19 : Affine.Fails _ := Affine.xori_ff h_v17 h_v18
  have h_c0_i32_4 : Affine.IsInt 0#32 (0) := Affine.ofNat _ (by omega)
  have h_v16 : Affine.Term _ := Affine.cmpi_term .ne h_v15 h_c0_i32_4
  have h_v20 : Affine.Fails _ := Affine.andi_fails_left h_v19 h_v16
  have h_v21 : Affine.IsInt _ ((((i 0).val : Int) % 2) + 2) := Affine.addi h_v15 h_v14 (by omega)
  have h_v22 : Affine.IsInt _ ((((i 0).val : Int) % 2)) := Affine.select_fails h_v20 h_v21 h_v15 (by omega)
  have h_c512_i32_15 : Affine.IsInt 512#32 (512) := Affine.ofNat _ (by omega)
  have h_v32 : Affine.IsInt _ (512 * (((i 0).val : Int) % 2)) := Affine.muli h_v22 h_c512_i32_15 (by omega)
  have h_c8_i32 : Affine.IsInt 8#32 (8) := Affine.ofNat _ (by omega)
  have h_v33 : Affine.IsInt _ (4096 * (((i 0).val : Int) % 2)) := Affine.muli h_v32 h_c8_i32 (by omega)
  have h_v34 : Affine.IsInt _ (4096 * (((i 0).val : Int) % 2) + (r.val : Int)) := Affine.addi h_v33 h_c0_i32_16 (by omega)
  have h_v35 : Affine.IsInt _ (4096 * (((i 0).val : Int) % 2) + (r.val : Int)) := Affine.indexCast h_v34
  have h_c0_17 : Affine.IsInt 0#32 (0) := Affine.ofNat _ (by omega)
  exact Affine.vec_cons h_v35 (by omega) <| Affine.vec_cons (Affine.ofNat 0 (by omega) : Affine.IsInt 0#32 0) (by omega) <| Affine.vec_nil

theorem off10_eq (i : grid0.Coords) (t : Fin k0_t3_loop.trips) (h : (i 0).val + 1 < 56) :
    k0_off10 i t = ![512 * ((i 0).val + 1) + 2 * t.val] := by
  rw [k0_off10_eq, Nat.min_eq_left (by omega)]
theorem off14_eq (i : grid0.Coords) (t : Fin k0_t3_loop.trips) (h : (i 0).val + 1 < 56) :
    k0_off14 i t = ![512 * ((i 0).val + 1) + (2 * t.val + 1)] := by
  rw [k0_off14_eq, Nat.min_eq_left (by omega)]; rfl

/-! ## Table words -/

theorem off4_eq (v : BitVec 32) (h : v.toNat < 12288) : k0_off4 v = ![8 * v.toNat, 0] := by
  have e : (v * 8#32).toNat = 8 * v.toNat := by
    rw [BitVec.toNat_mul]; show v.toNat * 8 % 4294967296 = _; omega
  show ![(v * 8#32).toNat, 0] = _
  rw [e]
theorem off4_inb (v : BitVec 32) (h : v.toNat < 12288) : ∀ a, (k0_off4 v) a + S8x128.size a ≤ S98304x128.size a := by
  rw [off4_eq v h]; exact srcBox_inb v.toNat h
theorem off4_dvd (v : BitVec 32) (h : v.toNat < 12288) : 8 ∣ (k0_mult1 v).toNat := by
  have e : (v * 8#32).toNat = 8 * v.toNat := by
    rw [BitVec.toNat_mul]; show v.toNat * 8 % 4294967296 = _; omega
  show 8 ∣ (v * 8#32).toNat
  rw [e]; exact ⟨_, rfl⟩
theorem chk1 (i : grid0.Coords) (v0 v : BitVec 32) (h : v.toNat < 12288) : k0_chk1 i v0 v := ⟨fun _ _ => off4_dvd v h, fun _ _ => off4_inb v h⟩
theorem chk2 (i : grid0.Coords) (v0 v : BitVec 32) (h : v.toNat < 12288) : k0_chk2 i v0 v := ⟨fun _ _ => off4_dvd v h, fun _ _ => off4_inb v h⟩
theorem chk3 (i : grid0.Coords) (v0 v : BitVec 32) (h : v.toNat < 12288) : k0_chk3 i v0 v := ⟨fun _ _ => off4_dvd v h, fun _ _ => off4_inb v h⟩
theorem chk4 (i : grid0.Coords) (v0 v : BitVec 32) (h : v.toNat < 12288) : k0_chk4 i v0 v := ⟨fun _ _ => off4_dvd v h, fun _ _ => off4_inb v h⟩

/-- The word the kernel loads at `512 μ + j`. -/
theorem word_eq (T : S28672.Idx → BitVec 32) (hT : ∀ x, (T x).toNat < 12288) (μ j : ℕ) (h : 512 * μ + j < 28672) (o : Fin 1 → ℕ)
    (ho : ∀ a, o a + S1.size a ≤ S28672.size a) (e : o = ![512 * μ + j]) (x) :
    View.readAt (Elt F) (Memref.whole main_arg1).view (Rect.unit (s := S28672) o S1.size ho).toLoadRect T x
      = T (ix1 (⟨512 * μ + j, h⟩ : Fin 28672)) := by
  subst e
  show T _ = T _
  congr 1
  funext a; fin_cases a
  apply Fin.ext
  have : (x 0).val < 1 := (x 0).isLt
  show (512 * μ + j) + 1 * (x 0).val = 512 * μ + j
  omega
theorem word_toNat (T : S28672.Idx → BitVec 32) (hT : ∀ x, (T x).toNat < 12288) (μ j : ℕ) (h : 512 * μ + j < 28672) :
    (T (ix1 (⟨512 * μ + j, h⟩ : Fin 28672))).toNat = word T μ j := by
  unfold word
  have e : (⟨(512 * μ + j) % 28672, Nat.mod_lt _ (by decide)⟩ : Fin 28672) = ⟨512 * μ + j, h⟩ := Fin.ext (Nat.mod_eq_of_lt h)
  rw [e, Nat.mod_eq_of_lt (hT _)]

theorem read_word (T : S28672.Idx → BitVec 32) (hT : ∀ x, (T x).toNat < 12288) (μ j : ℕ) (h : 512 * μ + j < 28672) (o : Fin 1 → ℕ)
    (ho : ∀ a, o a + S1.size a ≤ S28672.size a) (e : o = ![512 * μ + j]) (x) :
    BitVec.toNat (View.readAt (Elt F) (Memref.whole main_arg1).view (Rect.unit (s := S28672) o S1.size ho).toLoadRect T x) = word T μ j :=
  (congrArg BitVec.toNat (word_eq (F := F) T hT μ j h o ho e x)).trans (word_toNat T hT μ j h)
theorem read_lt (T : S28672.Idx → BitVec 32) (hT : ∀ x, (T x).toNat < 12288) (μ j : ℕ) (h : 512 * μ + j < 28672) (o : Fin 1 → ℕ)
    (ho : ∀ a, o a + S1.size a ≤ S28672.size a) (e : o = ![512 * μ + j]) (x) :
    BitVec.toNat (View.readAt (Elt F) (Memref.whole main_arg1).view (Rect.unit (s := S28672) o S1.size ho).toLoadRect T x) < 12288 :=
  (read_word (F := F) T hT μ j h o ho e x).trans_lt (word_lt T μ j)
/-- The rows of the token a loaded word names. -/
theorem src_eq (T : S28672.Idx → BitVec 32) (μ j : ℕ) (v : BitVec 32) (h : v.toNat = word T μ j) : k0_off4 v = ![8 * word T μ j, 0] := by
  rw [off4_eq v (h.trans_lt (word_lt T μ j)), h]

/-! ## Conditions -/

section Cond

variable (i : grid0.Coords) (n : ℕ) (hn : n ≤ 56)
include hn

theorem lt_word : IntOp.cmpi .slt (BitVec.ofNat 32 (i 0).val) (BitVec.ofNat 32 n) = BitVec.ofBool (decide ((i 0).val < n)) :=
  have h0 : (i 0).val < 56 := (i 0).isLt
  WordCmp.cmpi_slt_ofNat (by omega) (by omega)
theorem lt_word' : IntOp.cmpi .slt (BitVec.ofNat 32 (i 0).val + 1#32) (BitVec.ofNat 32 n) = BitVec.ofBool (decide ((i 0).val + 1 < n)) := by
  have h0 : (i 0).val < 56 := (i 0).isLt
  rw [show BitVec.ofNat 32 (i 0).val + 1#32 = BitVec.ofNat 32 ((i 0).val + 1) from (BitVec.ofNat_add _ _).symm]
  exact WordCmp.cmpi_slt_ofNat (by omega) (by omega)
omit hn in
theorem eq_word0 : IntOp.cmpi .eq (BitVec.ofNat 32 (i 0).val) 0#32 = BitVec.ofBool (decide ((i 0).val = 0)) :=
  have h0 : (i 0).val < 56 := (i 0).isLt
  WordCmp.cmpi_eq_ofNat (by omega) (by omega)
omit hn in
theorem eq_word1 (k : ℕ) (hk : k < 7) : IntOp.cmpi .eq (BitVec.ofNat 32 (i 1).val) (BitVec.ofNat 32 k) = BitVec.ofBool (decide ((i 1).val = k)) :=
  have h0 : (i 1).val < 7 := (i 1).isLt
  WordCmp.cmpi_eq_ofNat (by omega) (by omega)

theorem cond1_iff : k0_cond1 i (BitVec.ofNat 32 n) = 1#1 ↔ (i 0).val < n ∧ (i 1).val = 0 := by
  show IntOp.cmpi .ne (Scalar.extui (Scalar.andi (IntOp.cmpi .slt (BitVec.ofNat 32 (i 0).val) (BitVec.ofNat 32 n)) (IntOp.cmpi .eq (BitVec.ofNat 32 (i 1).val) (BitVec.ofNat 32 0)))) 0#32 = 1#1 ↔ _
  rw [lt_word i n hn, eq_word1 i 0 (by decide)]
  by_cases h : (i 0).val < n <;> by_cases h' : (i 1).val = 0 <;> simp only [h, h', decide_true, decide_false] <;> decide
omit hn in
theorem cond2_iff : k0_cond2 i = 1#1 ↔ (i 0).val = 0 := by
  show IntOp.cmpi .ne (Scalar.extui (IntOp.cmpi .eq (BitVec.ofNat 32 (i 0).val) 0#32)) 0#32 = 1#1 ↔ _
  rw [eq_word0]
  by_cases h : (i 0).val = 0 <;> simp only [h, decide_true, decide_false] <;> decide
theorem cond3_iff : k0_cond3 i (BitVec.ofNat 32 n) = 1#1 ↔ (i 0).val + 1 < n := by
  show IntOp.cmpi .ne (Scalar.extui (IntOp.cmpi .slt (BitVec.ofNat 32 (i 0).val + 1#32) (BitVec.ofNat 32 n))) 0#32 = 1#1 ↔ _
  rw [lt_word' i n hn]
  by_cases h : (i 0).val + 1 < n <;> simp only [h, decide_true, decide_false] <;> decide
theorem cond4_iff : k0_cond4 i (BitVec.ofNat 32 n) = 1#1 ↔ (i 0).val < n := by
  show IntOp.cmpi .ne (Scalar.extui (IntOp.cmpi .slt (BitVec.ofNat 32 (i 0).val) (BitVec.ofNat 32 n))) 0#32 = 1#1 ↔ _
  rw [lt_word i n hn]
  by_cases h : (i 0).val < n <;> simp only [h, decide_true, decide_false] <;> decide
omit hn in
theorem cond5_iff : k0_cond5 i = 1#1 ↔ (i 1).val = 6 := by
  show IntOp.cmpi .ne (Scalar.extui (IntOp.cmpi .eq (BitVec.ofNat 32 (i 1).val) (BitVec.ofNat 32 6))) 0#32 = 1#1 ↔ _
  rw [eq_word1 i 6 (by decide)]
  by_cases h : (i 1).val = 6 <;> simp only [h, decide_true, decide_false] <;> decide
theorem cond6_iff : k0_cond6 i (BitVec.ofNat 32 n) = 1#1 ↔ ¬ (i 0).val < n ∧ (i 1).val = 6 := by
  show IntOp.cmpi .ne (Scalar.extui (Scalar.andi (Scalar.xori (IntOp.cmpi .slt (BitVec.ofNat 32 (i 0).val) (BitVec.ofNat 32 n)) 1#1) (IntOp.cmpi .eq (BitVec.ofNat 32 (i 1).val) (BitVec.ofNat 32 6)))) 0#32 = 1#1 ↔ _
  rw [lt_word i n hn, eq_word1 i 6 (by decide)]
  by_cases h : (i 0).val < n <;> by_cases h' : (i 1).val = 6 <;> simp only [h, h', decide_true, decide_false] <;> decide

end Cond

end Cert.MoeIdeal.V
-- ==== Proof.MoeV.Loops.lean ====
/- The loops of the expert call: those that start a tile's row copies, and the one that waits for them. -/
module

public import proofs.«01_k».proof.Proof.MoeV.Issue
public import proofs.«01_k».proof.Proof.MoeV.Off

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Loops

variable (c : Dev nD) (T : S28672.Idx → BitVec 32) (H : S98304x128.Idx → Elt F .f32)

/-- The row table, held to be read. -/
abbrev sAt (q : PosShare TreeShare) : sProp 𝕄 := (Memref.whole main_arg1).view.loc (c : Thread nD τ) ↦{q} (T : main_arg1.ty.Contents (Elt F))

theorem range_snoc (Φ : Fin 512 → sProp 𝕄) (hi : ℕ) (h : hi < 512) :
    bigSep (Ring.rangeSet 512 0 (hi + 1)) Φ = iprop(Φ ⟨hi, h⟩ ∗ bigSep (Ring.rangeSet 512 0 hi) Φ) :=
  Ring.bigSep_rangeSet_last (Nat.succ_pos hi) h

/-- Before trip `k` of a loop that starts tile `μ`'s copies, two a trip: the first `2k` in flight, the rows and the read
    tokens of the others in hand. -/
def issueAt (q : PosShare TreeShare) (μ k : ℕ) : sProp 𝕄 :=
  iprop(batch c T H μ (2 * k) 0
    ∗ bigSep (Ring.rangeSet 512 (2 * k) 512) (fun j => iprop(∃ f, xAt c (box μ j) f))
    ∗ bigSep (Ring.rangeSet 512 (2 * k) 512) (fun j => hAt c H Finset.univ (Transfers.shareTokN fullShare j.val))
    ∗ bigSep (Ring.rangeSet 512 0 (2 * k)) (keep c T H μ)
    ∗ sAt c T q)

/-- Before trip `k` of the loop that waits for tile `μ`'s copies. -/
def drainAt (μ k : ℕ) : sProp 𝕄 := iprop(batch c T H μ 512 (128 * k) ∗ ∃ W, owes (c : Thread nD τ) 0 W)

variable (a2 : Memref sig .tc .smem S56 .i32) (h2 : a2.IsWhole) (a3 : Memref sig .tc .smem S1 .i32) (h3 : a3.IsWhole)
  (a6 : Memref sig .tc .vmem S1x1024x512 .bf16) (h6 : a6.IsWhole) (a7 : Memref sig .tc .vmem S1x1024x512 .bf16) (h7 : a7.IsWhole)
  (a8 : Memref sig .tc .vmem S1x512x1024 .bf16) (h8 : a8.IsWhole) (a9 : Memref sig .tc .vmem S4096x128 .f32) (h9 : a9.IsWhole)
  (a11 : Memref sig .tc .vmem S512x1024 .bf16) (h11 : a11.IsWhole) (a12 : Memref sig .tc .vmem S512x1024 .f32) (h12 : a12.IsWhole)

theorem t1_step (hT : ∀ x, (T x).toNat < 12288) (q : PosShare TreeShare) (i : grid0.Coords) (arg0 v0 : BitVec 32) (hc1) (hc2)
    {𝒟 : Defs nD τ sig (Elt F) Λ₀} (𝒱 : Variants) {bd : Option 𝒱.V} (k : Fin k0_t1_loop.trips) (acc : Unit) :
    issueAt c T H q 0 k.val ⊢ wp frame (wpE 𝒟 𝒱 (c : Thread nD τ) bd) Set.univ
      (k0_t1_body (F := F) i a2 h2 a3 h3 (Memref.whole main_arg1) (Memref.isWhole_whole _) (Memref.whole main_arg0) (Memref.isWhole_whole _)
        a6 h6 a7 h7 a8 h8 a9 h9 (Memref.whole cc0_scratch0) (Memref.isWhole_whole _) a11 h11 a12 h12 cc0_scratch3 arg0 v0 hc1 hc2 k acc)
      (fun _ => issueAt c T H q 0 (k.val + 1)) := by
  have hk : k.val < 256 := k.isLt
  unfold issueAt
  rw [Ring.bigSep_rangeSet_head (Φ := fun j => iprop(∃ f, xAt c (box 0 j) f)) (lo := 2 * k.val) (by omega) (by omega),
    Ring.bigSep_rangeSet_head (Φ := fun j => iprop(∃ f, xAt c (box 0 j) f)) (lo := 2 * k.val + 1) (by omega) (by omega),
    Ring.bigSep_rangeSet_head (Φ := fun j => hAt c H Finset.univ (Transfers.shareTokN fullShare j.val)) (lo := 2 * k.val) (by omega) (by omega),
    Ring.bigSep_rangeSet_head (Φ := fun j => hAt c H Finset.univ (Transfers.shareTokN fullShare j.val)) (lo := 2 * k.val + 1) (by omega) (by omega),
    show 2 * (k.val + 1) = 2 * k.val + 1 + 1 by omega,
    range_snoc (keep c T H 0) (2 * k.val + 1) (by omega), range_snoc (keep c T H 0) (2 * k.val) (by omega)]
  iintro ⟨HB, ⟨Hx0, Hx1, Hxs⟩, ⟨Ht0, Ht1, Hts⟩, Hk, HS⟩
  sl_unfold [k0_t1_body]
  have e1 : k0_off2 k = ![512 * 0 + 2 * k.val] := by rw [k0_off2_eq, Nat.mul_zero, Nat.zero_add]
  have e2 : k0_off5 k = ![512 * 0 + (2 * k.val + 1)] := by rw [k0_off5_eq, Nat.mul_zero, Nat.zero_add]
  have l1 : 512 * 0 + 2 * k.val < 28672 := by omega
  have l2 : 512 * 0 + (2 * k.val + 1) < 28672 := by omega
  have d1 : k0_off3 k = ![4096 * (0 % 2) + 8 * (2 * k.val), 0] := by rw [k0_off3_eq]; congr 1; omega
  have d2 : k0_off6 k = ![4096 * (0 % 2) + 8 * (2 * k.val + 1), 0] := by rw [k0_off6_eq]; congr 1; omega
  sl_exec
  sl_unfold_run_names
  iapply (wp_assume 𝒱 (c : Thread nD τ) bd Set.univ (chk1 _ _ _ (read_lt (F := F) T hT 0 (2 * k.val) l1 _ _ e1 _)))
  sl_exec
  iapply (issue_row c T H 𝒱 _ _ _ _ _ _ 0 (2 * k.val) (by omega) d1 (src_eq T 0 (2 * k.val) _ (read_word (F := F) T hT 0 (2 * k.val) l1 _ _ e1 _)) rfl) $$ [Hx0 Ht0 HB]
  · isplitl [Hx0]; · iexact Hx0
    isplitl [Ht0]; · iexact Ht0
    iexact HB
  iintro ⟨HB, Hk0⟩
  sl_exec
  sl_unfold_run_names
  iapply (wp_assume 𝒱 (c : Thread nD τ) bd Set.univ (chk2 _ _ _ (read_lt (F := F) T hT 0 (2 * k.val + 1) l2 _ _ e2 _)))
  sl_exec
  iapply (issue_row c T H 𝒱 _ _ _ _ _ _ 0 (2 * k.val + 1) (by omega) d2 (src_eq T 0 (2 * k.val + 1) _ (read_word (F := F) T hT 0 (2 * k.val + 1) l2 _ _ e2 _)) rfl) $$ [Hx1 Ht1 HB]
  · isplitl [Hx1]; · iexact Hx1
    isplitl [Ht1]; · iexact Ht1
    iexact HB
  iintro ⟨HB, Hk1⟩
  sl_exec
  sl_step
  isplitl [HB]; · iexact HB
  isplitl [Hxs]; · iexact Hxs
  isplitl [Hts]; · iexact Hts
  isplitl [Hk0 Hk1 Hk]
  · isplitl [Hk1]; · iexact Hk1
    isplitl [Hk0]; · iexact Hk0
    iexact Hk
  iexact HS

theorem t3_step (hT : ∀ x, (T x).toNat < 12288) (q : PosShare TreeShare) (i : grid0.Coords) (arg0 v0 : BitVec 32) (hc1) (hc3) (hm : (i 0).val + 1 < 56)
    {𝒟 : Defs nD τ sig (Elt F) Λ₀} (𝒱 : Variants) {bd : Option 𝒱.V} (k : Fin k0_t3_loop.trips) (acc : Unit) :
    issueAt c T H q ((i 0).val + 1) k.val ⊢ wp frame (wpE 𝒟 𝒱 (c : Thread nD τ) bd) Set.univ
      (k0_t3_body (F := F) i a2 h2 a3 h3 (Memref.whole main_arg1) (Memref.isWhole_whole _) (Memref.whole main_arg0) (Memref.isWhole_whole _)
        a6 h6 a7 h7 a8 h8 a9 h9 (Memref.whole cc0_scratch0) (Memref.isWhole_whole _) a11 h11 a12 h12 cc0_scratch3 arg0 v0 hc1 hc3 k acc)
      (fun _ => issueAt c T H q ((i 0).val + 1) (k.val + 1)) := by
  have hk : k.val < 256 := k.isLt
  unfold issueAt
  rw [Ring.bigSep_rangeSet_head (Φ := fun j => iprop(∃ f, xAt c (box ((i 0).val + 1) j) f)) (lo := 2 * k.val) (by omega) (by omega),
    Ring.bigSep_rangeSet_head (Φ := fun j => iprop(∃ f, xAt c (box ((i 0).val + 1) j) f)) (lo := 2 * k.val + 1) (by omega) (by omega),
    Ring.bigSep_rangeSet_head (Φ := fun j => hAt c H Finset.univ (Transfers.shareTokN fullShare j.val)) (lo := 2 * k.val) (by omega) (by omega),
    Ring.bigSep_rangeSet_head (Φ := fun j => hAt c H Finset.univ (Transfers.shareTokN fullShare j.val)) (lo := 2 * k.val + 1) (by omega) (by omega),
    show 2 * (k.val + 1) = 2 * k.val + 1 + 1 by omega,
    range_snoc (keep c T H ((i 0).val + 1)) (2 * k.val + 1) (by omega), range_snoc (keep c T H ((i 0).val + 1)) (2 * k.val) (by omega)]
  iintro ⟨HB, ⟨Hx0, Hx1, Hxs⟩, ⟨Ht0, Ht1, Hts⟩, Hk, HS⟩
  sl_unfold [k0_t3_body]
  have e1 : k0_off10 i k = ![512 * ((i 0).val + 1) + 2 * k.val] := off10_eq i k hm
  have e2 : k0_off14 i k = ![512 * ((i 0).val + 1) + (2 * k.val + 1)] := off14_eq i k hm
  have l1 : 512 * ((i 0).val + 1) + 2 * k.val < 28672 := by omega
  have l2 : 512 * ((i 0).val + 1) + (2 * k.val + 1) < 28672 := by omega
  have d1 := off12_eq i k
  have d2 := off16_eq i k
  sl_exec
  sl_unfold_run_names
  iapply (wp_assume 𝒱 (c : Thread nD τ) bd Set.univ (chk3 _ _ _ (read_lt (F := F) T hT ((i 0).val + 1) (2 * k.val) l1 _ _ e1 _)))
  sl_exec
  iapply (issue_row c T H 𝒱 _ _ _ _ _ _ ((i 0).val + 1) (2 * k.val) (by omega) d1 (src_eq T ((i 0).val + 1) (2 * k.val) _ (read_word (F := F) T hT ((i 0).val + 1) (2 * k.val) l1 _ _ e1 _)) (off11_eq i)) $$ [Hx0 Ht0 HB]
  · isplitl [Hx0]; · iexact Hx0
    isplitl [Ht0]; · iexact Ht0
    iexact HB
  iintro ⟨HB, Hk0⟩
  sl_exec
  sl_unfold_run_names
  iapply (wp_assume 𝒱 (c : Thread nD τ) bd Set.univ (chk4 _ _ _ (read_lt (F := F) T hT ((i 0).val + 1) (2 * k.val + 1) l2 _ _ e2 _)))
  sl_exec
  iapply (issue_row c T H 𝒱 _ _ _ _ _ _ ((i 0).val + 1) (2 * k.val + 1) (by omega) d2 (src_eq T ((i 0).val + 1) (2 * k.val + 1) _ (read_word (F := F) T hT ((i 0).val + 1) (2 * k.val + 1) l2 _ _ e2 _)) (off15_eq i)) $$ [Hx1 Ht1 HB]
  · isplitl [Hx1]; · iexact Hx1
    isplitl [Ht1]; · iexact Ht1
    iexact HB
  iintro ⟨HB, Hk1⟩
  sl_exec
  sl_step
  isplitl [HB]; · iexact HB
  isplitl [Hxs]; · iexact Hxs
  isplitl [Hts]; · iexact Hts
  isplitl [Hk0 Hk1 Hk]
  · isplitl [Hk1]; · iexact Hk1
    isplitl [Hk0]; · iexact Hk0
    iexact Hk
  iexact HS

theorem t2_step (i : grid0.Coords) (arg0 v0 : BitVec 32) (hc1)
    {𝒟 : Defs nD τ sig (Elt F) Λ₀} (𝒱 : Variants) {bd : Option 𝒱.V} (k : Fin k0_t2_loop.trips) (acc : Unit) :
    drainAt c T H (i 0).val k.val ⊢ wp frame (wpE 𝒟 𝒱 (c : Thread nD τ) bd) Set.univ
      (k0_t2_body (F := F) i a2 h2 a3 h3 (Memref.whole main_arg1) (Memref.isWhole_whole _) (Memref.whole main_arg0) (Memref.isWhole_whole _)
        a6 h6 a7 h7 a8 h8 a9 h9 (Memref.whole cc0_scratch0) (Memref.isWhole_whole _) a11 h11 a12 h12 cc0_scratch3 arg0 v0 hc1 k acc)
      (fun _ => drainAt c T H (i 0).val (k.val + 1)) := by
  have hk : k.val < 512 := k.isLt
  unfold drainAt
  iintro ⟨HB, ⟨%W, HO⟩⟩
  sl_unfold [k0_t2_body]
  sl_exec
  iapply (wait_row c T H 𝒱 _ _ _ _ _ _ (i 0).val k.val hk (off8_eq i) W) $$ [HB HO]
  · isplitl [HB]; · iexact HB
    iexact HO
  iintro ⟨HB, HO⟩
  sl_exec
  sl_step
  isplitl [HB]; · iexact HB
  iexists _
  iexact HO

end Loops

end Cert.MoeIdeal.V
-- ==== Proof.MoeV.State.lean ====
/- The state of the two halves of the scratch buffer between grid points, and how the loops of the expert call move it. -/
module

public import proofs.«01_k».proof.Proof.MoeV.Loops

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section State

variable (c : Dev nD) (T : S28672.Idx → BitVec 32) (H : S98304x128.Idx → Elt F .f32)

theorem half_mod (μ ν : ℕ) (h : μ % 2 = ν % 2) : half μ = half ν := by ext y; rw [mem_half, mem_half, h]

/-- Nothing in flight, the scratch buffer at some contents. -/
def idleX : sProp 𝕄 := iprop((∃ f, xAt c Finset.univ f) ∗ idleSt c H)
/-- Tile `μ` in flight to its half, the other half at some contents. -/
def flyX (μ : ℕ) : sProp 𝕄 := iprop((∃ f, xAt c (half (μ + 1)) f) ∗ flySt c T H μ)
/-- Tile `μ` gathered, nothing in flight. -/
def gotX (μ : ℕ) : sProp 𝕄 :=
  iprop(xAt c (half μ) (gath T H μ) ∗ semVal ((c : Thread nD τ), SemLoc.dma (cell μ)) 0
    ∗ semVal ((c : Thread nD τ), SemLoc.dma (cell (μ + 1))) 0 ∗ hAt c H Finset.univ fullShare)

/-- The two cells, named by any tile. -/
theorem cells_swap (μ : ℕ) :
    iprop(semVal ((c : Thread nD τ), SemLoc.dma (cell 0)) 0 ∗ semVal ((c : Thread nD τ), SemLoc.dma (cell 1)) 0)
      ⊢ (iprop(semVal ((c : Thread nD τ), SemLoc.dma (cell μ)) 0 ∗ semVal ((c : Thread nD τ), SemLoc.dma (cell (μ + 1))) 0) : sProp 𝕄) := by
  rcases Nat.mod_two_eq_zero_or_one μ with h | h
  · rw [cell_mod μ 0 (by omega), cell_mod (μ + 1) 1 (by omega)]
  · rw [cell_mod μ 1 (by omega), cell_mod (μ + 1) 0 (by omega)]
    iintro ⟨H0, H1⟩; isplitl [H1]; · iexact H1
    iexact H0
theorem cells_back (μ : ℕ) :
    (iprop(semVal ((c : Thread nD τ), SemLoc.dma (cell μ)) 0 ∗ semVal ((c : Thread nD τ), SemLoc.dma (cell (μ + 1))) 0) : sProp 𝕄)
      ⊢ iprop(semVal ((c : Thread nD τ), SemLoc.dma (cell 0)) 0 ∗ semVal ((c : Thread nD τ), SemLoc.dma (cell 1)) 0) := by
  rcases Nat.mod_two_eq_zero_or_one μ with h | h
  · rw [cell_mod μ 0 (by omega), cell_mod (μ + 1) 1 (by omega)]
  · rw [cell_mod μ 1 (by omega), cell_mod (μ + 1) 0 (by omega)]
    iintro ⟨H0, H1⟩; isplitl [H1]; · iexact H1
    iexact H0

theorem x_split (μ : ℕ) (f : S8192x128.Idx → Elt F .f32) : xAt c Finset.univ f ⊢ iprop(xAt c (half μ) f ∗ xAt c (half (μ + 1)) f) := by
  rw [← half_union μ]; exact (pointsTo_union (half_disjoint μ)).1
theorem x_join (μ : ℕ) : iprop((∃ f, xAt c (half μ) f) ∗ (∃ f, xAt c (half (μ + 1)) f)) ⊢ iprop(∃ f, xAt (F := F) c Finset.univ f) := by
  iintro ⟨⟨%f, Hf⟩, ⟨%g, Hg⟩⟩
  iexists ((half (μ + 1)).piecewise g f)
  rw [← half_union μ]
  iapply (pointsTo_join (half_disjoint μ))
  isplitl [Hf]; · iexact Hf
  iexact Hg

theorem box_some (μ : ℕ) (j : Fin 512) (f : S8192x128.Idx → Elt F .f32) : xAt c (box μ j) f ⊢ iprop(∃ f, xAt c (box μ j) f) := by
  iintro Hj; iexists f; iexact Hj

/-- Before the first trip of the loop that starts tile `μ`'s copies. -/
theorem issue_enter (q : PosShare TreeShare) (μ : ℕ) :
    iprop((∃ f, xAt c (half μ) f) ∗ semVal ((c : Thread nD τ), SemLoc.dma (cell μ)) 0 ∗ hAt c H Finset.univ fullShare ∗ sAt c T q)
      ⊢ (|={Set.univ}=> iprop(issueAt c T H q μ 0 ∗ hAt c H Finset.univ (Transfers.shareDrop fullShare 512)) : sProp 𝕄) := by
  iintro ⟨⟨%f, Hx⟩, Hc, Hh, HS⟩
  imod (Transfers.batch_alloc' EC (c : Thread nD τ) () 128 (dlv c T H μ) (sm := .dma (cell μ)) (E := Set.univ)) $$ Hc with HB
  imodintro
  ihave Ht := (h_toks c H) $$ Hh
  icases Ht with ⟨Hd, Ht⟩
  isplitr [Hd]; swap; · iexact Hd
  unfold issueAt
  rw [Nat.mul_zero, Ring.rangeSet_univ, Ring.bigSep_rangeSet_empty (lo := 0) (hi := 0) le_rfl]
  isplitl [HB]; · iexact HB
  isplitl [Hx]
  · iapply (show xAt c (half μ) f ⊢ bigSep Finset.univ (fun j : Fin 512 => iprop(∃ f, xAt c (box μ j) f)) by
      rw [half_boxes]
      refine BI.bigSep_mono fun j _ => ?_
      exact box_some c μ j f)
    iexact Hx
  isplitl [Ht]; · iexact Ht
  isplitr; · iempintro
  iexact HS

/-- After its last trip. -/
theorem issue_exit (q : PosShare TreeShare) (μ : ℕ) :
    iprop(issueAt c T H q μ 256 ∗ hAt c H Finset.univ (Transfers.shareDrop fullShare 512) ∗ semVal ((c : Thread nD τ), SemLoc.dma (cell (μ + 1))) 0)
      ⊢ (iprop(flySt c T H μ ∗ sAt c T q) : sProp 𝕄) := by
  unfold issueAt
  rw [show 2 * 256 = 512 from rfl, Ring.rangeSet_univ]
  iintro ⟨⟨HB, -, -, Hk, HS⟩, Hd, Hc⟩
  isplitr [HS]; swap; · iexact HS
  isplitl [HB]; · iexact HB
  isplitl [Hk]; · iexact Hk
  isplitl [Hd]; · iexact Hd
  iexact Hc

/-- After the last trip of the loop that waits for tile `μ`'s copies. -/
theorem drain_exit (μ : ℕ) :
    iprop(batch c T H μ 512 (128 * 512) ∗ bigSep Finset.univ (keep c T H μ) ∗ hAt c H Finset.univ (Transfers.shareDrop fullShare 512)
        ∗ semVal ((c : Thread nD τ), SemLoc.dma (cell (μ + 1))) 0)
      ⊢ (|={Set.univ}=> gotX c T H μ : sProp 𝕄) := by
  iintro ⟨HB, Hk, Hd, Hc⟩
  imod (Transfers.batch_collect' EC (c : Thread nD τ) (n := 512) (N := 128) (by decide)) $$ HB with ⟨HD, Hv⟩
  imodintro
  ihave HD := (show bigSep Finset.univ (dlv c T H μ) ⊢ iprop(bigSep Finset.univ (fun j : Fin 512 => xAt c (box μ j) (gath T H μ))
    ∗ bigSep Finset.univ (fun j : Fin 512 => hAt c H (srcBox (word T μ j.val) (word_lt T μ j.val)) (Transfers.shareTokN fullShare j.val)))
    from Entails.of_eq (BI.bigSep_sep Finset.univ _ _)) $$ HD
  icases HD with ⟨Hx, Hs⟩
  unfold gotX
  isplitl [Hx]
  · rw [half_boxes]; iexact Hx
  isplitl [Hv]; · iexact Hv
  isplitl [Hc]; · iexact Hc
  iapply (h_untok c H)
  isplitl [Hd]; · iexact Hd
  iapply (show iprop(bigSep Finset.univ (fun j : Fin 512 => hAt c H (srcBox (word T μ j.val) (word_lt T μ j.val)) (Transfers.shareTokN fullShare j.val))
      ∗ bigSep Finset.univ (keep c T H μ)) ⊢ bigSep Finset.univ fun j : Fin 512 => hAt c H Finset.univ (Transfers.shareTokN fullShare j.val) by
    refine (Entails.of_eq (BI.bigSep_sep Finset.univ _ _).symm).trans (BI.bigSep_mono fun j _ => ?_)
    exact tok_join c T H μ j)
  isplitl [Hs]; · iexact Hs
  iexact Hk

end State

end Cert.MoeIdeal.V
-- ==== Proof.MoeV.Part1.lean ====
/- The first point of a tile: its rows started (at the first tile), waited for, the next tile started, the rows read. -/
module

public import proofs.«01_k».proof.Proof.MoeV.State

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section State

variable (c : Dev nD) (T : S28672.Idx → BitVec 32) (H : S98304x128.Idx → Elt F .f32)

/-- The `r`-th of the eight column blocks of the rows in half `μ % 2`: every eighth row of the buffer. -/
def rowsAt (μ : ℕ) (r : Fin 8) (f : S8192x128.Idx → Elt F .f32) : S512x128.Idx → Elt F .f32 := fun x =>
  f (ix2 (⟨4096 * (μ % 2) + r.val + 8 * (x 0).val, by
      have h0 : (x 0).val < 512 := (x 0).isLt
      have := r.isLt; have := Nat.mod_lt μ (y := 2) (by decide); omega⟩ : Fin 8192) (⟨(x 1).val, (x 1).isLt⟩ : Fin 128))

/-- A program that returns. -/
theorem ret_intro {𝒟 : Defs nD τ sig (Elt F) Λ₀} (𝒱 : Variants) {bd : Option 𝒱.V} {α : Type} {Q : α → sProp 𝕄} (x : α) :
    Q x ⊢ wp frame (wpE 𝒟 𝒱 (c : Thread nD τ) bd) Set.univ (Prog.ret x) Q := by
  rw [Idealize.SL.Sem.wp_ret]
  exact Idealize.SL.BI.fupd_intro (PROP := sProp 𝕄)

/-- Reading one of the eight column blocks from the half that holds it. -/
theorem ld_row {𝒟 : Defs nD τ sig (Elt F) Λ₀} (𝒱 : Variants) {bd : Option 𝒱.V} {α : Type} {Q : α → sProp 𝕄}
    (i : grid0.Coords) (r : Fin 8) (o : Fin 2 → ℕ) (ho : o = k0_off18 i (BitVec.ofNat 32 r.val)) (hi) {hl}
    {k : (S512x128.Idx → Elt F .f32) → Prog (TpuEff nD τ sig (Elt F) Λ₀ .tc) α} (f : S8192x128.Idx → Elt F .f32) :
    xAt c (half (i 0).val) f
      ⊢ iprop((xAt c (half (i 0).val) f -∗ wp frame (wpE 𝒟 𝒱 (c : Thread nD τ) bd) Set.univ (k (rowsAt (i 0).val r f)) Q)
        -∗ wp frame (wpE 𝒟 𝒱 (c : Thread nD τ) bd) Set.univ
          (.op (.load (Memref.whole cc0_scratch0) (⟨o, S512x128.size, ![8, 1], hi⟩ : LoadRect S8192x128) hl) k) Q) := by
  rw [off18_eq] at ho
  subst ho
  have e : (Memref.whole cc0_scratch0).view.readAt (Elt F) (⟨![4096 * ((i 0).val % 2) + r.val, 0], S512x128.size, ![8, 1], hi⟩ : LoadRect S8192x128) f
      = rowsAt (i 0).val r f := by
    funext x
    show f _ = f _
    congr 1
    funext a; fin_cases a
    · apply Fin.ext
      show (4096 * ((i 0).val % 2) + r.val) + 8 * (x 0).val = _
      rfl
    · apply Fin.ext
      show 0 + 1 * (x 1).val = (x 1).val
      omega
  rw [← e]
  refine wp_load (m := Memref.whole cc0_scratch0) 𝒱 (c : Thread nD τ) bd Set.univ ?_
  intro y hy
  rw [mem_half]
  obtain ⟨x, hx, rfl⟩ := Finset.mem_map.1 hy
  obtain ⟨z, (h0 : z < 512), e0⟩ := (LoadRect.mem_set _).1 hx 0
  have e1 : (x 0).val = (4096 * ((i 0).val % 2) + r.val) + 8 * z := e0
  show (x 0).val / 4096 = (i 0).val % 2
  have := r.isLt
  omega

/-- What a tile's first point finds: the tile in flight, or — at the first tile — nothing in flight. -/
def stIn (μ : ℕ) : sProp 𝕄 := if μ = 0 then idleX c H else flyX c T H μ
/-- What is left beside the gathered half: the next tile in flight, or nothing. -/
def stNext (μ n : ℕ) : sProp 𝕄 :=
  if μ + 1 < n then flySt c T H (μ + 1) else iprop((∃ f, xAt c (half (μ + 1)) f) ∗ idleSt c H)
/-- What the tile's other points find. -/
def stOut (μ n : ℕ) : sProp 𝕄 := if μ + 1 < n then flyX c T H (μ + 1) else idleX c H

theorem st_close (μ n : ℕ) : iprop((∃ f, xAt c (half μ) f) ∗ stNext c T H μ n) ⊢ stOut c T H μ n := by
  unfold stNext stOut
  split
  · unfold flyX
    rw [half_mod (μ + 1 + 1) μ (by omega)]
  · unfold idleX
    iintro ⟨Hx, Hy, Hi⟩
    isplitr [Hi]; swap; · iexact Hi
    iapply (x_join c μ)
    isplitl [Hx]; · iexact Hx
    iexact Hy

theorem stIn_zero (μ : ℕ) (h : μ = 0) : stIn c T H μ ⊢ iprop((∃ f, xAt c Finset.univ f) ∗ semVal ((c : Thread nD τ), SemLoc.dma (cell 0)) 0
    ∗ semVal ((c : Thread nD τ), SemLoc.dma (cell 1)) 0 ∗ hAt c H Finset.univ fullShare) := by unfold stIn idleX; rw [if_pos h]
theorem stIn_fly (μ : ℕ) (h : ¬ μ = 0) : stIn c T H μ ⊢ flyX c T H μ := by unfold stIn; rw [if_neg h]
theorem flyX_open (μ : ℕ) : flyX c T H μ ⊢ iprop((∃ f, xAt c (half (μ + 1)) f) ∗ batch c T H μ 512 0 ∗ bigSep Finset.univ (keep c T H μ)
    ∗ hAt c H Finset.univ (Transfers.shareDrop fullShare 512) ∗ semVal ((c : Thread nD τ), SemLoc.dma (cell (μ + 1))) 0) := by unfold flyX; exact .rfl
theorem drain_open (μ k : ℕ) (hk : k = 512) : drainAt c T H μ k ⊢ iprop(batch c T H μ 512 (128 * 512) ∗ ∃ W, owes (c : Thread nD τ) 0 W) := by subst hk; unfold drainAt; exact .rfl
theorem drain_enter (μ : ℕ) (W : Waits sig Unit) : iprop(batch c T H μ 512 0 ∗ owes (c : Thread nD τ) 0 W) ⊢ drainAt c T H μ 0 := by
  unfold drainAt; iintro ⟨HB, HO⟩; isplitl [HB]; · iexact HB
  iexists W; iexact HO
theorem gotX_open (μ : ℕ) : gotX c T H μ ⊢ iprop(xAt c (half μ) (gath T H μ) ∗ semVal ((c : Thread nD τ), SemLoc.dma (cell μ)) 0
    ∗ semVal ((c : Thread nD τ), SemLoc.dma (cell (μ + 1))) 0 ∗ hAt c H Finset.univ fullShare) := by unfold gotX; exact .rfl
theorem next_fly (μ n : ℕ) (h : μ + 1 < n) : flySt c T H (μ + 1) ⊢ stNext c T H μ n := by unfold stNext; rw [if_pos h]
theorem next_idle (μ n : ℕ) (h : ¬ μ + 1 < n) (f : S8192x128.Idx → Elt F .f32) :
    iprop(xAt c (half (μ + 1)) f ∗ semVal ((c : Thread nD τ), SemLoc.dma (cell μ)) 0
    ∗ semVal ((c : Thread nD τ), SemLoc.dma (cell (μ + 1))) 0 ∗ hAt c H Finset.univ fullShare) ⊢ stNext c T H μ n := by
  unfold stNext; rw [if_neg h]
  iintro ⟨Hx, Hc0, Hc1, Hh⟩
  ihave Hc := (cells_back c μ) $$ [Hc0 Hc1]
  · isplitl [Hc0]; · iexact Hc0
    iexact Hc1
  icases Hc with ⟨Hc0, Hc1⟩
  isplitl [Hx]; · iexists f; iexact Hx
  isplitl [Hc0]; · iexact Hc0
  isplitl [Hc1]; · iexact Hc1
  iexact Hh

variable (a2 : Memref sig .tc .smem S56 .i32) (h2 : a2.IsWhole) (a3 : Memref sig .tc .smem S1 .i32) (h3 : a3.IsWhole)
  (a6 : Memref sig .tc .vmem S1x1024x512 .bf16) (h6 : a6.IsWhole) (a7 : Memref sig .tc .vmem S1x1024x512 .bf16) (h7 : a7.IsWhole)
  (a8 : Memref sig .tc .vmem S1x512x1024 .bf16) (h8 : a8.IsWhole) (a9 : Memref sig .tc .vmem S4096x128 .f32) (h9 : a9.IsWhole)
  (a11 : Memref sig .tc .vmem S512x1024 .bf16) (h11 : a11.IsWhole) (a12 : Memref sig .tc .vmem S512x1024 .f32) (h12 : a12.IsWhole)

/-- A tile's first point, up to its third read of the gathered rows. -/
theorem part1_run (hT : ∀ x, (T x).toNat < 12288) (q : PosShare TreeShare) (i : grid0.Coords) (arg0 : BitVec 32) (n : ℕ) (hn : n ≤ 56) (hc1)
    {𝒟 : Defs nD τ sig (Elt F) Λ₀} (𝒱 : Variants) {bd : Option 𝒱.V} (K : _ → sProp 𝕄) :
    iprop(stIn c T H (i 0).val ∗ sAt c T q ∗ (∃ W, owes (c : Thread nD τ) 0 W)
      ∗ (∀ v, iprop(xAt c (half (i 0).val) (gath T H (i 0).val) ∗ stNext c T H (i 0).val n ∗ sAt c T q ∗ (∃ W, owes (c : Thread nD τ) 0 W))
          -∗ K ⟨v, rowsAt (i 0).val 0 (gath T H (i 0).val), rowsAt (i 0).val 1 (gath T H (i 0).val), rowsAt (i 0).val 2 (gath T H (i 0).val)⟩))
    ⊢ wp frame (wpE 𝒟 𝒱 (c : Thread nD τ) bd) Set.univ
      (k0_part1 (F := F) i a2 h2 a3 h3 (Memref.whole main_arg1) (Memref.isWhole_whole _) (Memref.whole main_arg0) (Memref.isWhole_whole _)
        a6 h6 a7 h7 a8 h8 a9 h9 (Memref.whole cc0_scratch0) (Memref.isWhole_whole _) a11 h11 a12 h12 cc0_scratch3 arg0 (BitVec.ofNat 32 n) hc1) K := by
  have hm : (i 0).val < n := ((cond1_iff i n hn).1 hc1).1
  iintro ⟨HX, HS, ⟨%W, HO⟩, HK⟩
  rw [k0_part1_eq_skeleton]
  sl_unfold [k0_part1_skel]
  sl_exec
  by_cases hc2 : k0_cond2 i = 1#1
  on_goal 1 =>
    have hi : (i 0).val = 0 := (cond2_iff i).1 hc2
    rw [dif_pos hc2]
    ihave HX := (stIn_zero c T H (i 0).val hi) $$ HX
    icases HX with ⟨⟨%f, Hx⟩, Hs0, Hs1, Hh⟩
    ihave Hxx := (x_split c 0 f) $$ Hx
    icases Hxx with ⟨Hx, Hy⟩
    iapply Idealize.SL.Sem.fupd_wp
    imod (issue_enter c T H q 0) $$ [Hx Hs0 Hh HS] with ⟨HI, Hd⟩
    · isplitl [Hx]; · iexists f; iexact Hx
      isplitl [Hs0]; · iexact Hs0
      isplitl [Hh]; · iexact Hh
      iexact HS
    imodintro
    sl_for (fun k _ => issueAt c T H q 0 k) $$ [HI]
    · intro k acc; exact t1_step c T H a2 h2 a3 h3 a6 h6 a7 h7 a8 h8 a9 h9 a11 h11 a12 h12 hT q i arg0 (BitVec.ofNat 32 n) hc1 hc2 𝒱 k acc
    · iexact HI
    iintro %acc HI
    ihave HF := (issue_exit c T H q 0) $$ [HI Hd Hs1]
    · isplitl [HI]; · iexact HI
      isplitl [Hd]; · iexact Hd
      iexact Hs1
    icases HF with ⟨HF, HS⟩
    ihave HX := (show iprop(xAt c (half (0 + 1)) f ∗ flySt c T H 0) ⊢ flyX c T H (i 0).val by
      rw [hi]; unfold flyX; iintro ⟨Hy, HF⟩; isplitl [Hy]; · iexists f; iexact Hy
      iexact HF) $$ [Hy HF]
    · isplitl [Hy]; · iexact Hy
      iexact HF
  on_goal 2 =>
    have hi : ¬ (i 0).val = 0 := fun e => hc2 ((cond2_iff i).2 e)
    rw [dif_neg hc2]
    ihave HX := (stIn_fly c T H (i 0).val hi) $$ HX
  all_goals
    sl_exec
    ihave HX := (flyX_open c T H (i 0).val) $$ HX
    icases HX with ⟨⟨%f, Hy⟩, HB, Hk, Hd, Hc⟩
    sl_for (fun k _ => drainAt c T H (i 0).val k) $$ [HB HO]
    · intro k acc; exact t2_step c T H a2 h2 a3 h3 a6 h6 a7 h7 a8 h8 a9 h9 a11 h11 a12 h12 i arg0 (BitVec.ofNat 32 n) hc1 𝒱 k acc
    · iapply (drain_enter c T H (i 0).val W)
      isplitl [HB]; · iexact HB
      iexact HO
    iintro %acc HI
    ihave HI := (drain_open c T H (i 0).val _ (by decide)) $$ HI
    icases HI with ⟨HB, HO⟩
    iapply Idealize.SL.Sem.fupd_wp
    imod (drain_exit c T H (i 0).val) $$ [HB Hk Hd Hc] with HG
    · isplitl [HB]; · iexact HB
      isplitl [Hk]; · iexact Hk
      isplitl [Hd]; · iexact Hd
      iexact Hc
    imodintro
    ihave HG := (gotX_open c T H (i 0).val) $$ HG
    icases HG with ⟨Hg, Hc0, Hc1, Hh⟩
    sl_exec
    by_cases hc3 : k0_cond3 i (BitVec.ofNat 32 n) = 1#1
  all_goals
    first
    | rw [dif_pos hc3]
      have hm1 : (i 0).val + 1 < n := (cond3_iff i n hn).1 hc3
      ihave HI := (issue_enter c T H q ((i 0).val + 1)) $$ [Hy Hc1 Hh HS]
      · isplitl [Hy]; · iexists f; iexact Hy
        isplitl [Hc1]; · iexact Hc1
        isplitl [Hh]; · iexact Hh
        iexact HS
      iapply Idealize.SL.Sem.fupd_wp
      imod HI with ⟨HI, Hd⟩
      imodintro
      sl_for (fun k _ => issueAt c T H q ((i 0).val + 1) k) $$ [HI]
      · intro k acc; exact t3_step c T H a2 h2 a3 h3 a6 h6 a7 h7 a8 h8 a9 h9 a11 h11 a12 h12 hT q i arg0 (BitVec.ofNat 32 n) hc1 hc3 (by omega) 𝒱 k acc
      · iexact HI
      iintro %acc HI
      ihave HF := (issue_exit c T H q ((i 0).val + 1)) $$ [HI Hd Hc0]
      · isplitl [HI]; · iexact HI
        isplitl [Hd]; · iexact Hd
        rw [cell_mod ((i 0).val + 1 + 1) (i 0).val (by omega)]
        iexact Hc0
      icases HF with ⟨HF, HS⟩
      ihave HN := (next_fly c T H (i 0).val n hm1) $$ HF
    | rw [dif_neg hc3]
      have hm1 : ¬ (i 0).val + 1 < n := fun e => hc3 ((cond3_iff i n hn).2 e)
      ihave HN := (next_idle c T H (i 0).val n hm1 f) $$ [Hy Hc0 Hc1 Hh]
      · isplitl [Hy]; · iexact Hy
        isplitl [Hc0]; · iexact Hc0
        isplitl [Hc1]; · iexact Hc1
        iexact Hh
  all_goals
    try sl_exec
    iapply (ld_row c 𝒱 i 0 _ rfl _ _) $$ Hg
    iintro Hg
    try sl_exec
    iapply (ld_row c 𝒱 i 1 _ rfl _ _) $$ Hg
    iintro Hg
    try sl_exec
    iapply (ld_row c 𝒱 i 2 _ rfl _ _) $$ Hg
    iintro Hg
    iapply (ret_intro c 𝒱 (Q := K) _)
    iapply HK
    isplitl [Hg]; · iexact Hg
    isplitl [HN]; · iexact HN
    isplitl [HS]; · iexact HS
    iexact HO

end State

end Cert.MoeIdeal.V
-- ==== Proof.MoeV.Point.lean ====
/- The expert call at one grid point, in each of the five ways its conditions send it. -/
module

public import proofs.«01_k».proof.Proof.MoeV.Part1

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Whole

variable {κ : Kind} {sp : Space} {s : Shape} {e : EltTy}

theorem rd_zero (v : View sig κ sp s e) {o : Fin s.rank → ℕ} (ho : ∀ a, o a = 0) (hi) (f : v.ty.Contents (Elt F)) :
    v.readAt (Elt F) (Rect.unit (s := s) o s.size hi).toLoadRect f = v.read (Elt F) f := by
  funext x
  show v.read (Elt F) f _ = v.read (Elt F) f x
  congr 1
  funext a
  apply Fin.ext
  show o a + 1 * (x a).val = (x a).val
  rw [ho a]; omega

theorem wr_zero (v : View sig κ sp s e) {o : Fin s.rank → ℕ} (ho : ∀ a, o a = 0) (hi) (f : v.ty.Contents (Elt F)) (w : s.Idx → Elt F e) (L := []) :
    v.read (Elt F) (v.writes (Elt F) f (⟨Rect.unit (s := s) o s.size hi, w⟩ :: L)) = w := by
  funext y
  have hy : (Rect.unit (s := s) o s.size hi).emb y = y := by
    funext a
    apply Fin.ext
    show o a + 1 * (y a).val = (y a).val
    rw [ho a]; omega
  have h := View.read_writes_cons_emb v f (Rect.unit (s := s) o s.size hi) w L y
  rw [hy] at h
  exact h

end Whole

section Body

variable (c : Dev nD) (T : S28672.Idx → BitVec 32) (H : S98304x128.Idx → Elt F .f32)

/-- The number of tiles in use, held to be read. -/
abbrev nAt (q : PosShare TreeShare) (N : S1.Idx → BitVec 32) : sProp 𝕄 :=
  (Memref.whole main_arg3).view.loc (c : Thread nD τ) ↦{q} (N : main_arg3.ty.Contents (Elt F))

theorem n_word (N : S1.Idx → BitVec 32) (n : ℕ) (hN : N = fun _ => BitVec.ofNat 32 n) (hi) (x) :
    (Memref.whole main_arg3).view.readAt (Elt F) (Rect.unit (s := S1) ![0] S1.size hi).toLoadRect N x = BitVec.ofNat 32 n := by
  subst hN; rfl

/-- The tile's rows as the expert's factors take them. -/
def xbOf (μ : ℕ) : S512x1024.Idx → Elt F .bf16 :=
  k0_pay1 (rowsAt μ 0 (gath T H μ)) (rowsAt μ 1 (gath T H μ)) (rowsAt μ 2 (gath T H μ)) (rowsAt μ 3 (gath T H μ))
    (rowsAt μ 4 (gath T H μ)) (rowsAt μ 5 (gath T H μ)) (rowsAt μ 6 (gath T H μ)) (rowsAt μ 7 (gath T H μ))

variable (a6 : Memref sig .tc .vmem S1x1024x512 .bf16) (h6 : a6.IsWhole) (a7 : Memref sig .tc .vmem S1x1024x512 .bf16) (h7 : a7.IsWhole)
  (a8 : Memref sig .tc .vmem S1x512x1024 .bf16) (h8 : a8.IsWhole) (a9 : Memref sig .tc .vmem S4096x128 .f32) (h9 : a9.IsWhole)

theorem z2 : ∀ a : Fin 2, (![0, 0] : Fin 2 → ℕ) a = 0 := by decide
theorem z3 : ∀ a : Fin 3, (![0, 0, 0] : Fin 3 → ℕ) a = 0 := by decide

theorem pay3_eq {a a' : Vec F S512x1024 .bf16} {b b' : Vec F S1x1024x512 .bf16} {d d' : Vec F S1x1024x512 .bf16} {e e' : Vec F S512x1024 .f32}
    {g g' : Vec F S1x512x1024 .bf16} (h1 : a = a') (h2 : b = b') (h3 : d = d') (h4 : e = e') (h5 : g = g') :
    k0_pay3 a b d e g = k0_pay3 a' b' d' e' g' := by subst h1 h2 h3 h4 h5; rfl

/-- A tile's result, its rows laid out eight to a row of 128. -/
def outTile (A : S512x1024.Idx → Elt F .f32) : S4096x128.Idx → Elt F .f32 := fun y =>
  A (ix2 (⟨(y 0).val / 8, by have h : (y 0).val < 4096 := (y 0).isLt; omega⟩ : Fin 512)
    (⟨128 * ((y 0).val % 8) + (y 1).val, by have h : (y 1).val < 128 := (y 1).isLt; omega⟩ : Fin 1024))

/-- The rows of the tile that hold the `r`-th block of 128 columns. -/
abbrev stripe (r : ℕ) (hi : ∀ a, S512x128.size a = 0 ∨ (![r, 0] : Fin 2 → ℕ) a + (![8, 1] : Fin 2 → ℕ) a * (S512x128.size a - 1) < S4096x128.size a) : Rect S4096x128 :=
  ⟨(⟨![r, 0], S512x128.size, ![8, 1], hi⟩ : LoadRect S4096x128), spos_8_1⟩

/-- Column `128 * r + l` of row `z`. -/
abbrev col (r : ℕ) (hr : r < 8) (x : S512x128.Idx) : S512x1024.Idx :=
  ix2 (⟨(x 0).val, (x 0).isLt⟩ : Fin 512) (⟨128 * r + (x 1).val, by have h : (x 1).val < 128 := (x 1).isLt; omega⟩ : Fin 1024)

theorem stripe_val (A : S512x1024.Idx → Elt F .f32) (r : ℕ) (hr : r < 8) (hi) (x : S512x128.Idx) :
    A (col r hr x) = outTile A ((stripe r hi).emb x) := by
  have h0 : (x 0).val < 512 := (x 0).isLt
  have h1 : (x 1).val < 128 := (x 1).isLt
  refine congrArg A (funext fun a => Fin.ext ?_)
  fin_cases a
  · show (x 0).val = (r + 8 * (x 0).val) / 8
    omega
  · show 128 * r + (x 1).val = 128 * ((r + 8 * (x 0).val) % 8) + (0 + 1 * (x 1).val)
    omega

theorem mem_stripe (y : S4096x128.Idx) (r : ℕ) (hr : (y 0).val % 8 = r) (hi) : y ∈ (stripe r hi).set := by
  have hy0 : (y 0).val < 4096 := (y 0).isLt
  have hy1 : (y 1).val < 128 := (y 1).isLt
  refine (LoadRect.mem_set _).2 fun a => ?_
  fin_cases a
  · exact ⟨(y 0).val / 8, (by show (y 0).val / 8 < 512; omega), (by show (y 0).val = r + 8 * ((y 0).val / 8); omega)⟩
  · exact ⟨(y 1).val, hy1, (by show (y 1).val = 0 + 1 * (y 1).val; omega)⟩

theorem pay4_at (A : S512x1024.Idx → Elt F .f32) (x) : k0_pay4 A x = A (col 0 (by decide) x) :=
  congrArg A (funext fun a => Fin.ext (by fin_cases a <;> first | exact Nat.zero_add _ | rfl))

theorem pay5_at (A : S512x1024.Idx → Elt F .f32) (x) : k0_pay5 A x = A (col 1 (by decide) x) :=
  congrArg A (funext fun a => Fin.ext (by fin_cases a <;> first | exact Nat.zero_add _ | rfl))

theorem pay6_at (A : S512x1024.Idx → Elt F .f32) (x) : k0_pay6 A x = A (col 2 (by decide) x) :=
  congrArg A (funext fun a => Fin.ext (by fin_cases a <;> first | exact Nat.zero_add _ | rfl))

theorem pay7_at (A : S512x1024.Idx → Elt F .f32) (x) : k0_pay7 A x = A (col 3 (by decide) x) :=
  congrArg A (funext fun a => Fin.ext (by fin_cases a <;> first | exact Nat.zero_add _ | rfl))

theorem pay8_at (A : S512x1024.Idx → Elt F .f32) (x) : k0_pay8 A x = A (col 4 (by decide) x) :=
  congrArg A (funext fun a => Fin.ext (by fin_cases a <;> first | exact Nat.zero_add _ | rfl))

theorem pay9_at (A : S512x1024.Idx → Elt F .f32) (x) : k0_pay9 A x = A (col 5 (by decide) x) :=
  congrArg A (funext fun a => Fin.ext (by fin_cases a <;> first | exact Nat.zero_add _ | rfl))

theorem pay10_at (A : S512x1024.Idx → Elt F .f32) (x) : k0_pay10 A x = A (col 6 (by decide) x) :=
  congrArg A (funext fun a => Fin.ext (by fin_cases a <;> first | exact Nat.zero_add _ | rfl))

theorem pay11_at (A : S512x1024.Idx → Elt F .f32) (x) : k0_pay11 A x = A (col 7 (by decide) x) :=
  congrArg A (funext fun a => Fin.ext (by fin_cases a <;> first | exact Nat.zero_add _ | rfl))

/-- The eight strided stores lay the result out as `outTile`. -/
theorem tile_read (a9 : Memref sig .tc .vmem S4096x128 .f32) (f9 : a9.view.ty.Contents (Elt F)) (A : S512x1024.Idx → Elt F .f32) :
    a9.view.read (Elt F) (a9.view.writes (Elt F) f9 [⟨stripe 7 inb_S4096x128_S512x128_7_0_s_8_1, k0_pay11 A⟩,
      ⟨stripe 6 inb_S4096x128_S512x128_6_0_s_8_1, k0_pay10 A⟩,
      ⟨stripe 5 inb_S4096x128_S512x128_5_0_s_8_1, k0_pay9 A⟩,
      ⟨stripe 4 inb_S4096x128_S512x128_4_0_s_8_1, k0_pay8 A⟩,
      ⟨stripe 3 inb_S4096x128_S512x128_3_0_s_8_1, k0_pay7 A⟩,
      ⟨stripe 2 inb_S4096x128_S512x128_2_0_s_8_1, k0_pay6 A⟩,
      ⟨stripe 1 inb_S4096x128_S512x128_1_0_s_8_1, k0_pay5 A⟩,
      ⟨stripe 0 inb_S4096x128_S512x128_0_0_s_8_1, k0_pay4 A⟩]) = outTile A := by
  funext y
  refine View.read_writes_apply_of_pieces a9.view f9 (outTile A) _ ?_ y ?_
  · refine List.forall_mem_cons.2 ⟨fun x => (pay11_at A x).trans (stripe_val A 7 (by decide) _ x), ?_⟩
    refine List.forall_mem_cons.2 ⟨fun x => (pay10_at A x).trans (stripe_val A 6 (by decide) _ x), ?_⟩
    refine List.forall_mem_cons.2 ⟨fun x => (pay9_at A x).trans (stripe_val A 5 (by decide) _ x), ?_⟩
    refine List.forall_mem_cons.2 ⟨fun x => (pay8_at A x).trans (stripe_val A 4 (by decide) _ x), ?_⟩
    refine List.forall_mem_cons.2 ⟨fun x => (pay7_at A x).trans (stripe_val A 3 (by decide) _ x), ?_⟩
    refine List.forall_mem_cons.2 ⟨fun x => (pay6_at A x).trans (stripe_val A 2 (by decide) _ x), ?_⟩
    refine List.forall_mem_cons.2 ⟨fun x => (pay5_at A x).trans (stripe_val A 1 (by decide) _ x), ?_⟩
    refine List.forall_mem_cons.2 ⟨fun x => (pay4_at A x).trans (stripe_val A 0 (by decide) _ x), ?_⟩
    exact fun p hp => absurd hp List.not_mem_nil
  · rcases (by omega : (y 0).val % 8 = 7 ∨ (y 0).val % 8 = 6 ∨ (y 0).val % 8 = 5 ∨ (y 0).val % 8 = 4 ∨ (y 0).val % 8 = 3 ∨ (y 0).val % 8 = 2
      ∨ (y 0).val % 8 = 1 ∨ (y 0).val % 8 = 0) with h | h | h | h | h | h | h | h
    · exact ⟨_, .head _, mem_stripe y _ h _⟩
    · exact ⟨_, .tail _ (.head _), mem_stripe y _ h _⟩
    · exact ⟨_, .tail _ (.tail _ (.head _)), mem_stripe y _ h _⟩
    · exact ⟨_, .tail _ (.tail _ (.tail _ (.head _))), mem_stripe y _ h _⟩
    · exact ⟨_, .tail _ (.tail _ (.tail _ (.tail _ (.head _)))), mem_stripe y _ h _⟩
    · exact ⟨_, .tail _ (.tail _ (.tail _ (.tail _ (.tail _ (.head _))))), mem_stripe y _ h _⟩
    · exact ⟨_, .tail _ (.tail _ (.tail _ (.tail _ (.tail _ (.tail _ (.head _)))))), mem_stripe y _ h _⟩
    · exact ⟨_, .tail _ (.tail _ (.tail _ (.tail _ (.tail _ (.tail _ (.tail _ (.head _))))))), mem_stripe y _ h _⟩

/-- The kernel at a grid point, over the windows' staging buffers. -/
abbrev kern (i : grid0.Coords) : Prog (TpuEff nD τ sig (Elt F) Λ₀ .tc) PUnit :=
  cc0_moe_ffn (F := F) i (Memref.whole main_v14) (Memref.isWhole_whole _) (Memref.whole main_arg3) (Memref.isWhole_whole _)
    (Memref.whole main_arg1) (Memref.isWhole_whole _) (Memref.whole main_arg0) (Memref.isWhole_whole _)
    a6 h6 a7 h7 a8 h8 a9 h9 (Memref.whole cc0_scratch0) (Memref.isWhole_whole _)
    (Memref.whole cc0_scratch1) (Memref.isWhole_whole _) (Memref.whole cc0_scratch2) (Memref.isWhole_whole _) cc0_scratch3

/-- A point of a tile out of use, before its last. -/
theorem run_skip (q : PosShare TreeShare) (i : grid0.Coords) (n : ℕ) (hn : n ≤ 56) (hm : ¬ (i 0).val < n) (hf : (i 1).val ≠ 6)
    {𝒟 : Defs nD τ sig (Elt F) Λ₀} (𝒱 : Variants) {bd : Option 𝒱.V} (K : PUnit → sProp 𝕄) :
    iprop(nAt c q (fun _ => BitVec.ofNat 32 n) ∗ (nAt (F := F) c q (fun _ => BitVec.ofNat 32 n) -∗ K ⟨⟩))
      ⊢ wp frame (wpE 𝒟 𝒱 (c : Thread nD τ) bd) Set.univ (kern (F := F) a6 h6 a7 h7 a8 h8 a9 h9 i) K := by
  iintro ⟨HN, HK⟩
  unfold kern
  rw [cc0_moe_ffn_eq_skeleton]
  sl_unfold [cc0_moe_ffn_skel]
  sl_exec
  sl_unfold_run_names
  rw [n_word (F := F) _ n rfl, dif_neg (fun e => hm ((cond1_iff i n hn).1 e).1)]
  sl_exec
  rw [dif_neg (fun e => hm ((cond4_iff i n hn).1 e))]
  sl_exec
  rw [dif_neg (fun e => hf ((cond6_iff i n hn).1 e).2)]
  sl_exec
  sl_step
  iapply HK
  iexact HN

/-- The last point of a tile out of use: zeros go out. -/
theorem run_zero (q : PosShare TreeShare) (i : grid0.Coords) (n : ℕ) (hn : n ≤ 56) (hm : ¬ (i 0).val < n) (hf : (i 1).val = 6)
    {𝒟 : Defs nD τ sig (Elt F) Λ₀} (𝒱 : Variants) {bd : Option 𝒱.V} (K : PUnit → sProp 𝕄) :
    iprop(nAt c q (fun _ => BitVec.ofNat 32 n) ∗ (∃ d, owns (c : Thread nD τ) a9 fullShare d)
        ∗ (iprop(nAt (F := F) c q (fun _ => BitVec.ofNat 32 n) ∗ owns (c : Thread nD τ) a9 fullShare (k0_pay12 (F := F))) -∗ K ⟨⟩))
      ⊢ wp frame (wpE 𝒟 𝒱 (c : Thread nD τ) bd) Set.univ (kern (F := F) a6 h6 a7 h7 a8 h8 a9 h9 i) K := by
  unfold owns
  iintro ⟨HN, ⟨%d, %f9, -, H9⟩, HK⟩
  unfold kern
  rw [cc0_moe_ffn_eq_skeleton]
  sl_unfold [cc0_moe_ffn_skel]
  sl_exec
  sl_unfold_run_names
  rw [n_word (F := F) _ n rfl, dif_neg (fun e => hm ((cond1_iff i n hn).1 e).1)]
  sl_exec
  rw [dif_neg (fun e => hm ((cond4_iff i n hn).1 e))]
  sl_exec
  rw [dif_pos ((cond6_iff i n hn).2 ⟨hm, hf⟩)]
  sl_exec
  sl_step
  iapply HK
  isplitl [HN]; · iexact HN
  iexists _; isplitr; swap; · iexact H9
  ipureintro
  sl_unfold_run_names
  rw [wr_zero _ z2]

/-- A point of a tile in use, neither its first nor its last. -/
theorem run_mid (q : PosShare TreeShare) (i : grid0.Coords) (n : ℕ) (hn : n ≤ 56) (hm : (i 0).val < n) (h0 : (i 1).val ≠ 0) (hf : (i 1).val ≠ 6)
    (X A X0 X1 X2)
    {𝒟 : Defs nD τ sig (Elt F) Λ₀} (𝒱 : Variants) {bd : Option 𝒱.V} (K : PUnit → sProp 𝕄) :
    iprop(nAt c q (fun _ => BitVec.ofNat 32 n) ∗ owns (c : Thread nD τ) (Memref.whole cc0_scratch1) fullShare X
        ∗ owns (c : Thread nD τ) (Memref.whole cc0_scratch2) fullShare A
        ∗ owns (c : Thread nD τ) a6 fullShare X0 ∗ owns (c : Thread nD τ) a7 fullShare X1 ∗ owns (c : Thread nD τ) a8 fullShare X2
        ∗ (iprop(nAt (F := F) c q (fun _ => BitVec.ofNat 32 n) ∗ owns (c : Thread nD τ) (Memref.whole cc0_scratch1) fullShare X
            ∗ owns (c : Thread nD τ) (Memref.whole cc0_scratch2) fullShare (k0_pay3 X X0 X1 A X2)
            ∗ owns (c : Thread nD τ) a6 fullShare X0 ∗ owns (c : Thread nD τ) a7 fullShare X1 ∗ owns (c : Thread nD τ) a8 fullShare X2) -∗ K ⟨⟩))
      ⊢ wp frame (wpE 𝒟 𝒱 (c : Thread nD τ) bd) Set.univ (kern (F := F) a6 h6 a7 h7 a8 h8 a9 h9 i) K := by
  unfold owns
  iintro ⟨HN, ⟨%fx, %ex, HX⟩, ⟨%fa, %ea, HA⟩, ⟨%f0, %e0, H0⟩, ⟨%f1, %e1, H1⟩, ⟨%f2, %e2, H2⟩, HK⟩
  subst ex ea e0 e1 e2
  unfold kern
  rw [cc0_moe_ffn_eq_skeleton]
  sl_unfold [cc0_moe_ffn_skel]
  sl_exec
  sl_unfold_run_names
  rw [n_word (F := F) _ n rfl, dif_neg (fun e => h0 ((cond1_iff i n hn).1 e).2)]
  sl_exec
  rw [dif_pos ((cond4_iff i n hn).2 hm)]
  sl_exec
  rw [dif_neg (fun e => hf ((cond5_iff i).1 e))]
  sl_exec
  rw [dif_neg (fun e => ((cond6_iff i n hn).1 e).1 hm)]
  sl_exec
  sl_step
  iapply HK
  isplitl [HN]; · iexact HN
  isplitl [HX]
  · iexists _; isplitr; swap; · iexact HX
    ipureintro; rfl
  isplitl [HA]
  · iexists _; isplitr; swap; · iexact HA
    ipureintro
    sl_unfold_run_names
    exact (wr_zero (s := S512x1024) _ z2 _ _ _).trans (pay3_eq (rd_zero (s := S512x1024) _ z2 _ _) (rd_zero (s := S1x1024x512) _ z3 _ _)
      (rd_zero (s := S1x1024x512) _ z3 _ _) (rd_zero (s := S512x1024) _ z2 _ _) (rd_zero (s := S1x512x1024) _ z3 _ _))
  isplitl [H0]
  · iexists _; isplitr; swap; · iexact H0
    ipureintro; rfl
  isplitl [H1]
  · iexists _; isplitr; swap; · iexact H1
    ipureintro; rfl
  iexists _; isplitr; swap; · iexact H2
  ipureintro; rfl

/-- The last point of a tile in use: the result goes out. -/
theorem run_last (q : PosShare TreeShare) (i : grid0.Coords) (n : ℕ) (hn : n ≤ 56) (hm : (i 0).val < n) (h0 : (i 1).val ≠ 0) (hf : (i 1).val = 6)
    (X A X0 X1 X2)
    {𝒟 : Defs nD τ sig (Elt F) Λ₀} (𝒱 : Variants) {bd : Option 𝒱.V} (K : PUnit → sProp 𝕄) :
    iprop(nAt c q (fun _ => BitVec.ofNat 32 n) ∗ owns (c : Thread nD τ) (Memref.whole cc0_scratch1) fullShare X
        ∗ owns (c : Thread nD τ) (Memref.whole cc0_scratch2) fullShare A
        ∗ owns (c : Thread nD τ) a6 fullShare X0 ∗ owns (c : Thread nD τ) a7 fullShare X1 ∗ owns (c : Thread nD τ) a8 fullShare X2
        ∗ (∃ d, owns (c : Thread nD τ) a9 fullShare d)
        ∗ (iprop(nAt (F := F) c q (fun _ => BitVec.ofNat 32 n) ∗ owns (c : Thread nD τ) (Memref.whole cc0_scratch1) fullShare X
            ∗ owns (c : Thread nD τ) (Memref.whole cc0_scratch2) fullShare (k0_pay3 X X0 X1 A X2)
            ∗ owns (c : Thread nD τ) a6 fullShare X0 ∗ owns (c : Thread nD τ) a7 fullShare X1 ∗ owns (c : Thread nD τ) a8 fullShare X2
            ∗ owns (c : Thread nD τ) a9 fullShare (outTile (k0_pay3 X X0 X1 A X2))) -∗ K ⟨⟩))
      ⊢ wp frame (wpE 𝒟 𝒱 (c : Thread nD τ) bd) Set.univ (kern (F := F) a6 h6 a7 h7 a8 h8 a9 h9 i) K := by
  unfold owns
  iintro ⟨HN, ⟨%fx, %ex, HX⟩, ⟨%fa, %ea, HA⟩, ⟨%f0, %e0, H0⟩, ⟨%f1, %e1, H1⟩, ⟨%f2, %e2, H2⟩, ⟨%d, %f9, -, H9⟩, HK⟩
  subst ex ea e0 e1 e2
  unfold kern
  rw [cc0_moe_ffn_eq_skeleton]
  sl_unfold [cc0_moe_ffn_skel]
  sl_exec
  sl_unfold_run_names
  rw [n_word (F := F) _ n rfl, dif_neg (fun e => h0 ((cond1_iff i n hn).1 e).2)]
  sl_exec
  rw [dif_pos ((cond4_iff i n hn).2 hm)]
  sl_exec
  rw [dif_pos ((cond5_iff i).2 hf)]
  sl_exec
  rw [dif_neg (fun e => ((cond6_iff i n hn).1 e).1 hm)]
  sl_exec
  sl_step
  iapply HK
  isplitl [HN]; · iexact HN
  isplitl [HX]
  · iexists _; isplitr; swap; · iexact HX
    ipureintro; rfl
  isplitl [HA]
  · iexists _; isplitr; swap; · iexact HA
    ipureintro
    sl_unfold_run_names
    exact (wr_zero (s := S512x1024) _ z2 _ _ _).trans (pay3_eq (rd_zero (s := S512x1024) _ z2 _ _) (rd_zero (s := S1x1024x512) _ z3 _ _)
      (rd_zero (s := S1x1024x512) _ z3 _ _) (rd_zero (s := S512x1024) _ z2 _ _) (rd_zero (s := S1x512x1024) _ z3 _ _))
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  iexists _; isplitr; swap; · iexact H9
  ipureintro
  sl_unfold_run_names
  rw [dif_pos ((cond4_iff i n hn).2 hm)]
  refine (tile_read a9 f9 _).trans (congrArg outTile ?_)
  exact (View.readCov_unit_lit (S := S512x1024) _ _ _ z2).trans (pay3_eq (rd_zero (s := S512x1024) _ z2 _ _) (rd_zero (s := S1x1024x512) _ z3 _ _)
      (rd_zero (s := S1x1024x512) _ z3 _ _) (rd_zero (s := S512x1024) _ z2 _ _) (rd_zero (s := S1x512x1024) _ z3 _ _))

theorem bind_intro {𝒟 : Defs nD τ sig (Elt F) Λ₀} (𝒱 : Variants) {bd : Option 𝒱.V} {α β : Type} (x : α)
    (k : α → Prog (TpuEff nD τ sig (Elt F) Λ₀ .tc) β) (Q : β → sProp 𝕄) :
    wp frame (wpE 𝒟 𝒱 (c : Thread nD τ) bd) Set.univ (k x) Q
      ⊢ wp frame (wpE 𝒟 𝒱 (c : Thread nD τ) bd) Set.univ ((Prog.ret x).bind k) Q := .rfl

/-- A tile's first point. -/
theorem run_first (hT : ∀ x, (T x).toNat < 12288) (q : PosShare TreeShare) (i : grid0.Coords) (n : ℕ) (hn : n ≤ 56) (hm : (i 0).val < n) (h0 : (i 1).val = 0)
    (X0 X1 X2)
    {𝒟 : Defs nD τ sig (Elt F) Λ₀} (𝒱 : Variants) {bd : Option 𝒱.V} (K : PUnit → sProp 𝕄) :
    iprop(nAt c q (fun _ => BitVec.ofNat 32 n) ∗ sAt c T q ∗ stIn c T H (i 0).val ∗ (∃ W, owes (c : Thread nD τ) 0 W)
        ∗ (∃ d, owns (c : Thread nD τ) (Memref.whole cc0_scratch1) fullShare d)
        ∗ (∃ d, owns (c : Thread nD τ) (Memref.whole cc0_scratch2) fullShare d)
        ∗ owns (c : Thread nD τ) a6 fullShare X0 ∗ owns (c : Thread nD τ) a7 fullShare X1 ∗ owns (c : Thread nD τ) a8 fullShare X2
        ∗ (iprop(nAt (F := F) c q (fun _ => BitVec.ofNat 32 n) ∗ sAt (F := F) c T q ∗ stOut c T H (i 0).val n ∗ (∃ W, owes (c : Thread nD τ) 0 W)
            ∗ owns (c : Thread nD τ) (Memref.whole cc0_scratch1) fullShare (xbOf T H (i 0).val)
            ∗ owns (c : Thread nD τ) (Memref.whole cc0_scratch2) fullShare (k0_pay3 (xbOf T H (i 0).val) X0 X1 (k0_pay2 (F := F)) X2)
            ∗ owns (c : Thread nD τ) a6 fullShare X0 ∗ owns (c : Thread nD τ) a7 fullShare X1 ∗ owns (c : Thread nD τ) a8 fullShare X2) -∗ K ⟨⟩))
      ⊢ wp frame (wpE 𝒟 𝒱 (c : Thread nD τ) bd) Set.univ (kern (F := F) a6 h6 a7 h7 a8 h8 a9 h9 i) K := by
  unfold owns
  iintro ⟨HN, HS, HI, HO, ⟨%dx, %fx, -, HX⟩, ⟨%da, %fa, -, HA⟩, ⟨%f0, %e0, H0⟩, ⟨%f1, %e1, H1⟩, ⟨%f2, %e2, H2⟩, HK⟩
  subst e0 e1 e2
  unfold kern
  rw [cc0_moe_ffn_eq_skeleton]
  sl_unfold [cc0_moe_ffn_skel]
  sl_exec
  sl_unfold_run_names
  rw [n_word (F := F) _ n rfl, dif_pos ((cond1_iff i n hn).2 ⟨hm, h0⟩)]
  iapply (Entails.of_eq (Idealize.SL.Sem.wp_bind _ _ _ _ _ _).symm)
  iapply (part1_run c T H _ _ _ _ _ _ _ _ _ _ _ _ _ _ _ _ hT q i _ n hn _ 𝒱 _)
  isplitl [HI]; · iexact HI
  isplitl [HS]; · iexact HS
  isplitl [HO]; · iexact HO
  iintro %v ⟨Hg, Hn, HS, HO⟩
  beta_reduce
  try sl_exec
  iapply (ld_row c 𝒱 i 3 _ rfl _ _) $$ Hg; iintro Hg
  try sl_exec
  iapply (ld_row c 𝒱 i 4 _ rfl _ _) $$ Hg; iintro Hg
  try sl_exec
  iapply (ld_row c 𝒱 i 5 _ rfl _ _) $$ Hg; iintro Hg
  try sl_exec
  iapply (ld_row c 𝒱 i 6 _ rfl _ _) $$ Hg; iintro Hg
  try sl_exec
  iapply (ld_row c 𝒱 i 7 _ rfl _ _) $$ Hg; iintro Hg
  iapply (bind_intro c 𝒱 _ _ _)
  sl_exec
  rw [dif_pos ((cond4_iff i n hn).2 hm)]
  sl_exec
  rw [dif_neg (fun e => (by omega : (i 1).val ≠ 6) ((cond5_iff i).1 e))]
  try sl_exec
  rw [dif_neg (fun e => ((cond6_iff i n hn).1 e).1 hm)]
  try sl_exec
  sl_step
  iapply HK
  isplitl [HN]; · iexact HN
  isplitl [HS]; · iexact HS
  isplitl [Hg Hn]
  · iapply (st_close c T H (i 0).val n)
    isplitl [Hg]; · iexists _; iexact Hg
    iexact Hn
  isplitl [HO]; · iexact HO
  isplitl [HX]
  · iexists _; isplitr; swap; · iexact HX
    ipureintro
    sl_unfold_run_names
    exact wr_zero (s := S512x1024) _ z2 _ _ _ _
  isplitl [HA]
  · iexists _; isplitr; swap; · iexact HA
    ipureintro
    sl_unfold_run_names
    exact (wr_zero (s := S512x1024) _ z2 _ _ _ _).trans (pay3_eq (View.readCov_unit_lit (S := S512x1024) _ _ _ z2) (rd_zero (s := S1x1024x512) _ z3 _ _)
      (rd_zero (s := S1x1024x512) _ z3 _ _) (View.readCov_unit_lit (S := S512x1024) _ _ _ z2) (rd_zero (s := S1x512x1024) _ z3 _ _))
  isplitl [H0]
  · iexists _; isplitr; swap; · iexact H0
    ipureintro; rfl
  isplitl [H1]
  · iexists _; isplitr; swap; · iexact H1
    ipureintro; rfl
  iexists _; isplitr; swap; · iexact H2
  ipureintro; rfl

end Body

end Cert.MoeIdeal.V
-- ==== Proof.MoeV.Tables.lean ====
/- The tables the index maps read: the blocks they name, and that the tables are admissible. -/
module

public import proofs.«01_k».proof.Proof.MoeV.Point
public import proofs.«01_k».proof.Proof.Gen.MoeIdeal.Launch
public import Idealize.ShloMosaic.Lib.Pipeline.Frame

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Affine

/-! ## The index maps' values -/

theorem word_coord (i : grid0.Coords) : (Scalar.indexCast (BitVec.ofNat 32 (i 0).val) : Index).toNat = (i 0).val := by
  have h : (i 0).val < 56 := (i 0).isLt
  show (BitVec.ofNat 32 (i 0).val).toNat = _
  rw [BitVec.toNat_ofNat, Nat.mod_eq_of_lt (by omega)]

/-- The effective-expert table's word an index map loads at a point: the word of the point's tile. -/
theorem te_word (pf : pre0.Contents (Elt F)) (i : grid0.Coords) (hb) :
    pf.at 0 (Rect.unit (s := S56) ![(Scalar.indexCast (BitVec.ofNat 32 (i 0).val) : Index).toNat] S1.size hb) numel1_S1
      = (pf 0 (ix1 (⟨(i 0).val, (i 0).isLt⟩ : Fin 56)) : BitVec 32) := by
  show pf 0 _ = pf 0 _
  congr 1
  funext a; fin_cases a
  apply Fin.ext
  show (Scalar.indexCast (BitVec.ofNat 32 (i 0).val) : Index).toNat + 1 * (0 : Fin 1).val = (i 0).val
  rw [word_coord]; simp

/-- The word of the one-element table: the number of tiles in use. -/
theorem nv_word (pf : pre0.Contents (Elt F)) (n : ℕ) (h1 : pf 1 = fun _ => BitVec.ofNat 32 n) (hb) :
    pf.at 1 (Rect.unit (s := S1) ![0] S1.size hb) numel1_S1 = (BitVec.ofNat 32 n : BitVec 32) := by
  show pf 1 _ = _
  rw [h1]

/-- The contraction step whose weight blocks are staged: the point's own on a tile in use, the last one otherwise. -/
def stepOf (n : ℕ) (i : grid0.Coords) : ℕ := if (i 0).val < n then (i 1).val else 6
theorem stepOf_lt (n : ℕ) (i : grid0.Coords) : stepOf n i < 7 := by
  have h : (i 1).val < 7 := (i 1).isLt
  unfold stepOf; split <;> omega
theorem step_word (i : grid0.Coords) (n : ℕ) (hn : n ≤ 56) :
    (Scalar.select (Scalar.cmpi .slt (BitVec.ofNat 32 (i 0).val) (BitVec.ofNat 32 n)) (BitVec.ofNat 32 (i 1).val) 6#32 : BitVec 32).toNat = stepOf n i := by
  have h : (i 1).val < 7 := (i 1).isLt
  have e : Scalar.cmpi .slt (BitVec.ofNat 32 (i 0).val) (BitVec.ofNat 32 n) = BitVec.ofBool (decide ((i 0).val < n)) := lt_word i n hn
  rw [e]
  unfold stepOf
  by_cases hm : (i 0).val < n
  · simp only [hm, decide_true, if_true]
    show (BitVec.ofNat 32 (i 1).val).toNat = _
    rw [BitVec.toNat_ofNat, Nat.mod_eq_of_lt (by omega)]
  · simp only [hm, decide_false, if_false]
    rfl

/-- The expert of a tile, as the table names it. -/
def teOf (pf : pre0.Contents (Elt F)) (i : grid0.Coords) : ℕ := (pf 0 (ix1 (⟨(i 0).val, (i 0).isLt⟩ : Fin 56)) : BitVec 32).toNat

theorem tr1_eq (pf : pre0.Contents (Elt F)) (n : ℕ) (hn : n ≤ 56) (h1 : pf 1 = fun _ => BitVec.ofNat 32 n) (i : grid0.Coords) :
    cc0_transform_1 k0_off1_inb numel1_S1 inb_S1_S1_0 pf i = ![teOf pf i, 0, stepOf n i] := by
  funext a; fin_cases a
  · exact congrArg BitVec.toNat (te_word pf i (k0_off1_inb i))
  · rfl
  · exact (congrArg (fun w => (Scalar.select (Scalar.cmpi .slt (BitVec.ofNat 32 (i 0).val) w) (BitVec.ofNat 32 (i 1).val) 6#32 : BitVec 32).toNat)
      (nv_word pf n h1 inb_S1_S1_0)).trans (step_word i n hn)
theorem tr2_eq (pf : pre0.Contents (Elt F)) (n : ℕ) (hn : n ≤ 56) (h1 : pf 1 = fun _ => BitVec.ofNat 32 n) (i : grid0.Coords) :
    cc0_transform_2 k0_off1_inb numel1_S1 inb_S1_S1_0 pf i = ![teOf pf i, 0, stepOf n i] := by
  funext a; fin_cases a
  · exact congrArg BitVec.toNat (te_word pf i (k0_off1_inb i))
  · rfl
  · exact (congrArg (fun w => (Scalar.select (Scalar.cmpi .slt (BitVec.ofNat 32 (i 0).val) w) (BitVec.ofNat 32 (i 1).val) 6#32 : BitVec 32).toNat)
      (nv_word pf n h1 inb_S1_S1_0)).trans (step_word i n hn)
theorem tr3_eq (pf : pre0.Contents (Elt F)) (n : ℕ) (hn : n ≤ 56) (h1 : pf 1 = fun _ => BitVec.ofNat 32 n) (i : grid0.Coords) :
    cc0_transform_3 k0_off1_inb numel1_S1 inb_S1_S1_0 pf i = ![teOf pf i, stepOf n i, 0] := by
  funext a; fin_cases a
  · exact congrArg BitVec.toNat (te_word pf i (k0_off1_inb i))
  · exact (congrArg (fun w => (Scalar.select (Scalar.cmpi .slt (BitVec.ofNat 32 (i 0).val) w) (BitVec.ofNat 32 (i 1).val) 6#32 : BitVec 32).toNat)
      (nv_word pf n h1 inb_S1_S1_0)).trans (step_word i n hn)
  · rfl

/-- The tables are admissible when every expert is one of the eight and at most all tiles are in use. -/
theorem ok_of (pf : pre0.Contents (Elt F)) (n : ℕ) (hn : n ≤ 56) (h1 : pf 1 = fun _ => BitVec.ofNat 32 n)
    (h0 : ∀ x, ((pf 0 : S56.Idx → BitVec 32) x).toNat < 8) : ok0 pf := by
  refine ⟨fun i => ?_, fun i => ?_, fun i => ?_⟩
  · have hs := stepOf_lt n i
    have he : teOf pf i < 8 := h0 _
    rw [tr1_eq pf n hn h1]
    refine ⟨fun a => ?_, .inr (.inr ⟨by decide, rfl, rfl, rfl⟩)⟩
    fin_cases a
    · show (teOf pf i + 1) * 1 ≤ 8; omega
    · show (0 + 1) * 1024 ≤ 1024; omega
    · show (stepOf n i + 1) * 512 ≤ 3584; omega
  · have hs := stepOf_lt n i
    have he : teOf pf i < 8 := h0 _
    rw [tr2_eq pf n hn h1]
    refine ⟨fun a => ?_, .inr (.inr ⟨by decide, rfl, rfl, rfl⟩)⟩
    fin_cases a
    · show (teOf pf i + 1) * 1 ≤ 8; omega
    · show (0 + 1) * 1024 ≤ 1024; omega
    · show (stepOf n i + 1) * 512 ≤ 3584; omega
  · have hs := stepOf_lt n i
    have he : teOf pf i < 8 := h0 _
    rw [tr3_eq pf n hn h1]
    refine ⟨fun a => ?_, .inr (.inl (.inr ⟨by decide, rfl, .inl ⟨?_, ?_⟩⟩))⟩
    · fin_cases a
      · show (teOf pf i + 1) * 1 ≤ 8; omega
      · show (stepOf n i + 1) * 512 ≤ 3584; omega
      · show (0 + 1) * 1024 ≤ 1024; omega
    · show 2 ∣ stepOf n i * 512; omega
    · show 2 ∣ 512; omega

/-! ## Idle points and coordinates -/

theorem atD_n (pf : pre0.Contents (Elt F)) (n : ℕ) (h1 : pf 1 = fun _ => BitVec.ofNat 32 n) :
    pf.atD 1 ![0] = (BitVec.ofNat 32 n : BitVec 32) := by
  unfold Pipeline.Prefetch.Contents.atD
  rw [dif_pos (by intro a; fin_cases a; decide), h1]

/-- The output's buffer is left alone exactly off the last contraction step. -/
theorem idle_iff (pf : pre0.Contents (Elt F)) (n : ℕ) (hn : n ≤ 56) (h1 : pf 1 = fun _ => BitVec.ofNat 32 n) (i : grid0.Coords) :
    idle0 pf 3 i = !decide ((i 1).val = 6) := by
  show (!(k0_cond4 i (pf.atD 1 ![0]) == 1#1 && k0_cond5 i == 1#1) && !(k0_cond6 i (pf.atD 1 ![0]) == 1#1)) = _
  rw [atD_n pf n h1]
  have e4 : (k0_cond4 i (BitVec.ofNat 32 n) == 1#1) = decide ((i 0).val < n) := by
    rw [Bool.eq_iff_iff, beq_iff_eq, decide_eq_true_iff]; exact cond4_iff i n hn
  have e5 : (k0_cond5 i == 1#1) = decide ((i 1).val = 6) := by
    rw [Bool.eq_iff_iff, beq_iff_eq, decide_eq_true_iff]; exact cond5_iff i
  have e6 : (k0_cond6 i (BitVec.ofNat 32 n) == 1#1) = decide (¬ (i 0).val < n ∧ (i 1).val = 6) := by
    rw [Bool.eq_iff_iff, beq_iff_eq, decide_eq_true_iff]; exact cond6_iff i n hn
  rw [e4, e5, e6]
  by_cases h : (i 0).val < n <;> by_cases h' : (i 1).val = 6 <;> simp [h, h']

theorem coords_val : ∀ t : Fin grid0.N, (grid0.coords t 0).val = t.val / 7 ∧ (grid0.coords t 1).val = t.val % 7 := by decide +kernel

end Cert.MoeIdeal.V

end
-- ==== Proof.MoeV.Dats.lean ====
/- The expert call's proof data: what every window and scratch buffer holds before and after each grid point. -/
module

public import proofs.«01_k».proof.Proof.MoeV.Tables

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline

/-! ## The proof data -/

section Data

variable (V : (c : Dev nD) → (b : Ref sig .tc) → Buf (Elt F) ((c.tc : Thread nD τ).loc b))
variable (a : (pcfg0 (F := F)).Adm) (n : ℕ)

/-- Window `w`'s block at point `t`, read off its array as the region finds it. -/
def iblk (c : Dev nD) (w : Fin 4) (t : Fin grid0.N) : (((cfg0 a).win w).xblock (grid0.coords t)).Idx → Elt F ((cfg0 a).win w).elt :=
  (((cfg0 a).win w).blk t).view.read (Elt F) (V c (Pipeline.arrRef spec0 w))

/-- Point number `k`. -/
def pt (k : ℕ) : Fin grid0.N := ⟨k % 392, by rw [N_0]; omega⟩

/-- The row table, and the activations. -/
abbrev tabS : S28672.Idx → BitVec 32 := a.1 2
abbrev actH (c : Dev nD) : S98304x128.Idx → Elt F .f32 := V c main_arg0

/-- The accumulator of tile `μ` before contraction step `k`. -/
def accAt (c : Dev nD) (μ : ℕ) : ℕ → FVec F S512x1024 .f32
  | 0 => k0_pay2 (F := F)
  | k + 1 => k0_pay3 (xbOf (tabS a) (actH V c) μ) (iblk V a c 0 (pt (7 * μ + k))) (iblk V a c 1 (pt (7 * μ + k))) (accAt c μ k)
      (iblk V a c 2 (pt (7 * μ + k)))

/-- The tile written back after a tile's last step. -/
def outAt (c : Dev nD) (μ : ℕ) : FVec F S4096x128 .f32 := if μ < n then outTile (accAt V a c μ 7) else k0_pay12 (F := F)

/-- The scratch buffers before point `j`: known inside a tile in use, anything elsewhere. -/
def midAt (c : Dev nD) (j : ℕ) : sProp 𝕄 :=
  if j % 7 ≠ 0 ∧ j / 7 < n then
    iprop(owns (c : Thread nD τ) (Memref.whole cc0_scratch1) fullShare (xbOf (tabS a) (actH V c) (j / 7))
      ∗ owns (c : Thread nD τ) (Memref.whole cc0_scratch2) fullShare (accAt V a c (j / 7) (j % 7)))
  else iprop((∃ d, owns (c : Thread nD τ) (Memref.whole cc0_scratch1) fullShare d)
      ∗ (∃ d, owns (c : Thread nD τ) (Memref.whole cc0_scratch2) fullShare d))

/-- The gather before point `j`. -/
def stAt (c : Dev nD) (j : ℕ) : sProp 𝕄 :=
  if j / 7 < n then (if j % 7 = 0 then stIn c (tabS a) (actH V c) (j / 7) else stOut c (tabS a) (actH V c) (j / 7) n)
  else idleX c (actH V c)

/-- The tables' halves the body reads. -/
def tabAt (c : Dev nD) : sProp 𝕄 :=
  iprop(((c : Thread nD τ).loc main_v14 ↦{fullShare.right} (a.1 0 : main_v14.ty.Contents (Elt F)))
    ∗ nAt c fullShare.right (fun _ => BitVec.ofNat 32 n) ∗ sAt c (tabS a) fullShare.right)

/-- The invariant before point `j`. -/
def phiAt (c : Dev nD) (j : ℕ) : sProp 𝕄 :=
  iprop(tabAt a n c ∗ (∃ r, prngReg c r) ∗ midAt V a n c j ∗ stAt V a n c j)

/-- The proof data on core `c`. -/
def dat (c : Dev nD) : Dat τ (Elt F) Unit ℕ (Pipeline.UD sig nD τ) ℕ (cfg0 a) c where
  A w := V c (Pipeline.arrRef spec0 w)
  after w t := match w with
    | 0 => iblk V a c 0 t
    | 1 => iblk V a c 1 t
    | 2 => iblk V a c 2 t
    | 3 => outAt V a n c (t.val / 7)
  Φ t := phiAt V a n c t.val
  q _ := fullShare
  owed _ := 0

theorem after_3 (c : Dev nD) (t : Fin grid0.N) : (dat V a n c).after 3 t = outAt V a n c (t.val / 7) := rfl

theorem before_0 (c : Dev nD) (t : Fin grid0.N) (d) : (dat V a n c).before 0 t d = iblk V a c 0 t :=
  ((dat V a n c).before_in_eq_fetched 0 rfl (fun _ => rfl) (fun _ _ _ => rfl) (fun _ => rfl) t d).trans rfl
theorem before_1 (c : Dev nD) (t : Fin grid0.N) (d) : (dat V a n c).before 1 t d = iblk V a c 1 t :=
  ((dat V a n c).before_in_eq_fetched 1 rfl (fun _ => rfl) (fun _ _ _ => rfl) (fun _ => rfl) t d).trans rfl
theorem before_2 (c : Dev nD) (t : Fin grid0.N) (d) : (dat V a n c).before 2 t d = iblk V a c 2 t :=
  ((dat V a n c).before_in_eq_fetched 2 rfl (fun _ => rfl) (fun _ _ _ => rfl) (fun _ => rfl) t d).trans rfl

/-- The output is written back only after a tile's last step. -/
theorem flush_3 (t : Fin grid0.N) (hf : t.val % 7 ≠ 6) : ((cfg0 a).win 3).flush t = false := by
  have ht : t.val < 392 := t.isLt
  have e : ∀ h : t.val + 1 < grid0.N, ((cfg0 a).win 3).index ⟨t.val + 1, h⟩ = ((cfg0 a).win 3).index t := fun h => by
    show cc0_transform_4 (grid0.coords ⟨t.val + 1, h⟩) = cc0_transform_4 (grid0.coords t)
    unfold cc0_transform_4
    rw [(coords_val ⟨t.val + 1, h⟩).1, (coords_val t).1, show (t.val + 1) / 7 = t.val / 7 from by omega]
  unfold Window.flush
  have hN : ¬ t.val + 1 = grid0.N := by have := N_0; omega
  rw [decide_eq_false hN, decide_eq_false (fun ⟨h, hne⟩ => hne (e h))]
  simp

/-! ## The invariant at each kind of point -/

variable {n}
variable (c : Dev nD) (j : ℕ)

theorem phi_first (h0 : j % 7 = 0) (hm : j / 7 < n) : phiAt V a n c j
    = iprop(tabAt a n c ∗ (∃ r, prngReg c r) ∗ iprop((∃ d, owns (c : Thread nD τ) (Memref.whole cc0_scratch1) fullShare d)
      ∗ (∃ d, owns (c : Thread nD τ) (Memref.whole cc0_scratch2) fullShare d)) ∗ stIn c (tabS a) (actH V c) (j / 7)) := by
  unfold phiAt midAt stAt; rw [if_neg (fun h => h.1 h0), if_pos hm, if_pos h0]
theorem phi_mid (h0 : j % 7 ≠ 0) (hm : j / 7 < n) : phiAt V a n c j
    = iprop(tabAt a n c ∗ (∃ r, prngReg c r) ∗ iprop(owns (c : Thread nD τ) (Memref.whole cc0_scratch1) fullShare (xbOf (tabS a) (actH V c) (j / 7))
      ∗ owns (c : Thread nD τ) (Memref.whole cc0_scratch2) fullShare (accAt V a c (j / 7) (j % 7)))
      ∗ stOut c (tabS a) (actH V c) (j / 7) n) := by
  unfold phiAt midAt stAt; rw [if_pos ⟨h0, hm⟩, if_pos hm, if_neg h0]
theorem phi_off (hm : ¬ j / 7 < n) : phiAt V a n c j
    = iprop(tabAt a n c ∗ (∃ r, prngReg c r) ∗ iprop((∃ d, owns (c : Thread nD τ) (Memref.whole cc0_scratch1) fullShare d)
      ∗ (∃ d, owns (c : Thread nD τ) (Memref.whole cc0_scratch2) fullShare d)) ∗ idleX c (actH V c)) := by
  unfold phiAt midAt stAt; rw [if_neg (fun h => hm h.2), if_neg hm]
/-- After a tile's last step its scratch is forgotten, and what is in flight is the next tile's. -/
theorem phi_turn (h6 : j % 7 = 6) (hm : j / 7 < n) (X A) :
    iprop(tabAt a n c ∗ (∃ r, prngReg c r) ∗ owns (c : Thread nD τ) (Memref.whole cc0_scratch1) fullShare X
      ∗ owns (c : Thread nD τ) (Memref.whole cc0_scratch2) fullShare A ∗ stOut c (tabS a) (actH V c) (j / 7) n) ⊢ phiAt V a n c (j + 1) := by
  have e : (j + 1) / 7 = j / 7 + 1 := by omega
  by_cases hn : j / 7 + 1 < n
  · rw [phi_first V a c (j + 1) (by omega) (by rw [e]; exact hn), e]
    unfold stOut stIn
    rw [if_pos hn, if_neg (Nat.succ_ne_zero _)]
    iintro ⟨HT, HP, HX, HA, HS⟩
    isplitl [HT]; · iexact HT
    isplitl [HP]; · iexact HP
    isplitl [HX HA]
    · isplitl [HX]; · iexists _; iexact HX
      iexists _; iexact HA
    iexact HS
  · rw [phi_off V a c (j + 1) (by rw [e]; exact hn)]
    unfold stOut
    rw [if_neg hn]
    iintro ⟨HT, HP, HX, HA, HS⟩
    isplitl [HT]; · iexact HT
    isplitl [HP]; · iexact HP
    isplitl [HX HA]
    · isplitl [HX]; · iexists _; iexact HX
      iexists _; iexact HA
    iexact HS

end Data

end Cert.MoeIdeal.V

end
-- ==== Proof.MoeV.Body.lean ====
/- The expert call's body meets its obligation at every grid point. -/
module

public import proofs.«01_k».proof.Proof.MoeV.Dats

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline

section Body

variable (V : (c : Dev nD) → (b : Ref sig .tc) → Buf (Elt F) ((c.tc : Thread nD τ).loc b))
variable (a : (pcfg0 (F := F)).Adm) (n : ℕ)
variable (c : Dev nD)

/-- Window `w`'s current staging buffer at point `t`. -/
abbrev stg (w : Fin 4) (t : Fin grid0.N) := ((cfg0 a).win w).stage ((cfg0 a).slots t w)

/-- The body at point `t`. -/
abbrev bodyAt (t : Fin grid0.N) : Prog (TpuEff nD τ sig (Elt F) Λ₀ .tc) PUnit :=
  kern (F := F) (stg a 0 t) (hstage0_0 (((cfg0 a).slots t 0).cast nbuf0_0)) (stg a 1 t) (hstage0_1 (((cfg0 a).slots t 1).cast nbuf0_1))
    (stg a 2 t) (hstage0_2 (((cfg0 a).slots t 2).cast nbuf0_2)) (stg a 3 t) (hstage0_3 (((cfg0 a).slots t 3).cast nbuf0_3)) (grid0.coords t)

/-- The three input windows at their blocks. -/
abbrev inPts (t : Fin grid0.N) : sProp 𝕄 :=
  iprop(owns (c : Thread nD τ) (stg a 0 t) fullShare (iblk V a c 0 t) ∗ owns (c : Thread nD τ) (stg a 1 t) fullShare (iblk V a c 1 t)
    ∗ owns (c : Thread nD τ) (stg a 2 t) fullShare (iblk V a c 2 t))

/-- The output window after point `t`: written at a tile's last step, as found elsewhere. -/
def outPost (t : Fin grid0.N) : sProp 𝕄 :=
  if t.val % 7 = 6 then owns (c : Thread nD τ) (stg a 3 t) fullShare (outAt V a n c (t.val / 7))
  else iprop(∃ d, owns (c : Thread nD τ) (stg a 3 t) fullShare ((dat V a n c).before 3 t d))

def bodyPre (t : Fin grid0.N) : sProp 𝕄 :=
  iprop(phiAt V a n c t.val ∗ (∃ W, owes (c : Thread nD τ) 0 W) ∗ inPts V a c t
    ∗ ∃ d, owns (c : Thread nD τ) (stg a 3 t) fullShare ((dat V a n c).before 3 t d))
def bodyPost (t : Fin grid0.N) : sProp 𝕄 :=
  iprop(phiAt V a n c (t.val + 1) ∗ (∃ W, owes (c : Thread nD τ) 0 W) ∗ inPts V a c t ∗ outPost V a n c t)

variable {n}

theorem pt_self (t : Fin grid0.N) : pt (7 * (t.val / 7) + t.val % 7) = t := by
  have ht : t.val < 392 := t.isLt
  apply Fin.ext; show (7 * (t.val / 7) + t.val % 7) % 392 = t.val; omega

/-- A tile's accumulator after point `t` is the one before the next step. -/
theorem acc_step (t : Fin grid0.N) (X A) (hX : X = xbOf (tabS a) (actH V c) (t.val / 7)) (hA : A = accAt V a c (t.val / 7) (t.val % 7)) :
    k0_pay3 X (iblk V a c 0 t) (iblk V a c 1 t) A (iblk V a c 2 t) = accAt V a c (t.val / 7) (t.val % 7 + 1) := by
  subst hX hA
  show _ = k0_pay3 _ (iblk V a c 0 (pt _)) (iblk V a c 1 (pt _)) _ (iblk V a c 2 (pt _))
  rw [pt_self]

/-- The body on a tile beyond those in use. -/
theorem body_off (t : Fin grid0.N) (hn : n ≤ 56) (hm : ¬ t.val / 7 < n) :
    bodyPre V a n c t ⊢ wp frame (wpE (defs₀ (F := F)) Variants.none c none) Set.univ (bodyAt a t) (fun _ => bodyPost V a n c t) := by
  have hi := coords_val t
  unfold bodyPre bodyPost
  rw [phi_off V a c t.val hm, phi_off V a c (t.val + 1) (by omega)]
  unfold tabAt outPost
  by_cases hf : t.val % 7 = 6
  · rw [if_pos hf]
    iintro ⟨⟨⟨HT0, HN, HS⟩, HP, HX, HI⟩, HO, HW, ⟨%d, H3⟩⟩
    iapply (run_zero c _ _ _ _ _ _ _ _ fullShare.right (grid0.coords t) n hn (by rw [hi.1]; exact hm) (by rw [hi.2]; exact hf) Variants.none _)
    isplitl [HN]; · iexact HN
    isplitl [H3]; · iexists _; iexact H3
    iintro ⟨HN, H3⟩
    isplitl [HT0 HN HS HP HX HI]
    · isplitl [HT0 HN HS]
      · isplitl [HT0]; · iexact HT0
        isplitl [HN]; · iexact HN
        iexact HS
      isplitl [HP]; · iexact HP
      isplitl [HX]; · iexact HX
      iexact HI
    isplitl [HO]; · iexact HO
    isplitl [HW]; · iexact HW
    unfold outAt; rw [if_neg hm]
    iexact H3
  · rw [if_neg hf]
    iintro ⟨⟨⟨HT0, HN, HS⟩, HP, HX, HI⟩, HO, HW, H3⟩
    iapply (run_skip c _ _ _ _ _ _ _ _ fullShare.right (grid0.coords t) n hn (by rw [hi.1]; exact hm) (by rw [hi.2]; exact hf) Variants.none _)
    isplitl [HN]; · iexact HN
    iintro HN
    isplitl [HT0 HN HS HP HX HI]
    · isplitl [HT0 HN HS]
      · isplitl [HT0]; · iexact HT0
        isplitl [HN]; · iexact HN
        iexact HS
      isplitl [HP]; · iexact HP
      isplitl [HX]; · iexact HX
      iexact HI
    isplitl [HO]; · iexact HO
    isplitl [HW]; · iexact HW
    iexact H3

/-- The body on the first step of a tile in use. -/
theorem body_first (t : Fin grid0.N) (hn : n ≤ 56) (hT : ∀ x, (tabS a x).toNat < 12288) (hm : t.val / 7 < n) (h0 : t.val % 7 = 0) :
    bodyPre V a n c t ⊢ wp frame (wpE (defs₀ (F := F)) Variants.none c none) Set.univ (bodyAt a t) (fun _ => bodyPost V a n c t) := by
  have hi := coords_val t
  have hm' : (grid0.coords t 0).val < n := by rw [hi.1]; exact hm
  have ht : t.val < 392 := t.isLt
  have eA : k0_pay3 (xbOf (tabS a) (actH V c) (t.val / 7)) (iblk V a c 0 t) (iblk V a c 1 t) (k0_pay2 (F := F)) (iblk V a c 2 t)
      = accAt V a c ((t.val + 1) / 7) ((t.val + 1) % 7) := by
    rw [show (t.val + 1) / 7 = t.val / 7 from by omega, show (t.val + 1) % 7 = t.val % 7 + 1 from by omega]
    exact acc_step V a c t _ _ rfl (by rw [h0]; rfl)
  unfold bodyPre bodyPost
  rw [phi_first V a c t.val h0 hm, phi_mid V a c (t.val + 1) (by omega) (by omega), ← eA, show (t.val + 1) / 7 = t.val / 7 from by omega]
  unfold tabAt outPost
  rw [if_neg (by omega)]
  iintro ⟨⟨⟨HT0, HN, HS⟩, HP, ⟨HX, HA⟩, HI⟩, HO, ⟨H0, H1, H2⟩, H3⟩
  have key := run_first (𝒟 := defs₀ (F := F)) (bd := none) c (tabS a) (actH V c) (stg a 0 t) (hstage0_0 (((cfg0 a).slots t 0).cast nbuf0_0)) (stg a 1 t) (hstage0_1 (((cfg0 a).slots t 1).cast nbuf0_1))
    (stg a 2 t) (hstage0_2 (((cfg0 a).slots t 2).cast nbuf0_2)) (stg a 3 t) (hstage0_3 (((cfg0 a).slots t 3).cast nbuf0_3)) hT fullShare.right (grid0.coords t) n hn hm' (by rw [hi.2]; exact h0)
    (iblk V a c 0 t) (iblk V a c 1 t) (iblk V a c 2 t) Variants.none
  rw [hi.1] at key
  iapply (key _)
  isplitl [HN]; · iexact HN
  isplitl [HS]; · iexact HS
  isplitl [HI]; · iexact HI
  isplitl [HO]; · iexact HO
  isplitl [HX]; · iexact HX
  isplitl [HA]; · iexact HA
  isplitl [H0]; · iexact H0
  isplitl [H1]; · iexact H1
  isplitl [H2]; · iexact H2
  iintro ⟨HN, HS, HI, HO, HX, HA, H0, H1, H2⟩
  isplitl [HT0 HN HS HP HX HA HI]
  · isplitl [HT0 HN HS]
    · isplitl [HT0]; · iexact HT0
      isplitl [HN]; · iexact HN
      iexact HS
    isplitl [HP]; · iexact HP
    isplitl [HX HA]
    · isplitl [HX]; · iexact HX
      iexact HA
    iexact HI
  isplitl [HO]; · iexact HO
  isplitl [H0 H1 H2]
  · isplitl [H0]; · iexact H0
    isplitl [H1]; · iexact H1
    iexact H2
  iexact H3

/-- The body on a middle step of a tile in use. -/
theorem body_mid (t : Fin grid0.N) (hn : n ≤ 56) (hm : t.val / 7 < n) (h0 : t.val % 7 ≠ 0) (hf : t.val % 7 ≠ 6) :
    bodyPre V a n c t ⊢ wp frame (wpE (defs₀ (F := F)) Variants.none c none) Set.univ (bodyAt a t) (fun _ => bodyPost V a n c t) := by
  have hi := coords_val t
  have ht : t.val < 392 := t.isLt
  have eA := acc_step V a c t _ _ rfl rfl
  unfold bodyPre bodyPost
  rw [phi_mid V a c t.val h0 hm, phi_mid V a c (t.val + 1) (by omega) (by omega), show (t.val + 1) / 7 = t.val / 7 from by omega,
    show (t.val + 1) % 7 = t.val % 7 + 1 from by omega, ← eA]
  unfold tabAt outPost
  rw [if_neg hf]
  iintro ⟨⟨⟨HT0, HN, HS⟩, HP, ⟨HX, HA⟩, HI⟩, HO, ⟨H0, H1, H2⟩, H3⟩
  iapply (run_mid c _ _ _ _ _ _ _ _ fullShare.right (grid0.coords t) n hn (by rw [hi.1]; exact hm) (by rw [hi.2]; exact h0) (by rw [hi.2]; exact hf)
    _ _ _ _ _ Variants.none _)
  isplitl [HN]; · iexact HN
  isplitl [HX]; · iexact HX
  isplitl [HA]; · iexact HA
  isplitl [H0]; · iexact H0
  isplitl [H1]; · iexact H1
  isplitl [H2]; · iexact H2
  iintro ⟨HN, HX, HA, H0, H1, H2⟩
  isplitl [HT0 HN HS HP HX HA HI]
  · isplitl [HT0 HN HS]
    · isplitl [HT0]; · iexact HT0
      isplitl [HN]; · iexact HN
      iexact HS
    isplitl [HP]; · iexact HP
    isplitl [HX HA]
    · isplitl [HX]; · iexact HX
      iexact HA
    iexact HI
  isplitl [HO]; · iexact HO
  isplitl [H0 H1 H2]
  · isplitl [H0]; · iexact H0
    isplitl [H1]; · iexact H1
    iexact H2
  iexact H3

/-- The body on the last step of a tile in use. -/
theorem body_last (t : Fin grid0.N) (hn : n ≤ 56) (hm : t.val / 7 < n) (hf : t.val % 7 = 6) :
    bodyPre V a n c t ⊢ wp frame (wpE (defs₀ (F := F)) Variants.none c none) Set.univ (bodyAt a t) (fun _ => bodyPost V a n c t) := by
  have hi := coords_val t
  have ht : t.val < 392 := t.isLt
  have eA := acc_step V a c t _ _ rfl rfl
  unfold bodyPre bodyPost
  rw [phi_mid V a c t.val (by omega) hm]
  unfold outPost outAt
  rw [if_pos hf, if_pos hm, show accAt V a c (t.val / 7) 7 = accAt V a c (t.val / 7) (t.val % 7 + 1) from by rw [hf], ← eA]
  have turn := phi_turn V a c t.val hf hm
  unfold tabAt at turn
  unfold tabAt
  iintro ⟨⟨⟨HT0, HN, HS⟩, HP, ⟨HX, HA⟩, HI⟩, HO, ⟨H0, H1, H2⟩, ⟨%d, H3⟩⟩
  iapply (run_last c _ _ _ _ _ _ _ _ fullShare.right (grid0.coords t) n hn (by rw [hi.1]; exact hm) (by rw [hi.2]; omega) (by rw [hi.2]; exact hf)
    _ _ _ _ _ Variants.none _)
  isplitl [HN]; · iexact HN
  isplitl [HX]; · iexact HX
  isplitl [HA]; · iexact HA
  isplitl [H0]; · iexact H0
  isplitl [H1]; · iexact H1
  isplitl [H2]; · iexact H2
  isplitl [H3]; · iexists _; iexact H3
  iintro ⟨HN, HX, HA, H0, H1, H2, H3⟩
  isplitl [HT0 HN HS HP HX HA HI]
  · iapply (turn _ _)
    isplitl [HT0 HN HS]
    · isplitl [HT0]; · iexact HT0
      isplitl [HN]; · iexact HN
      iexact HS
    isplitl [HP]; · iexact HP
    isplitl [HX]; · iexact HX
    isplitl [HA]; · iexact HA
    iexact HI
  isplitl [HO]; · iexact HO
  isplitl [H0 H1 H2]
  · isplitl [H0]; · iexact H0
    isplitl [H1]; · iexact H1
    iexact H2
  iexact H3

theorem sound_body (t : Fin grid0.N) (hn : n ≤ 56) (hT : ∀ x, (tabS a x).toNat < 12288) :
    bodyPre V a n c t ⊢ wp frame (wpE (defs₀ (F := F)) Variants.none c none) Set.univ (bodyAt a t) (fun _ => bodyPost V a n c t) := by
  by_cases hm : t.val / 7 < n
  · by_cases h0 : t.val % 7 = 0
    · exact body_first V a c t hn hT hm h0
    · by_cases hf : t.val % 7 = 6
      · exact body_last V a c t hn hm hf
      · exact body_mid V a c t hn hm h0 hf
  · exact body_off V a c t hn hm

/-- The body table's row at the point. -/
theorem defs₀_row (t : Fin grid0.N) : defs₀ (F := F) .tc (cfg0 a).body ((cfg0 a).bodyArgs t ((cfg0 a).slots t)) = bodyAt a t := by
  unfold defs₀; rw [Defs.onTc_tc]

theorem owes_in (t : Fin (grid0.N + 1)) : (dat V a n c).owesAt () t ⊢ iprop(∃ W, owes (c : Thread nD τ) 0 W) := by
  unfold Dat.owesAt Pipeline.owesWithin
  rw [show (dat V a n c).owed t = 0 from rfl]
  iintro ⟨%W, -, HO⟩; iexists W; iexact HO
theorem owes_out (t : Fin (grid0.N + 1)) : iprop(∃ W, owes (c : Thread nD τ) 0 W) ⊢ (dat V a n c).owesAt () t := by
  unfold Dat.owesAt Pipeline.owesWithin
  rw [show (dat V a n c).owed t = 0 from rfl]
  iintro ⟨%W, HO⟩; iexists W; isplitr; · ipureintro; exact fun _ _ => Or.inl trivial
  iexact HO

/-- What the obligation asks of the output window after point `t`. -/
abbrev outAsk (t : Fin grid0.N) : sProp 𝕄 :=
  match (cfg0 a).idle 3 ((cfg0 a).grid.coords t) with
  | true => match ((cfg0 a).win 3).flush t with
    | false => iprop(∃ d, owns (c : Thread nD τ) (stg a 3 t) fullShare ((dat V a n c).before 3 t d))
    | true => owns (c : Thread nD τ) (stg a 3 t) fullShare ((dat V a n c).after 3 t)
  | false => owns (c : Thread nD τ) (stg a 3 t) fullShare ((dat V a n c).after 3 t)
theorem out_post (t : Fin grid0.N) (hn : n ≤ 56) (h1 : a.1 1 = fun _ => BitVec.ofNat 32 n) : outPost V a n c t ⊢ outAsk (n := n) V a c t := by
  have e : (cfg0 a).idle 3 ((cfg0 a).grid.coords t) = !decide (t.val % 7 = 6) := by
    rw [← (coords_val t).2]; exact idle_iff a.1 n hn h1 (grid0.coords t)
  unfold outAsk
  rw [e]
  unfold outPost
  by_cases hf : t.val % 7 = 6
  · rw [if_pos hf, decide_eq_true hf]; exact .rfl
  · rw [if_neg hf, decide_eq_false hf, flush_3 a t hf]; exact .rfl

/-- The library's body obligation. -/
theorem body_obligation (hn : n ≤ 56) (hT : ∀ x, (tabS a x).toNat < 12288) (h1 : a.1 1 = fun _ => BitVec.ofNat 32 n) :
    BodyObligation (dat (F := F) V a n c) (defs₀ (F := F)) Variants.none () Set.univ := fun t => by
  rw [bigSep_W0, bigSep_W0, defs₀_row]
  refine triple_restated (sound_body V a c t hn hT) rfl ?_ fun _ => ?_
  · unfold bodyPre
    rw [show (dat V a n c).Φ t.castSucc = phiAt V a n c t.val from rfl]
    iintro ⟨HΦ, HO, ⟨%d0, H0⟩, ⟨%d1, H1⟩, ⟨%d2, H2⟩, H3⟩
    isplitl [HΦ]; · iexact HΦ
    isplitl [HO]; · iapply (owes_in V a c t.castSucc); iexact HO
    isplitl [H0 H1 H2]
    · isplitl [H0]; · rw [← before_0 V a n c t d0]; iexact H0
      isplitl [H1]; · rw [← before_1 V a n c t d1]; iexact H1
      rw [← before_2 V a n c t d2]; iexact H2
    iexact H3
  · unfold bodyPost
    show _ ⊢ iprop(phiAt V a n c (t.val + 1) ∗ (dat V a n c).owesAt () t.succ ∗ owns (c : Thread nD τ) (stg a 0 t) fullShare (iblk V a c 0 t)
      ∗ owns (c : Thread nD τ) (stg a 1 t) fullShare (iblk V a c 1 t) ∗ owns (c : Thread nD τ) (stg a 2 t) fullShare (iblk V a c 2 t)
      ∗ outAsk (n := n) V a c t)
    iintro ⟨HΦ, HO, ⟨H0, H1, H2⟩, H3⟩
    isplitl [HΦ]; · iexact HΦ
    isplitl [HO]; · iapply (owes_out V a c t.succ); iexact HO
    isplitl [H0]; · iexact H0
    isplitl [H1]; · iexact H1
    isplitl [H2]; · iexact H2
    iapply (out_post V a c t hn h1); iexact H3

end Body

end Cert.MoeIdeal.V

end
-- ==== Proof.MoeV.Entry.lean ====
/- The memory as the expert call's region finds it. -/
module

public import proofs.«01_k».proof.Proof.MoeV.Body
public import Idealize.ShloMosaic.Lib.StableHlo.ReadAt
public import Idealize.ShloMosaic.Lib.StableHlo.Predicate
public import proofs.«01_k».proof.Defs

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the region finds -/

section Entry

variable (m : (ℓ : Loc nD τ sig) → Buf (Elt F) ℓ)

/-- The TensorCore's buffers as the region finds them: after the host operations. -/
def Vm (c : Dev nD) (b : Ref sig .tc) : Buf (Elt F) ((c.tc : Thread nD τ).loc b) :=
  StableHlo.after hostOps0 (fun b => m (c, b)) b

theorem V_arg (c : Dev nD) (b : Ref sig .tc)
    (h : b ∉ [main_v0, main_v1, main_v2, main_v3, main_v4, main_c, main_v5, main_v6, main_v7, main_c_0, main_v8, main_v9, main_c_1, main_v10, main_v11, main_v12, main_v13, main_v14]) :
    Vm m c b = m ((c : Thread nD τ).loc b) :=
  StableHlo.after_of_forall_not_mem (b := Proc.devRef .tc b) _ _ (List.forall_iff_forall_mem.mp (by
    simp only [List.mem_cons, List.not_mem_nil, or_false, not_or] at h
    obtain ⟨h0, h1, h2, h3, h4, h5, h6, h7, h8, h9, h10, h11, h12, h13, h14, h15, h16, h17⟩ := h
    simp only [hostOps0, List.Forall, StableHlo.nullary_writes, StableHlo.unary_writes, StableHlo.binary_writes, StableHlo.ternary_writes, StableHlo.reshape_writes, Finset.mem_singleton]
    refine ⟨?_, ?_, ?_, ?_, ?_, ?_, ?_, ?_, ?_, ?_, ?_, ?_, ?_, ?_, ?_, ?_, ?_, ?_⟩
    all_goals exact StableHlo.devRef_ne_of_ne (by assumption)))

theorem V_v0 (c : Dev nD) : Vm m c main_v0 = truncf .bf16 (m ((c : Thread nD τ).loc main_arg4)) bitsLt_bf16_f32 := by
  funext y; unfold Vm; after_reads_at
theorem V_v1 (c : Dev nD) : Vm m c main_v1 = truncf .bf16 (m ((c : Thread nD τ).loc main_arg5)) bitsLt_bf16_f32 := by
  funext y; unfold Vm; after_reads_at
theorem V_v2 (c : Dev nD) : Vm m c main_v2 = truncf .bf16 (m ((c : Thread nD τ).loc main_arg6)) bitsLt_bf16_f32 := by
  funext y; unfold Vm; after_reads_at

end Entry

/-! ## The table of effective experts -/

/-- The table's index, wrapped as the host wraps a possibly negative one: the tile, or the last tile in use. -/
theorem wrap_word : ∀ (k : Fin 56) (n : Fin 57), 0 < n.val →
    Scalar.select (IntOp.cmpi .slt (IntOp.minsi (BitVec.ofNat 32 k.val) (IntOp.subi (BitVec.ofNat 32 n.val) 1#32)) 0#32)
      (IntOp.addi (IntOp.minsi (BitVec.ofNat 32 k.val) (IntOp.subi (BitVec.ofNat 32 n.val) 1#32)) 56#32)
      (IntOp.minsi (BitVec.ofNat 32 k.val) (IntOp.subi (BitVec.ofNat 32 n.val) 1#32)) = BitVec.ofNat 32 (min k.val (n.val - 1)) := by
  decide +kernel

/-- The host's gather of one word per row, read at a row. -/
theorem gather_pick {α : Type} (x : S56.Idx → α) (idx : IVec S56x1 32) (y : S56.Idx) :
    Host.gather gather_S56_S56x1_S56_n_0_n_n_0_1_1 x idx y
      = x (ix1 (⟨min (idx (ix2 (⟨(y 0).val, (y 0).isLt⟩ : Fin 56) (0 : Fin 1))).toInt.toNat 55, by omega⟩ : Fin 56)) := by
  unfold Host.gather
  congr 1
  funext a
  obtain rfl : a = 0 := Subsingleton.elim _ _
  refine Fin.ext ?_
  show (gather_S56_S56x1_S56_n_0_n_n_0_1_1).start y idx 0 + (gather_S56_S56x1_S56_n_0_n_n_0_1_1).batchCoord y 0
    + (gather_S56_S56x1_S56_n_0_n_n_0_1_1).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S56_S56x1_S56_n_0_n_n_0_1_1).startIndexMap from List.mem_singleton.mpr rfl)]
  have hsi : (gather_S56_S56x1_S56_n_0_n_n_0_1_1).siIdx y ⟨List.idxOf (0 : Fin 1) (gather_S56_S56x1_S56_n_0_n_n_0_1_1).startIndexMap,
      List.idxOf_lt_length_iff.2 (List.mem_singleton.mpr rfl)⟩ = ix2 (⟨(y 0).val, (y 0).isLt⟩ : Fin 56) (0 : Fin 1) := by
    funext b; refine Fin.ext ?_
    match b with
    | ⟨0, _⟩ => rfl
    | ⟨1, _⟩ => rfl
  rw [hsi]
  rfl

section Tables

variable (m : (ℓ : Loc nD τ sig) → Buf (Elt F) ℓ)

/-- The effective expert of tile `μ`: its own, or the last tile in use's. -/
theorem V_v14 (c : Dev nD) (n : ℕ) (h1 : 1 ≤ n) (hn : n ≤ 56) (h3 : m ((c : Thread nD τ).loc main_arg3) = fun _ => BitVec.ofNat 32 n) (y : S56.Idx) :
    Vm m c main_v14 y = m ((c : Thread nD τ).loc main_arg2) (ix1 (⟨min (y 0).val (n - 1), by omega⟩ : Fin 56)) := by
  have hk : (y 0).val < 56 := (y 0).isLt
  unfold Vm; after_reads_at
  refine (gather_pick _ _ y).trans ?_
  refine congrArg (fun k => m ((c : Thread nD τ).loc main_arg2) (ix1 k)) (Fin.ext ?_)
  have e := wrap_word ⟨(y 0).val, hk⟩ ⟨n, by omega⟩ h1
  rw [show BitVec.ofNat 32 n = m ((c : Thread nD τ).loc main_arg3) (ix1 0) from by rw [h3]] at e
  have b : ∀ k : Fin 56, min (BitVec.ofNat 32 k.val).toInt.toNat 55 = k.val := by decide +kernel
  exact (congrArg (fun w : BitVec 32 => min w.toInt.toNat 55) e).trans (b ⟨min (y 0).val (n - 1), by omega⟩)

/-- The tables the region finds. -/
def tbl : pre0.Contents (Elt F) := fun k => Vm m 0 (pre0.ref k)

/-- The ranges the tables are drawn in, at device-indexed memory `m`: `n` tiles in use, every expert one of eight, every row a token. -/
structure Ranges (n : ℕ) : Prop where
  pos : 1 ≤ n
  le : n ≤ 56
  nv : ∀ c : Dev nD, m ((c : Thread nD τ).loc main_arg3) = fun _ => BitVec.ofNat 32 n
  te : ∀ (c : Dev nD) (x : S56.Idx), ((m ((c : Thread nD τ).loc main_arg2) : S56.Idx → BitVec 32) x).toNat < 8
  src : ∀ (c : Dev nD) (x : S28672.Idx), ((m ((c : Thread nD τ).loc main_arg1) : S28672.Idx → BitVec 32) x).toNat < 12288

variable {m} {n : ℕ} (R : Ranges m n)
include R

theorem tbl_1 : tbl m 1 = fun _ => BitVec.ofNat 32 n :=
  (V_arg m 0 main_arg3 (by decide)).trans (R.nv 0)
theorem tbl_2 : tbl m 2 = m (((0 : Dev nD) : Thread nD τ).loc main_arg1) := V_arg m 0 main_arg1 (by decide)
theorem tbl_0 (y : S56.Idx) : tbl m 0 y = m (((0 : Dev nD) : Thread nD τ).loc main_arg2) (ix1 (⟨min (y 0).val (n - 1), by
    have := R.le; omega⟩ : Fin 56)) := V_v14 m 0 n R.pos R.le (R.nv 0) y

theorem tbl_ok : ok0 (tbl m) :=
  ok_of (tbl m) n R.le (tbl_1 R) (fun x => by rw [show (tbl m 0 : S56.Idx → BitVec 32) x = _ from tbl_0 R x]; exact R.te 0 _)

/-- The admissible tables. -/
def adm : (pcfg0 (F := F)).Adm := ⟨tbl m, tbl_ok R⟩

theorem adm_src (x) : (tabS (adm R) x).toNat < 12288 := by
  show ((tbl m 2 : S28672.Idx → BitVec 32) x).toNat < 12288
  rw [tbl_2 R]; exact R.src 0 x

end Tables

end Cert.MoeIdeal.V

end
-- ==== Proof.MoeV.Launch.lean ====
/- The expert call's run from its launch. -/
module

public import proofs.«01_k».proof.Proof.MoeV.Entry

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline

/-! ## The launch -/

/-- The body's own two cells. -/
def osem0 : Fin 2 → SemLoc sig := fun j => ![SemLoc.dma 8, SemLoc.dma 9] j
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl

def H0 : Finset (Ref sig .tc) := {main_arg0}
theorem H0_sub : H0 ⊆ Pipeline.restRefsP sig pre0 spec0 := by decide

section Launch

variable (m : (ℓ : Loc nD τ sig) → Buf (Elt F) ℓ) (ρ : Dev nD → PrngReg)

theorem hbm_eq (c : Dev nD) :
    (bigSep H0 (fun b => ((c : Thread nD τ).loc b) ↦{fullShare} Vm m c b) : sProp 𝕄) = hAt c (actH (Vm m) c) Finset.univ fullShare := by
  rw [BI.bigSep_eq_bigSepL_of_eq [main_arg0] (by decide) (by decide)]; rfl

/-- What the launch hands the invariant. -/
theorem PhiD_eq (c : Dev nD) :
    (Pipeline.ΦD osem0 spec0 H0 (Vm m) c : sProp 𝕄)
      = iprop(iprop((∃ f : Buf (Elt F) ((c : Thread nD τ).loc cc0_scratch0), ((c : Thread nD τ).loc cc0_scratch0) ↦{fullShare} f)
          ∗ (∃ d, owns (c : Thread nD τ) (Memref.whole cc0_scratch1) fullShare d) ∗ (∃ d, owns (c : Thread nD τ) (Memref.whole cc0_scratch2) fullShare d))
        ∗ (∃ r, prngReg c r)
        ∗ iprop(semVal ((c : Thread nD τ), SemLoc.dma (cell 0)) 0 ∗ semVal ((c : Thread nD τ), SemLoc.dma (cell 1)) 0)
        ∗ hAt c (actH (Vm m) c) Finset.univ fullShare) := by
  rw [Pipeline.ΦD_eq, scopedRest0_eq, ownSems0_cells, hbm_eq]; simp only [owns_whole]; try rfl

theorem tables_eq (c : Dev nD) (v : pre0.Contents (Elt F)) :
    (Pipeline.ΦT (U := Pipeline.UD sig nD τ) pre0 v c : sProp 𝕄)
      = iprop(((c : Thread nD τ).loc main_v14 ↦{fullShare.right} (v 0 : main_v14.ty.Contents (Elt F)))
        ∗ ((c : Thread nD τ).loc main_arg3 ↦{fullShare.right} (v 1 : main_arg3.ty.Contents (Elt F)))
        ∗ ((c : Thread nD τ).loc main_arg1 ↦{fullShare.right} (v 2 : main_arg1.ty.Contents (Elt F)))) := by
  show (bigSep Finset.univ _ : sProp 𝕄) = _
  rw [bigSep_univ_eq_bigSepL [(0 : Fin 3), (1 : Fin 3), (2 : Fin 3)] (by decide) (by decide)]; rfl

variable {m} {n : ℕ} (R : Ranges m n)

theorem phi_in (c : Dev nD) :
    iprop(Pipeline.ΦD osem0 spec0 H0 (Vm m) c ∗ Pipeline.ΦT (U := Pipeline.UD sig nD τ) pre0 (adm R).1 c) ⊢ (phiAt (Vm m) (adm R) n c 0 : sProp 𝕄) := by
  rw [PhiD_eq, tables_eq, phi_first (Vm m) (adm R) c 0 rfl (by have := R.pos; omega),
    show (adm R).1 1 = fun _ => BitVec.ofNat 32 n from tbl_1 R]
  unfold tabAt stIn
  rw [if_pos rfl]
  unfold idleX
  iintro ⟨⟨⟨⟨%f, H0⟩, H1, H2⟩, HP, ⟨Hc0, Hc1⟩, HA⟩, ⟨T0, T1, T2⟩⟩
  isplitl [T0 T1 T2]
  · isplitl [T0]; · iexact T0
    isplitl [T1]; · iexact T1
    iexact T2
  isplitl [HP]; · iexact HP
  isplitl [H1 H2]
  · isplitl [H1]; · iexact H1
    iexact H2
  isplitl [H0]; · iexists f; iexact H0
  isplitl [Hc0]; · iexact Hc0
  isplitl [Hc1]; · iexact Hc1
  iexact HA

theorem phi_out (c : Dev nD) : (phiAt (Vm m) (adm R) n c 392 : sProp 𝕄) ⊢ Pipeline.ΦD osem0 spec0 H0 (Vm m) c := by
  rw [PhiD_eq, phi_off (Vm m) (adm R) c 392 (by have := R.le; omega)]
  unfold idleX
  iintro ⟨HT, HP, ⟨H1, H2⟩, ⟨⟨%f, H0⟩, Hc0, Hc1, HA⟩⟩
  isplitl [H0 H1 H2]
  · isplitl [H0]; · iexists f; iexact H0
    isplitl [H1]; · iexact H1
    iexact H2
  isplitl [HP]; · iexact HP
  isplitl [Hc0 Hc1]
  · isplitl [Hc0]; · iexact Hc0
    iexact Hc1
  iexact HA

/-- The contents and proof data at every pipeline. -/
abbrev adms : (p : Fin 1) → (pcfgs (F := F) p).Adm := fun _ => adm R
abbrev dats : (p : Fin 1) → (c : Dev nD) → Dat τ (Elt F) Unit ℕ (Pipeline.UD sig nD τ) ℕ (Pipeline.pin pcfgs (adms R) p) c :=
  fun _ c => dat (Vm m) (adm R) n c

theorem hmain : Pipeline.HMainP (Ix := Unit) (Name := ℕ) (U := Pipeline.UD sig nD τ) (Lvl := ℕ) (pcfgs (F := F)) 0 defs₀ Variants.none m (main (F := F)) (Vm m) :=
  Pipeline.hmainP_prefix pcfgs 0 defs₀ Variants.none m main hostOps0 hostOps0_sub
    ⟨rfl, rfl, rfl, rfl, rfl, rfl, rfl, rfl, rfl, rfl, rfl, rfl, rfl, rfl, rfl, rfl, rfl, rfl⟩ main_chain

set_option backward.isDefEq.respectTransparency.types false in
/-- From a memory in the ranges, with zero counters, every weakly fair execution ends with every window's array as the proof data say,
    every other unscoped buffer as the region found it, and every counter at zero. -/
theorem run_main :
    θ_run defs (onTc (τ := τ) (main (F := F))) (s₀ m ρ)
      (fun r => Pipeline.FramePost (Pipeline.pin pcfgs (adms R)) (dats R) 0 (Vm m) r ∧ r.2.sem = fun _ => 0) :=
  Pipeline.θ_run_frameP_dma (Q' := _) pcfgs (adms R) (dats R) (0 : Fin 1) launch0 osem0 defs₀ Variants.none ownSemFacts0 H0 H0_sub m ρ main
    (hbody := fun c => (body_obligation (Vm m) (adm R) c R.le (adm_src R) (tbl_1 R)).loose)
    (hshare := fun c => (dats R 0 c).share_full fun _ => rfl)
    (howed := fun _ _ => rfl) (V := Vm m) (hmain := hmain) (hA := fun _ _ => rfl)
    (hpf := fun c k => by obtain rfl : c = 0 := Subsingleton.elim _ _; rfl)
    (hin := phi_in R) (hout := phi_out R)

include R in
/-- The frame: the argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨((h.1 c).2 main_arg0 (Pipeline.mem_restRefs_of (win := spec0) main_arg0 (by decide) (by decide))).trans (V_arg m c main_arg0 (by decide)),
      ((h.1 c).2 main_arg1 (Pipeline.mem_restRefs_of (win := spec0) main_arg1 (by decide) (by decide))).trans (V_arg m c main_arg1 (by decide)),
      ((h.1 c).2 main_arg2 (Pipeline.mem_restRefs_of (win := spec0) main_arg2 (by decide) (by decide))).trans (V_arg m c main_arg2 (by decide)),
      ((h.1 c).2 main_arg3 (Pipeline.mem_restRefs_of (win := spec0) main_arg3 (by decide) (by decide))).trans (V_arg m c main_arg3 (by decide)),
      ((h.1 c).2 main_arg4 (Pipeline.mem_restRefs_of (win := spec0) main_arg4 (by decide) (by decide))).trans (V_arg m c main_arg4 (by decide)),
      ((h.1 c).2 main_arg5 (Pipeline.mem_restRefs_of (win := spec0) main_arg5 (by decide) (by decide))).trans (V_arg m c main_arg5 (by decide)),
      ((h.1 c).2 main_arg6 (Pipeline.mem_restRefs_of (win := spec0) main_arg6 (by decide) (by decide))).trans (V_arg m c main_arg6 (by decide))⟩, h.2⟩)
    (run_main ρ R)

end Launch

/-! ## The ranges, from the precondition's words -/

/-- A word at least one and at most fifty six. -/
theorem count_word (v : BitVec 32) (h1 : (1#32 : BitVec 32).sle v) (h2 : v.sle 56#32) : 1 ≤ v.toNat ∧ v.toNat ≤ 56 := by
  have e1 : (1#32 : BitVec 32).toInt = 1 := by decide
  have e2 : (56#32 : BitVec 32).toInt = 56 := by decide
  simp only [BitVec.sle, decide_eq_true_eq, e1, e2, BitVec.toInt_eq_toNat_cond] at h1 h2
  split at h1 <;> omega
/-- A word at least zero and less than `b`. -/
theorem range_word (v b : BitVec 32) (hb : b.toNat < 2 ^ 31) (h1 : (0#32 : BitVec 32).sle v) (h2 : v.slt b) : v.toNat < b.toNat := by
  have e1 : (0#32 : BitVec 32).toInt = 0 := by decide
  simp only [BitVec.sle, BitVec.slt, decide_eq_true_eq, e1, BitVec.toInt_eq_toNat_cond] at h1 h2
  rw [if_pos (by omega : 2 * b.toNat < 2 ^ 32)] at h2
  split at h1 <;> omega

/-- A memory of which the precondition holds lies in the ranges, for some count of valid tiles. -/
theorem ranges_of [Cert.Pre_ranges.Facts] (m : (ℓ : Loc nD τ sig) → Buf (Elt F) ℓ)
    (h : ∀ c : Dev nD,
      let r := Pre_ranges.fn (F := F) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) (m ((c.tc : Thread nD τ).loc main_arg6))
      r.1 = (fun _ => 1#1) ∧ r.2.1 = (fun _ => 1#1) ∧ r.2.2.1 = (fun _ => 1#1) ∧ r.2.2.2.1 = (fun _ => 1#1) ∧ r.2.2.2.2.1 = (fun _ => 1#1) ∧ r.2.2.2.2.2 = (fun _ => 1#1)) :
    ∃ n, Ranges m n := by
  let v : BitVec 32 := (m (((0 : Dev nD) : Thread nD τ).loc main_arg3) : S1.Idx → BitVec 32) (ix1 0)
  have hone : ∀ x : S1.Idx, x = ix1 0 := fun x => by
    funext d; fin_cases d; exact Subsingleton.elim (α := Fin 1) _ _
  have hv := count_word v
    (by
      exact (StableHlo.Predicate.ofBool_eq_one_iff _).1 (congrFun (h 0).2.2.2.2.1 (ix1 0)))
    (by
      exact (StableHlo.Predicate.ofBool_eq_one_iff _).1 (congrFun (h 0).2.2.2.2.2 (ix1 0)))
  refine ⟨v.toNat, ⟨hv.1, hv.2, fun c => ?_, fun c x => ?_, fun c x => ?_⟩⟩
  · obtain rfl : c = 0 := Subsingleton.elim _ _
    funext x
    rw [hone x]
    exact BitVec.eq_of_toNat_eq (by rw [BitVec.toNat_ofNat, Nat.mod_eq_of_lt v.isLt])
  · refine range_word _ 8#32 (by decide) ?_ ?_
    · exact (StableHlo.Predicate.ofBool_eq_one_iff _).1 (congrFun (h c).2.2.1 x)
    · exact (StableHlo.Predicate.ofBool_eq_one_iff _).1 (congrFun (h c).2.2.2.1 x)
  · refine range_word _ 12288#32 (by decide) ?_ ?_
    · exact (StableHlo.Predicate.ofBool_eq_one_iff _).1 (congrFun (h c).1 x)
    · exact (StableHlo.Predicate.ofBool_eq_one_iff _).1 (congrFun (h c).2.1 x)

end Cert.MoeIdeal.V

end
-- ==== Proof.MoeV.Spec.lean ====
/- The expert feed-forward of one routed row, written once: what both programs are shown to compute. -/
module

public import Idealize.ShloMosaic.Lib.Pointwise
public import Idealize.ShloMosaic.PureOps.Ideal.Laws

@[expose] public section

noncomputable section

namespace Cert.MoeV

open Idealize.ShloMosaic

/-- The seven arguments, read by their coordinates. -/
structure Args where
  /-- the tokens' rows -/
  x : Fin 12288 → Fin 1024 → EReal
  /-- the token of each routed row -/
  src : Fin 28672 → Fin 12288
  /-- the expert of each tile of 512 routed rows -/
  te : Fin 56 → Fin 8
  /-- how many tiles are in use -/
  n : ℕ
  /-- the experts' gate weights -/
  wg : Fin 8 → Fin 1024 → Fin 3584 → EReal
  /-- the experts' up weights -/
  wu : Fin 8 → Fin 1024 → Fin 3584 → EReal
  /-- the experts' down weights -/
  wd : Fin 8 → Fin 3584 → Fin 1024 → EReal

namespace Args

variable (A : Args)

/-- The tile of a routed row. -/
def tile (r : Fin 28672) : Fin 56 := ⟨r.val / 512, by omega⟩

/-- One gate pre-activation of a routed row by an expert. -/
def gate (e : Fin 8) (r : Fin 28672) (f : Fin 3584) : EReal := ∑ k, A.x (A.src r) k * A.wg e k f

/-- One up projection of a routed row by an expert. -/
def up (e : Fin 8) (r : Fin 28672) (f : Fin 3584) : EReal := ∑ k, A.x (A.src r) k * A.wu e k f

/-- One hidden unit: the gate's silu times the up projection. -/
def act (e : Fin 8) (r : Fin 28672) (f : Fin 3584) : EReal := A.gate e r f * Ideal.logistic (A.gate e r f) * A.up e r f

/-- An expert's value at a routed row. -/
def down (e : Fin 8) (r : Fin 28672) (d : Fin 1024) : EReal := ∑ f, A.act e r f * A.wd e f d

/-- The result at a routed row: its tile's expert's value, or zero on a tile not in use. -/
def res (r : Fin 28672) (d : Fin 1024) : EReal := if (tile r).val < A.n then A.down (A.te (tile r)) r d else 0

end Args

end Cert.MoeV
-- ==== Proof.MoeV.Value.lean ====
/- What the expert call leaves in its result array, read at an index. -/
module

public import proofs.«01_k».proof.Proof.MoeV.Launch
public import proofs.«01_k».proof.Proof.MoeV.Spec
public import Idealize.ShloMosaic.Lib.Pointwise
public import Idealize.ShloMosaic.Lib.Claim
public import Idealize.ShloMosaic.Lib.Pipeline.ValueKit
public import Idealize.ShloMosaic.Lib.Pipeline.ReadBack

@[expose] public section

noncomputable section

namespace Cert.MoeIdeal.V

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Cert.MoeV Idealize.ShloMosaic.Pipeline

/-! ## The blocks at an index -/

section Value

/-- Eight pieces joined along the lanes, read at a lane. -/
theorem pay1_apply (f : Fin 8 → S512x128.Idx → EReal) (j : Fin 512) (k : Fin 1024) :
    k0_pay1 (F := Ideal) (f 0) (f 1) (f 2) (f 3) (f 4) (f 5) (f 6) (f 7) (ix2 j k) = f ⟨k.val / 128, by omega⟩ (ix2 j ⟨k.val % 128, by omega⟩) := by
  have g : ∀ (s : Fin 8) (l : Fin 128), k.val = 128 * s.val + l.val → f s (ix2 j l) = f ⟨k.val / 128, by omega⟩ (ix2 j ⟨k.val % 128, by omega⟩) := by
    intro s l h
    exact congr (congrArg f (Fin.ext (by show s.val = k.val / 128; omega))) (congrArg (ix2 j) (Fin.ext (by show l.val = k.val % 128; omega)))
  pointwise [k0_pay1]
  have hk := k.isLt
  by_cases h0 : k.val < 128
  · refine (dif_pos h0).trans (g 0 _ ?_)
    show k.val = 128 * 0 + (k.val)
    omega
  refine (dif_neg h0).trans ?_
  by_cases h1 : k.val - 128 < 128
  · refine (dif_pos h1).trans (g 1 _ ?_)
    show k.val = 128 * 1 + (k.val - 128)
    omega
  refine (dif_neg h1).trans ?_
  by_cases h2 : k.val - 128 - 128 < 128
  · refine (dif_pos h2).trans (g 2 _ ?_)
    show k.val = 128 * 2 + (k.val - 128 - 128)
    omega
  refine (dif_neg h2).trans ?_
  by_cases h3 : k.val - 128 - 128 - 128 < 128
  · refine (dif_pos h3).trans (g 3 _ ?_)
    show k.val = 128 * 3 + (k.val - 128 - 128 - 128)
    omega
  refine (dif_neg h3).trans ?_
  by_cases h4 : k.val - 128 - 128 - 128 - 128 < 128
  · refine (dif_pos h4).trans (g 4 _ ?_)
    show k.val = 128 * 4 + (k.val - 128 - 128 - 128 - 128)
    omega
  refine (dif_neg h4).trans ?_
  by_cases h5 : k.val - 128 - 128 - 128 - 128 - 128 < 128
  · refine (dif_pos h5).trans (g 5 _ ?_)
    show k.val = 128 * 5 + (k.val - 128 - 128 - 128 - 128 - 128)
    omega
  refine (dif_neg h5).trans ?_
  by_cases h6 : k.val - 128 - 128 - 128 - 128 - 128 - 128 < 128
  · refine (dif_pos h6).trans (g 6 _ ?_)
    show k.val = 128 * 6 + (k.val - 128 - 128 - 128 - 128 - 128 - 128)
    omega
  refine (dif_neg h6).trans ?_
  refine g 7 _ ?_
  show k.val = 128 * 7 + (k.val - 128 - 128 - 128 - 128 - 128 - 128 - 128)
  omega

/-- The gathered tile, lanes joined: the token's row. -/
theorem xb_apply (T : S28672.Idx → BitVec 32) (H : S98304x128.Idx → EReal) (μ : ℕ) (j : Fin 512) (k : Fin 1024) :
    xbOf (F := Ideal) T H μ (ix2 j k)
      = H (ix2 (⟨8 * word T μ j.val + k.val / 128, by have := word_lt T μ j.val; omega⟩ : Fin 98304) (⟨k.val % 128, by omega⟩ : Fin 128)) := by
  have g : ∀ (s : Fin 8) (l : Fin 128), k.val = 128 * s.val + l.val → rowsAt (F := Ideal) μ s (gath (F := Ideal) T H μ) (ix2 j l)
      = H (ix2 (⟨8 * word T μ j.val + k.val / 128, by have := word_lt T μ j.val; omega⟩ : Fin 98304) (⟨k.val % 128, by omega⟩ : Fin 128)) := by
    intro s l h
    have e1 : (4096 * (μ % 2) + s.val + 8 * j.val) / 8 % 512 = j.val := by omega
    have e2 : (4096 * (μ % 2) + s.val + 8 * j.val) % 8 = k.val / 128 := by omega
    have e3 : l.val = k.val % 128 := by omega
    show H (ix2 (⟨8 * word T μ ((4096 * (μ % 2) + s.val + 8 * j.val) / 8 % 512) + (4096 * (μ % 2) + s.val + 8 * j.val) % 8, _⟩ : Fin 98304) (⟨l.val, _⟩ : Fin 128)) = _
    congr 2
    · exact Fin.ext (by show 8 * word T μ ((4096 * (μ % 2) + s.val + 8 * j.val) / 8 % 512) + (4096 * (μ % 2) + s.val + 8 * j.val) % 8 = _; rw [e1, e2])
    · exact Fin.ext e3
  refine (pay1_apply (fun s => rowsAt (F := Ideal) μ s (gath (F := Ideal) T H μ)) j k).trans (g _ _ ?_)
  show k.val = 128 * (k.val / 128) + k.val % 128
  omega

variable {m : (ℓ : Loc nD τ sig) → Buf (Elt Ideal) ℓ} {n : ℕ} (R : Ranges m n) (c : Dev nD)

/-- The argument arrays, read by their coordinates. -/
def kargs : Args where
  x r k := m ((c : Thread nD τ).loc main_arg0) (ix2 (⟨8 * r.val + k.val / 128, by omega⟩ : Fin 98304) (⟨k.val % 128, by omega⟩ : Fin 128))
  src r := ⟨((m ((c : Thread nD τ).loc main_arg1) : S28672.Idx → BitVec 32) (ix1 r)).toNat, R.src c _⟩
  te μ := ⟨((m ((c : Thread nD τ).loc main_arg2) : S56.Idx → BitVec 32) (ix1 μ)).toNat, R.te c _⟩
  n := n
  wg e k f := m ((c : Thread nD τ).loc main_arg4) (ix3 e k f)
  wu e k f := m ((c : Thread nD τ).loc main_arg5) (ix3 e k f)
  wd e f k := m ((c : Thread nD τ).loc main_arg6) (ix3 e f k)

/-- The routed row at place `j` of tile `μ`. -/
def row (μ : Fin 56) (j : Fin 512) : Fin 28672 := ⟨512 * μ.val + j.val, by omega⟩

/-- The hidden unit at place `f` of step `k`. -/
def unit (k : Fin 7) (f : Fin 512) : Fin 3584 := ⟨512 * k.val + f.val, by omega⟩

theorem coords_pt (μ k : ℕ) (hμ : μ < 56) (hk : k < 7) : (grid0.coords (pt (7 * μ + k)) 0).val = μ ∧ (grid0.coords (pt (7 * μ + k)) 1).val = k := by
  have h := coords_val (pt (7 * μ + k))
  have e : (pt (7 * μ + k)).val = 7 * μ + k := by show (7 * μ + k) % 392 = _; omega
  rw [e] at h
  omega

theorem teOf_pt (μ : Fin 56) (k : Fin 7) (hμ : μ.val < n) :
    teOf (adm R).1 (grid0.coords (pt (7 * μ.val + k.val))) = ((kargs R c).te μ).val := by
  obtain rfl : c = 0 := Subsingleton.elim _ _
  show BitVec.toNat _ = BitVec.toNat ((m (((0 : Dev nD) : Thread nD τ).loc main_arg2) : S56.Idx → BitVec 32) (ix1 μ))
  refine congrArg BitVec.toNat ((tbl_0 R _).trans (congrArg (fun q : Fin 56 => (m (((0 : Dev nD) : Thread nD τ).loc main_arg2) : S56.Idx → BitVec 32) (ix1 q)) (Fin.ext ?_)))
  show min (grid0.coords (pt (7 * μ.val + k.val)) 0).val (n - 1) = μ.val
  rw [(coords_pt μ.val k.val μ.isLt k.isLt).1]; omega

theorem stepOf_pt (μ : Fin 56) (k : Fin 7) (hμ : μ.val < n) : stepOf n (grid0.coords (pt (7 * μ.val + k.val))) = k.val := by
  unfold stepOf
  rw [(coords_pt μ.val k.val μ.isLt k.isLt).1, (coords_pt μ.val k.val μ.isLt k.isLt).2, if_pos hμ]

section Index
variable (a : (pcfg0 (F := F)).Adm) (n : ℕ) (hn : n ≤ 56) (h1 : a.1 1 = fun _ => BitVec.ofNat 32 n) (t : Fin grid0.N)
include hn h1
theorem index_0 : (pcfg0.win a 0).index t (0 : Fin 3) = teOf a.1 (grid0.coords t) ∧ (pcfg0.win a 0).index t (1 : Fin 3) = 0
    ∧ (pcfg0.win a 0).index t (2 : Fin 3) = stepOf n (grid0.coords t) :=
  have e := tr1_eq a.1 n hn h1 (grid0.coords t)
  ⟨congrFun e (0 : Fin 3), congrFun e (1 : Fin 3), congrFun e (2 : Fin 3)⟩
theorem index_1 : (pcfg0.win a 1).index t (0 : Fin 3) = teOf a.1 (grid0.coords t) ∧ (pcfg0.win a 1).index t (1 : Fin 3) = 0
    ∧ (pcfg0.win a 1).index t (2 : Fin 3) = stepOf n (grid0.coords t) :=
  have e := tr2_eq a.1 n hn h1 (grid0.coords t)
  ⟨congrFun e (0 : Fin 3), congrFun e (1 : Fin 3), congrFun e (2 : Fin 3)⟩
theorem index_2 : (pcfg0.win a 2).index t (0 : Fin 3) = teOf a.1 (grid0.coords t) ∧ (pcfg0.win a 2).index t (1 : Fin 3) = stepOf n (grid0.coords t)
    ∧ (pcfg0.win a 2).index t (2 : Fin 3) = 0 :=
  have e := tr3_eq a.1 n hn h1 (grid0.coords t)
  ⟨congrFun e (0 : Fin 3), congrFun e (1 : Fin 3), congrFun e (2 : Fin 3)⟩
end Index

/-- The gate weights' block. -/
theorem blk0 (μ : Fin 56) (k : Fin 7) (hμ : μ.val < n) (d : Fin 1024) (f : Fin 512) :
    (iblk (Vm m) (adm R) c 0 (pt (7 * μ.val + k.val)) : Vec Ideal S1x1024x512 .bf16) (ix3 0 d f)
      = (kargs R c).wg ((kargs R c).te μ) d (unit k f) := by
  obtain ⟨e0, e1, e2⟩ := index_0 (adm R) n R.le (tbl_1 R) (pt (7 * μ.val + k.val))
  have eT := teOf_pt R c μ k hμ
  have eS := stepOf_pt μ k hμ
  show Vm m c main_v0 _ = _
  rw [V_v0]
  show m ((c : Thread nD τ).loc main_arg4) _ = m ((c : Thread nD τ).loc main_arg4) (ix3 ((kargs R c).te μ) d (unit k f))
  refine congrArg _ ?_
  unfold unit
  blk_ext []
  all_goals omega

/-- The up weights' block. -/
theorem blk1 (μ : Fin 56) (k : Fin 7) (hμ : μ.val < n) (d : Fin 1024) (f : Fin 512) :
    (iblk (Vm m) (adm R) c 1 (pt (7 * μ.val + k.val)) : Vec Ideal S1x1024x512 .bf16) (ix3 0 d f)
      = (kargs R c).wu ((kargs R c).te μ) d (unit k f) := by
  obtain ⟨e0, e1, e2⟩ := index_1 (adm R) n R.le (tbl_1 R) (pt (7 * μ.val + k.val))
  have eT := teOf_pt R c μ k hμ
  have eS := stepOf_pt μ k hμ
  show Vm m c main_v1 _ = _
  rw [V_v1]
  show m ((c : Thread nD τ).loc main_arg5) _ = m ((c : Thread nD τ).loc main_arg5) (ix3 ((kargs R c).te μ) d (unit k f))
  refine congrArg _ ?_
  unfold unit
  blk_ext []
  all_goals omega

/-- The down weights' block. -/
theorem blk2 (μ : Fin 56) (k : Fin 7) (hμ : μ.val < n) (f : Fin 512) (d : Fin 1024) :
    (iblk (Vm m) (adm R) c 2 (pt (7 * μ.val + k.val)) : Vec Ideal S1x512x1024 .bf16) (ix3 0 f d)
      = (kargs R c).wd ((kargs R c).te μ) (unit k f) d := by
  obtain ⟨e0, e1, e2⟩ := index_2 (adm R) n R.le (tbl_1 R) (pt (7 * μ.val + k.val))
  have eT := teOf_pt R c μ k hμ
  have eS := stepOf_pt μ k hμ
  show Vm m c main_v2 _ = _
  rw [V_v2]
  show m ((c : Thread nD τ).loc main_arg6) _ = m ((c : Thread nD τ).loc main_arg6) (ix3 ((kargs R c).te μ) (unit k f) d)
  refine congrArg _ ?_
  unfold unit
  blk_ext []
  all_goals omega

/-- The gathered tile's rows are the tokens' of its routed rows. -/
theorem xb_row (μ : Fin 56) (j : Fin 512) (k : Fin 1024) :
    xbOf (tabS (adm R)) (actH (Vm m) c) μ.val (ix2 j k) = (kargs R c).x ((kargs R c).src (row μ j)) k := by
  rw [xb_apply]
  show Vm m c main_arg0 _ = m ((c : Thread nD τ).loc main_arg0) _
  rw [V_arg m c main_arg0 (by decide)]
  congr 2
  refine Fin.ext ?_
  show 8 * word (tabS (adm R)) μ.val j.val + k.val / 128 = 8 * ((kargs R c).src (row μ j)).val + k.val / 128
  have e : word (tabS (adm R)) μ.val j.val = ((kargs R c).src (row μ j)).val := by
    obtain rfl : c = 0 := Subsingleton.elim _ _
    unfold word
    have ht : (tabS (adm R)) = m (((0 : Dev nD) : Thread nD τ).loc main_arg1) := tbl_2 R
    rw [Nat.mod_eq_of_lt (adm_src R _), ht]
    refine congrArg (fun q : Fin 28672 => ((m (((0 : Dev nD) : Thread nD τ).loc main_arg1) : S28672.Idx → BitVec 32) (ix1 q)).toNat) (Fin.ext ?_)
    show (512 * μ.val + j.val) % 28672 = 512 * μ.val + j.val
    omega
  rw [e]

/-- One step: what the accumulator held plus the step's products. -/
theorem step_apply (μ : Fin 56) (k : Fin 7) (hμ : μ.val < n) (acc : Vec Ideal S512x1024 .f32) (j : Fin 512) (d : Fin 1024) :
    k0_pay3 (xbOf (tabS (adm R)) (actH (Vm m) c) μ.val) (iblk (Vm m) (adm R) c 0 (pt (7 * μ.val + k.val))) (iblk (Vm m) (adm R) c 1 (pt (7 * μ.val + k.val)))
        acc (iblk (Vm m) (adm R) c 2 (pt (7 * μ.val + k.val))) (ix2 j d)
      = acc (ix2 j d) + ∑ f, (kargs R c).act ((kargs R c).te μ) (row μ j) (unit k f) * (kargs R c).wd ((kargs R c).te μ) (unit k f) d := by
  have ex := xb_row R c μ j
  have e0 := blk0 R c μ k hμ
  have e1 := blk1 R c μ k hμ
  have e2 := blk2 R c μ k hμ
  generalize xbOf (tabS (adm R)) (actH (Vm m) c) μ.val = X at *
  generalize iblk (Vm m) (adm R) c 0 (pt (7 * μ.val + k.val)) = G at *
  generalize iblk (Vm m) (adm R) c 1 (pt (7 * μ.val + k.val)) = U at *
  generalize iblk (Vm m) (adm R) c 2 (pt (7 * μ.val + k.val)) = D at *
  pointwise [k0_pay3]
  simp only [ex, e0, e1, e2]
  rfl

theorem zero_apply (j : Fin 512) (d : Fin 1024) : k0_pay2 (F := Ideal) (ix2 j d) = 0 := by
  pointwise [k0_pay2]
theorem off_apply (y : S4096x128.Idx) : k0_pay12 (F := Ideal) y = 0 := by
  show Ideal.ofBits .f32 0x00000000#32 = 0
  exact Ideal.ofBits_zero_f32

/-- The accumulator before step `K`: the products of the steps before it. -/
theorem acc_apply (μ : Fin 56) (hμ : μ.val < n) (j : Fin 512) (d : Fin 1024) : ∀ K : ℕ, (hK : K ≤ 7) → accAt (Vm m) (adm R) c μ.val K (ix2 j d)
      = ∑ k : Fin K, ∑ f, (kargs R c).act ((kargs R c).te μ) (row μ j) (unit (k.castLE hK) f) * (kargs R c).wd ((kargs R c).te μ) (unit (k.castLE hK) f) d
  | 0, _ => zero_apply j d
  | K + 1, hK => by
    rw [Fin.sum_univ_castSucc]
    refine (step_apply R c μ ⟨K, hK⟩ hμ _ j d).trans ?_
    rw [acc_apply μ hμ j d K (by omega)]
    rfl

/-- The seven steps make the whole sum over the hidden units. -/
theorem down_steps (A : Args) (e : Fin 8) (r : Fin 28672) (d : Fin 1024) :
    A.down e r d = ∑ k : Fin 7, ∑ f : Fin 512, A.act e r (unit k f) * A.wd e (unit k f) d := by
  unfold Args.down
  rw [← Fintype.sum_prod_type' (f := fun (k : Fin 7) (f : Fin 512) => A.act e r (unit k f) * A.wd e (unit k f) d)]
  refine (Fintype.sum_equiv (finProdFinEquiv (m := 7) (n := 512)) _ _ fun x => ?_).symm
  have h : unit x.1 x.2 = (finProdFinEquiv (m := 7) (n := 512) x : Fin 3584) :=
    Fin.ext (by show 512 * x.1.val + x.2.val = x.2.val + 512 * x.1.val; omega)
  rw [h]

/-- What a tile's last step writes back. -/
theorem out_apply (μ : Fin 56) (q : Fin 4096) (l : Fin 128) :
    outAt (Vm m) (adm R) n c μ.val (ix2 q l)
      = (kargs R c).res (row μ ⟨q.val / 8, by omega⟩) (⟨128 * (q.val % 8) + l.val, by omega⟩ : Fin 1024) := by
  have ht : Args.tile (row μ ⟨q.val / 8, by omega⟩) = μ := Fin.ext (by show (512 * μ.val + q.val / 8) / 512 = μ.val; omega)
  unfold outAt Args.res
  rw [ht]
  by_cases h : μ.val < n
  · rw [if_pos h, if_pos (show μ.val < (kargs R c).n from h), down_steps]
    exact acc_apply R c μ h _ _ 7 le_rfl
  · rw [if_neg h, if_neg (show ¬ μ.val < (kargs R c).n from h)]
    exact off_apply _

/-! ## The result array -/

theorem index_3 (a : (pcfg0 (F := F)).Adm) (t : Fin grid0.N) (b : Fin 2) : (pcfg0.win a 3).index t b = if b = 0 then t.val / 7 else 0 := by
  have h := (coords_val t).1
  have ht : t.val < 392 := t.isLt
  show cc0_transform_4 (grid0.coords t) b = _
  fin_cases b
  · show (BitVec.ofNat 32 (grid0.coords t 0).val).toNat = t.val / 7
    rw [h, BitVec.toNat_ofNat]; omega
  · rfl

theorem flush_last (a : (pcfg0 (F := F)).Adm) (t : Fin grid0.N) (h6 : t.val % 7 = 6) : ((cfg0 a).win 3).flush t = true := by
  have ht : t.val < 392 := t.isLt
  unfold Window.flush
  by_cases hN : t.val + 1 = grid0.N
  · rw [decide_eq_true hN]; rfl
  · have h : t.val + 1 < grid0.N := by have := N_0; omega
    have hne : ((cfg0 a).win 3).index ⟨t.val + 1, h⟩ ≠ ((cfg0 a).win 3).index t := fun e => by
      have e' := congrFun e (0 : Fin 2)
      rw [index_3 a _ (0 : Fin 2), index_3 a t (0 : Fin 2), if_pos rfl, if_pos rfl] at e'
      have e'' : (t.val + 1) / 7 = t.val / 7 := e'
      omega
    rw [decide_eq_true (show ∃ h : t.val + 1 < grid0.N, ((cfg0 a).win 3).index ⟨t.val + 1, h⟩ ≠ ((cfg0 a).win 3).index t from ⟨h, hne⟩)]
    rw [Bool.or_true]; rfl

/-- Where a block of the result array lies. -/
theorem emb_3 (a : (pcfg0 (F := F)).Adm) (t : Fin grid0.N) (q : Fin 4096) (l : Fin 128) :
    (((cfg0 a).win 3).blk t).view.emb (ix2 q l : S4096x128.Idx)
      = (ix2 (⟨4096 * (t.val / 7) + q.val, by have ht : t.val < 392 := t.isLt; omega⟩ : Fin 229376) l : S229376x128.Idx) := by
  have e0 := index_3 a t 0
  have e1 := index_3 a t 1
  rw [if_pos rfl] at e0
  rw [if_neg (by decide)] at e1
  blk_ext []
  all_goals omega

/-- What the call leaves in its result array. -/
def W : S229376x128.Idx → EReal := fun y =>
  (kargs R c).res (⟨(y 0).val / 8, by have h : (y 0).val < 229376 := (y 0).isLt; omega⟩ : Fin 28672)
    (⟨128 * ((y 0).val % 8) + (y 1).val, by have h : (y 1).val < 128 := (y 1).isLt; omega⟩ : Fin 1024)

theorem final_pt (t : Fin grid0.N) (y : S4096x128.Idx) :
    outAt (Vm m) (adm R) n c (t.val / 7) y = W R c ((((cfg0 (adm R)).win 3).blk t).view.emb y) := by
  have ht : t.val < 392 := t.isLt
  obtain ⟨q, l, rfl⟩ : ∃ (q : Fin 4096) (l : Fin 128), y = ix2 q l := ⟨y 0, y 1, eq_ix2 (n0 := 4096) (n1 := 128) y⟩
  refine ((out_apply R c ⟨t.val / 7, by omega⟩ q l).trans ?_).trans (congrArg (W R c) (emb_3 (adm R) t q l)).symm
  unfold W row
  congr 1
  · refine Fin.ext ?_
    show 512 * (t.val / 7) + q.val / 8 = (4096 * (t.val / 7) + q.val) / 8
    omega
  · refine Fin.ext ?_
    show 128 * (q.val % 8) + l.val = 128 * ((4096 * (t.val / 7) + q.val) % 8) + l.val
    omega

theorem cover_3 (a : (pcfg0 (F := F)).Adm) (i : S229376x128.Idx) :
    ∃ (t : Fin grid0.N) (y : S4096x128.Idx), ((cfg0 a).win 3).flush t = true ∧ (((cfg0 a).win 3).blk t).view.emb y = i := by
  have h0 : (i 0).val < 229376 := (i 0).isLt
  have h1 : (i 1).val < 128 := (i 1).isLt
  have hp : (pt (7 * ((i 0).val / 4096) + 6)).val = 7 * ((i 0).val / 4096) + 6 := by
    show (7 * ((i 0).val / 4096) + 6) % 392 = _; omega
  refine ⟨pt (7 * ((i 0).val / 4096) + 6), ix2 (⟨(i 0).val % 4096, by omega⟩ : Fin 4096) (⟨(i 1).val, h1⟩ : Fin 128), flush_last _ _ (by omega), ?_⟩
  refine (emb_3 a _ _ _).trans ?_
  funext b
  fin_cases b
  · refine Fin.ext ?_
    show 4096 * ((pt (7 * ((i 0).val / 4096) + 6)).val / 7) + (i 0).val % 4096 = (i 0).val
    omega
  · rfl

theorem final : (dats R 0 c).arrAt 3 grid0.N = W R c := by
  refine (dats R 0 c).arrAt_eq_of_emb 3 (W R c) (fun t hf y => final_pt R c t y) (fun i => ?_)
  obtain ⟨t, y, hf, rfl⟩ := cover_3 (adm R) i
  exact ⟨t, hf, View.emb_mem_set _ _⟩

/-- The kernel runs, its result array ends as the routed experts' values, and its arguments end unchanged. -/
theorem result_all (ρ : Dev nD → PrngReg) {m : (ℓ : Loc nD τ sig) → Buf (Elt Ideal) ℓ} {n : ℕ} (R : Ranges m n) : θ_run defs (onTc (τ := τ) (main (F := Ideal))) ⟨m, fun _ => 0, ρ⟩ (fun r => ∀ c : Dev nD,
      r.2.mem ((c.tc : Thread nD τ).loc main_v15) = W R c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 3).trans (final R c), ((h.1 c).2 main_arg0 (Pipeline.mem_restRefs_of (win := spec0) main_arg0 (by decide) (by decide))).trans (V_arg m c main_arg0 (by decide)),
      ((h.1 c).2 main_arg1 (Pipeline.mem_restRefs_of (win := spec0) main_arg1 (by decide) (by decide))).trans (V_arg m c main_arg1 (by decide)),
      ((h.1 c).2 main_arg2 (Pipeline.mem_restRefs_of (win := spec0) main_arg2 (by decide) (by decide))).trans (V_arg m c main_arg2 (by decide)),
      ((h.1 c).2 main_arg3 (Pipeline.mem_restRefs_of (win := spec0) main_arg3 (by decide) (by decide))).trans (V_arg m c main_arg3 (by decide)),
      ((h.1 c).2 main_arg4 (Pipeline.mem_restRefs_of (win := spec0) main_arg4 (by decide) (by decide))).trans (V_arg m c main_arg4 (by decide)),
      ((h.1 c).2 main_arg5 (Pipeline.mem_restRefs_of (win := spec0) main_arg5 (by decide) (by decide))).trans (V_arg m c main_arg5 (by decide)),
      ((h.1 c).2 main_arg6 (Pipeline.mem_restRefs_of (win := spec0) main_arg6 (by decide) (by decide))).trans (V_arg m c main_arg6 (by decide))⟩)
    (run_main ρ R)

end Value

end Cert.MoeIdeal.V

end
-- ==== Proof.MoeV.Ref.lean ====
/- The plain reference of the expert call, read at an index: the experts' sum weighted by the one-hot gates is the routed expert's value. -/
module

public import proofs.«01_k».proof.Proof.MoeV.Spec
public import proofs.«01_k».proof.Proof.Gen.MoeReferenceIdeal.Read

@[expose] public section

set_option maxRecDepth 16384

noncomputable section

namespace Cert.MoeV

open Cert.MoeReferenceIdeal Cert.MoeReferenceIdeal.Gen Cert.MoeReferenceIdeal.Read Idealize.ShloMosaic Idealize.ShloMosaic.TcCoe Idealize.SL.Sem

/-- The host's gather of whole rows, read at an index. -/
theorem gather_row {α : Type} (x : S12288x1024.Idx → α) (idx : IVec S28672x1 32) (r : Fin 28672) (k : Fin 1024) :
    Host.gather gather_S12288x1024_S28672x1_S28672x1024_1_0_n_n_0_1_11024 x idx (ix2 r k)
      = x (ix2 (⟨min (idx (ix2 r (0 : Fin 1))).toInt.toNat 12287, by omega⟩ : Fin 12288) k) := by
  have hc : ∀ a : Fin 2, (gather_S12288x1024_S28672x1_S28672x1024_1_0_n_n_0_1_11024).batchCoord (ix2 r k) a = 0 :=
    fun a => GatherDims.batchCoord_eq_zero _ _ _ List.not_mem_nil
  have e0 : (gather_S12288x1024_S28672x1_S28672x1024_1_0_n_n_0_1_11024).start (ix2 r k) idx (0 : Fin 2) + (gather_S12288x1024_S28672x1_S28672x1024_1_0_n_n_0_1_11024).batchCoord (ix2 r k) (0 : Fin 2)
      + (gather_S12288x1024_S28672x1_S28672x1024_1_0_n_n_0_1_11024).offCoord (ix2 r k) (0 : Fin 2) = min (idx (ix2 r (0 : Fin 1))).toInt.toNat 12287 := by
    rw [hc, GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S12288x1024_S28672x1_S28672x1024_1_0_n_n_0_1_11024).startIndexMap from List.mem_singleton.mpr rfl)]
    have hsi : (gather_S12288x1024_S28672x1_S28672x1024_1_0_n_n_0_1_11024).siIdx (ix2 r k) ⟨List.idxOf (0 : Fin 2) (gather_S12288x1024_S28672x1_S28672x1024_1_0_n_n_0_1_11024).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have e1 : (gather_S12288x1024_S28672x1_S28672x1024_1_0_n_n_0_1_11024).start (ix2 r k) idx (1 : Fin 2) + (gather_S12288x1024_S28672x1_S28672x1024_1_0_n_n_0_1_11024).batchCoord (ix2 r k) (1 : Fin 2)
      + (gather_S12288x1024_S28672x1_S28672x1024_1_0_n_n_0_1_11024).offCoord (ix2 r k) (1 : Fin 2) = k.val := by
    rw [hc]
    unfold GatherDims.start
    rw [dif_neg (show ¬ (1 : Fin 2) ∈ (gather_S12288x1024_S28672x1_S28672x1024_1_0_n_n_0_1_11024).startIndexMap from by
      intro h; exact absurd (congrArg Fin.val (List.mem_singleton.mp h)) Nat.one_ne_zero), Nat.add_zero, Nat.zero_add]
    rfl
  unfold Host.gather
  congr 1
  funext a
  refine Fin.ext ?_
  match a with
  | ⟨0, _⟩ => exact e0
  | ⟨1, _⟩ => exact e1

/-- A nonnegative index is left alone by the host's wrap, and by the gather's bounds. -/
theorem wrap_row (w : BitVec 32) (h : w.toNat < 12288) :
    min (Scalar.select (IntOp.cmpi .slt w 0#32) (IntOp.addi w 12288#32) w).toInt.toNat 12287 = w.toNat := by
  have e : w.toInt = w.toNat := BitVec.toInt_eq_toNat_of_lt (by omega)
  have s : IntOp.cmpi .slt w 0#32 = 0#1 := by
    show BitVec.ofBool (w.slt 0#32) = 0#1
    rw [show w.slt 0#32 = false from by
      rw [BitVec.slt_eq_decide, e]
      exact decide_eq_false (by show ¬ ((w.toNat : ℤ) < 0); omega)]
    rfl
  rw [s]
  show min w.toInt.toNat 12287 = w.toNat
  rw [e]; omega

/-- A tile's test against the count of tiles in use. -/
theorem lt_word (k : Fin 56) (n : ℕ) (hn : n ≤ 56) : IntOp.cmpi .slt (BitVec.ofNat 32 k.val) (BitVec.ofNat 32 n) = if k.val < n then 1#1 else 0#1 := by
  have h : ∀ (k : Fin 56) (n : Fin 57), IntOp.cmpi .slt (BitVec.ofNat 32 k.val) (BitVec.ofNat 32 n.val) = if k.val < n.val then 1#1 else 0#1 := by decide +kernel
  exact h k ⟨n, by omega⟩

/-- An expert's test against the tile's. -/
theorem eq_word (w : BitVec 32) (h : w.toNat < 8) (e : Fin 8) : IntOp.cmpi .eq w (BitVec.ofNat 32 e.val) = if (⟨w.toNat, h⟩ : Fin 8) = e then 1#1 else 0#1 := by
  have g : ∀ (k e : Fin 8), IntOp.cmpi .eq (BitVec.ofNat 32 k.val) (BitVec.ofNat 32 e.val) = if k = e then 1#1 else 0#1 := by decide +kernel
  have := g ⟨w.toNat, h⟩ e
  rwa [show BitVec.ofNat 32 (⟨w.toNat, h⟩ : Fin 8).val = w from BitVec.eq_of_toNat_eq (by simp)] at this

section Ref

variable (x0 : (⟨S98304x128, .f32⟩ : BufTy).Contents (Elt Ideal)) (x1 : (⟨S28672, .i32⟩ : BufTy).Contents (Elt Ideal))
  (x2 : (⟨S56, .i32⟩ : BufTy).Contents (Elt Ideal)) (x3 : (⟨S1, .i32⟩ : BufTy).Contents (Elt Ideal))
  (x4 x5 : (⟨S8x1024x3584, .f32⟩ : BufTy).Contents (Elt Ideal)) (x6 : (⟨S8x3584x1024, .f32⟩ : BufTy).Contents (Elt Ideal))
  (n : ℕ) (h1 : ∀ y, ((x1 : S28672.Idx → BitVec 32) y).toNat < 12288) (h2 : ∀ y, ((x2 : S56.Idx → BitVec 32) y).toNat < 8)

/-- The argument arrays, read by their coordinates. -/
def argsOf : Args where
  x r k := x0 (ix2 (⟨8 * r.val + k.val / 128, by omega⟩ : Fin 98304) (⟨k.val % 128, by omega⟩ : Fin 128))
  src r := ⟨((x1 : S28672.Idx → BitVec 32) (ix1 r)).toNat, h1 _⟩
  te μ := ⟨((x2 : S56.Idx → BitVec 32) (ix1 μ)).toNat, h2 _⟩
  n := n
  wg e k f := x4 (ix3 e k f)
  wu e k f := x5 (ix3 e k f)
  wd e f k := x6 (ix3 e f k)

/-- The reference's gathered row. -/
theorem ref_row (r : Fin 28672) (k : Fin 1024) : val_main_v7 x0 x1 (ix2 r k) = (argsOf x0 x1 x2 x4 x5 x6 n h1 h2).x ((argsOf x0 x1 x2 x4 x5 x6 n h1 h2).src r) k := by
  unfold val_main_v7
  rw [gather_row, val_main_v0_apply]
  have e : min (val_main_v6 (F := Ideal) x1 (ix2 r (0 : Fin 1))).toInt.toNat 12287 = ((x1 : S28672.Idx → BitVec 32) (ix1 r)).toNat := by
    rw [val_main_v6_apply, val_main_v5_apply, val_main_v2_apply, val_main_v4_apply, val_main_v3_apply, val_main_v1_apply,
      show idx_main_v6 (ix2 r (0 : Fin 1)) = ix1 r from by funext a; match a with | ⟨0, _⟩ => rfl]
    exact wrap_row (x1 (ix1 r)) (h1 _)
  show x0 _ = x0 _
  refine congrArg x0 (funext fun a => Fin.ext ?_)
  have hk := k.isLt
  match a with
  | ⟨0, _⟩ =>
    show (min (val_main_v6 (F := Ideal) x1 (ix2 r (0 : Fin 1))).toInt.toNat 12287 * 1024 + k.val) / 128 = 8 * ((x1 : S28672.Idx → BitVec 32) (ix1 r)).toNat + k.val / 128
    rw [e]; omega
  | ⟨1, _⟩ =>
    show (min (val_main_v6 (F := Ideal) x1 (ix2 r (0 : Fin 1))).toInt.toNat 12287 * 1024 + k.val) % 128 = k.val % 128
    rw [e]; omega

/-- The reference's gate pre-activation. -/
theorem ref_gate (e : Fin 8) (r : Fin 28672) (f : Fin 3584) : val_main_v20 x0 x1 x4 (ix3 e r f) = (argsOf x0 x1 x2 x4 x5 x6 n h1 h2).gate e r f := by
  rw [val_main_v20_apply, val_main_v19_apply]
  refine Finset.sum_congr rfl fun k _ => ?_
  rw [show ridx_main_v19 (idx_main_v20 (ix3 e r f)) k = ix2 r k from by funext a; match a with | ⟨0, _⟩ => rfl | ⟨1, _⟩ => rfl,
    show lidx_main_v19 (idx_main_v20 (ix3 e r f)) k = ix3 e k f from by funext a; match a with | ⟨0, _⟩ => rfl | ⟨1, _⟩ => rfl | ⟨2, _⟩ => rfl,
    ref_row x0 x1 x2 x4 x5 x6 n h1 h2]
  exact mul_comm _ _

/-- The reference's up projection. -/
theorem ref_up (e : Fin 8) (r : Fin 28672) (f : Fin 3584) : val_main_v23 x0 x1 x5 (ix3 e r f) = (argsOf x0 x1 x2 x4 x5 x6 n h1 h2).up e r f := by
  rw [val_main_v23_apply, val_main_v22_apply]
  refine Finset.sum_congr rfl fun k _ => ?_
  rw [show ridx_main_v22 (idx_main_v23 (ix3 e r f)) k = ix2 r k from by funext a; match a with | ⟨0, _⟩ => rfl | ⟨1, _⟩ => rfl,
    show lidx_main_v22 (idx_main_v23 (ix3 e r f)) k = ix3 e k f from by funext a; match a with | ⟨0, _⟩ => rfl | ⟨1, _⟩ => rfl | ⟨2, _⟩ => rfl,
    ref_row x0 x1 x2 x4 x5 x6 n h1 h2]
  exact mul_comm _ _

/-- The word of one is one. -/
theorem one_f32 : (FloatOps.ofBits .f32 0x3F800000#32 : Ideal .f32) = (1 : EReal) := by
  show Ideal.ofBits .f32 _ = _
  simp [Ideal.ofBits, Ideal.ieee, -EReal.coe_mul]
  norm_num

/-- The reference's hidden unit. -/
theorem ref_act (e : Fin 8) (r : Fin 28672) (f : Fin 3584) : val_main_v24 x0 x1 x4 x5 (ix3 e r f) = (argsOf x0 x1 x2 x4 x5 x6 n h1 h2).act e r f := by
  rw [val_main_v24_apply, val_main_v21_apply, val_main_call2_v5_apply, val_main_call2_v4_apply, val_main_call2_cst_0_apply, val_main_call2_v3_apply,
    val_main_call2_v2_apply, val_main_call2_cst_apply, val_main_call2_v1_apply, val_main_call2_v0_apply,
    ref_gate x0 x1 x2 x4 x5 x6 n h1 h2, ref_up x0 x1 x2 x4 x5 x6 n h1 h2, one_f32]
  rfl

/-- The reference's value of an expert at a row. -/
theorem ref_down (e : Fin 8) (r : Fin 28672) (d : Fin 1024) : val_main_v25 x0 x1 x4 x5 x6 (ix3 e r d) = (argsOf x0 x1 x2 x4 x5 x6 n h1 h2).down e r d := by
  rw [val_main_v25_apply]
  refine Finset.sum_congr rfl fun k _ => ?_
  rw [show lidx_main_v25 (ix3 e r d) k = ix3 e r k from by funext a; match a with | ⟨0, _⟩ => rfl | ⟨1, _⟩ => rfl | ⟨2, _⟩ => rfl,
    show ridx_main_v25 (ix3 e r d) k = ix3 e k d from by funext a; match a with | ⟨0, _⟩ => rfl | ⟨1, _⟩ => rfl | ⟨2, _⟩ => rfl,
    ref_act x0 x1 x2 x4 x5 x6 n h1 h2]
  rfl

/-- The reference's gate of an expert at a row: one on the tile's expert if the tile is in use, else zero. -/
theorem ref_sel (hn : n ≤ 56) (h3 : x3 = fun _ => BitVec.ofNat 32 n) (e : Fin 8) (r : Fin 28672) (d : Fin 1024) : val_main_v28 (F := Ideal) x2 x3 (ix3 e r d)
    = if (Args.tile r).val < n ∧ (argsOf x0 x1 x2 x4 x5 x6 n h1 h2).te (Args.tile r) = e then (1 : EReal) else 0 := by
  rw [val_main_v28_apply, val_main_v27_apply, val_main_v26_apply, val_main_v18_apply, val_main_call1_v1_apply, val_main_v16_apply, val_main_v15_apply,
    val_main_v14_apply, val_main_v13_apply, val_main_v10_apply, val_main_v12_apply, val_main_v17_apply, val_main_call0_v4_apply, val_main_call0_v2_apply,
    val_main_call0_v0_apply, val_main_v9_apply, val_main_v8_apply, val_main_call0_v3_apply, val_main_call0_v1_apply, val_main_call1_v2_apply,
    val_main_call1_v0_apply, val_main_cst_apply]
  have eN : ∀ i, val_main_v11 (F := Ideal) x3 i = BitVec.ofNat 32 n := fun i => by
    unfold val_main_v11 shapeCast
    rw [h3]
  have eX : x2 (idx_main_v8 (idx_main_v9 (idx_main_call0_v0 (idx_main_call0_v2 (idx_main_v26 (idx_main_v27 (idx_main_v28 (ix3 e r d)))))))) = x2 (ix1 (Args.tile r)) :=
    congrArg x2 (by funext a; match a with | ⟨0, _⟩ => rfl)
  rw [eN, eX]
  have a1 := lt_word (Args.tile r) n hn
  have a2 := eq_word (x2 (ix1 (Args.tile r))) (h2 _) e
  have b : Scalar.select (IntOp.cmpi .slt (BitVec.ofNat 32 (Args.tile r).val) (BitVec.ofNat 32 n))
      (FloatOps.uitofp (F := Ideal) .f32 (IntOp.cmpi .eq (x2 (ix1 (Args.tile r))) (BitVec.ofNat 32 e.val))) (FloatOps.ofBits .f32 0x00000000#32 : Ideal .f32)
      = if (Args.tile r).val < n ∧ (argsOf x0 x1 x2 x4 x5 x6 n h1 h2).te (Args.tile r) = e then (1 : EReal) else 0 := by
    rw [a1, a2]
    by_cases p : (Args.tile r).val < n
    · rw [if_pos p]
      by_cases q : (argsOf x0 x1 x2 x4 x5 x6 n h1 h2).te (Args.tile r) = e
      · rw [if_pos (And.intro p q)]
        have q' : (⟨((x2 : S56.Idx → BitVec 32) (ix1 (Args.tile r))).toNat, h2 _⟩ : Fin 8) = e := q
        rw [if_pos q']
        show ((((1#1 : BitVec 1).toNat : ℝ)) : EReal) = 1
        simp
      · rw [if_neg (not_and_of_not_right _ q)]
        have q' : ¬ (⟨((x2 : S56.Idx → BitVec 32) (ix1 (Args.tile r))).toNat, h2 _⟩ : Fin 8) = e := q
        rw [if_neg q']
        show ((((0#1 : BitVec 1).toNat : ℝ)) : EReal) = 0
        simp
    · rw [if_neg p, if_neg (not_and_of_not_left _ p)]
      exact Ideal.ofBits_zero_f32
  exact b

/-- The reference's result at a routed row. -/
theorem ref_res (hn : n ≤ 56) (h3 : x3 = fun _ => BitVec.ofNat 32 n) (r : Fin 28672) (d : Fin 1024) :
    val_main_v30 x0 x1 x2 x3 x4 x5 x6 (ix2 r d) = (argsOf x0 x1 x2 x4 x5 x6 n h1 h2).res r d := by
  rw [val_main_v30_apply, val_main_cst_1_apply]
  refine (congr (congrArg HAdd.hAdd (Ideal.ofBits_zero_f32)) rfl).trans ?_
  rw [zero_add]
  have t : ∀ e : Fin 8, val_main_v29 x0 x1 x2 x3 x4 x5 x6 (idx_main_v30 (ix2 r d) e)
      = (if (Args.tile r).val < n ∧ (argsOf x0 x1 x2 x4 x5 x6 n h1 h2).te (Args.tile r) = e then (1 : EReal) else 0) * (argsOf x0 x1 x2 x4 x5 x6 n h1 h2).down e r d := fun e => by
    rw [show idx_main_v30 (ix2 r d) e = ix3 e r d from by funext a; match a with | ⟨0, _⟩ => rfl | ⟨1, _⟩ => rfl | ⟨2, _⟩ => rfl,
      val_main_v29_apply, ref_sel x0 x1 x2 x3 x4 x5 x6 n h1 h2 hn h3, ref_down x0 x1 x2 x4 x5 x6 n h1 h2]
    rfl
  rw [Finset.sum_congr rfl fun e _ => t e]
  unfold Args.res
  by_cases p : (Args.tile r).val < n
  · rw [if_pos (show (Args.tile r).val < (argsOf x0 x1 x2 x4 x5 x6 n h1 h2).n from p),
      Finset.sum_eq_single ((argsOf x0 x1 x2 x4 x5 x6 n h1 h2).te (Args.tile r)) (fun e _ h => by rw [if_neg (fun q => h q.2.symm), zero_mul])
        (fun h => absurd (Finset.mem_univ _) h), if_pos ⟨p, rfl⟩, one_mul]
  · rw [if_neg (show ¬ (Args.tile r).val < (argsOf x0 x1 x2 x4 x5 x6 n h1 h2).n from p)]
    exact Finset.sum_eq_zero fun e _ => by rw [if_neg (fun q => p q.1), zero_mul]

/-- The reference's result at a place of its array. -/
theorem ref_out (hn : n ≤ 56) (h3 : x3 = fun _ => BitVec.ofNat 32 n) (q : Fin 229376) (l : Fin 128) :
    val_main_v31 x0 x1 x2 x3 x4 x5 x6 (ix2 q l) = (argsOf x0 x1 x2 x4 x5 x6 n h1 h2).res (⟨q.val / 8, by omega⟩ : Fin 28672) (⟨128 * (q.val % 8) + l.val, by omega⟩ : Fin 1024) := by
  rw [val_main_v31_apply, ← ref_res x0 x1 x2 x3 x4 x5 x6 n h1 h2 hn h3]
  refine congrArg (val_main_v30 x0 x1 x2 x3 x4 x5 x6) (funext fun a => Fin.ext ?_)
  match a with
  | ⟨0, _⟩ => show (q.val * 128 + l.val) / 1024 = q.val / 8; omega
  | ⟨1, _⟩ => show (q.val * 128 + l.val) % 1024 = 128 * (q.val % 8) + l.val; omega

end Ref

end Cert.MoeV
-- ==== Proof.MoeV.Claim.lean ====
/- The expert call against its reference: the equation of the two results and the claims about the pair. -/
module

public import proofs.«01_k».proof.Defs
public import proofs.«01_k».proof.Proof.MoeV.Value
public import proofs.«01_k».proof.Proof.MoeV.Ref
public import proofs.«01_k».proof.Proof.Gen.Pre_ranges

@[expose] public section

set_option maxRecDepth 16384

noncomputable section

namespace Cert.MoeV

open Idealize.ShloMosaic Idealize.ShloMosaic.TcCoe Idealize.SL.Sem

attribute [local instance] Cert.MoeIdeal.Gen.facts Cert.MoeReferenceIdeal.Gen.facts Cert.Pre_ranges.Gen.facts

/-- From memories agreeing on the arguments, the kernel's result array is the reference's. -/
theorem results_eq (m : (ℓ : Loc Cert.MoeIdeal.nD Cert.MoeIdeal.τ Cert.MoeIdeal.sig) → Buf (Elt Ideal) ℓ)
    (m' : (ℓ : Loc Cert.MoeReferenceIdeal.nD Cert.MoeReferenceIdeal.τ Cert.MoeReferenceIdeal.sig) → Buf (Elt Ideal) ℓ)
    (c : Dev Cert.MoeIdeal.nD) {n : ℕ} (R : Cert.MoeIdeal.V.Ranges m n)
    (h0 : m' (c.tc.loc Cert.MoeReferenceIdeal.main_arg0) = m (c.tc.loc Cert.MoeIdeal.main_arg0))
    (h1 : m' (c.tc.loc Cert.MoeReferenceIdeal.main_arg1) = m (c.tc.loc Cert.MoeIdeal.main_arg1))
    (h2 : m' (c.tc.loc Cert.MoeReferenceIdeal.main_arg2) = m (c.tc.loc Cert.MoeIdeal.main_arg2))
    (h3 : m' (c.tc.loc Cert.MoeReferenceIdeal.main_arg3) = m (c.tc.loc Cert.MoeIdeal.main_arg3))
    (h4 : m' (c.tc.loc Cert.MoeReferenceIdeal.main_arg4) = m (c.tc.loc Cert.MoeIdeal.main_arg4))
    (h5 : m' (c.tc.loc Cert.MoeReferenceIdeal.main_arg5) = m (c.tc.loc Cert.MoeIdeal.main_arg5))
    (h6 : m' (c.tc.loc Cert.MoeReferenceIdeal.main_arg6) = m (c.tc.loc Cert.MoeIdeal.main_arg6)) :
    Cert.MoeReferenceIdeal.Read.val_main_v31 (F := Ideal) (m' (c.tc.loc Cert.MoeReferenceIdeal.main_arg0)) (m' (c.tc.loc Cert.MoeReferenceIdeal.main_arg1)) (m' (c.tc.loc Cert.MoeReferenceIdeal.main_arg2)) (m' (c.tc.loc Cert.MoeReferenceIdeal.main_arg3)) (m' (c.tc.loc Cert.MoeReferenceIdeal.main_arg4)) (m' (c.tc.loc Cert.MoeReferenceIdeal.main_arg5)) (m' (c.tc.loc Cert.MoeReferenceIdeal.main_arg6)) = Cert.MoeIdeal.V.W R c := by
  rw [h0, h1, h2, h3, h4, h5, h6]
  funext i
  have hi : i = ix2 (i 0) (i 1) := by funext a; match a with | ⟨0, _⟩ => rfl | ⟨1, _⟩ => rfl
  rw [hi]
  exact ref_out _ _ _ _ _ _ _ n (R.src c) (R.te c) R.le (R.nv c) (i 0) (i 1)

/-- The idealized kernel's frame. -/
theorem frame_ki : Cert.quiescent_MoeIdeal := fun m ρ h => by
  obtain ⟨n, R⟩ := Cert.MoeIdeal.V.ranges_of m h
  exact Cert.MoeIdeal.V.frame_all ρ R

/-- The reference's frame. -/
theorem frame_r : Cert.quiescent_MoeReferenceIdeal := fun m ρ _ => by
  refine (θ_run _ _ _).mono (fun r h => ?_) (Cert.MoeReferenceIdeal.Value.run m ρ)
  exact ⟨fun c => (h c).2, sem_eq_zero_of_no_sems (by decide) _⟩

/-- The reference's frame, on the drawn ranges. -/
theorem frame_rp : Cert.quiescent_MoeReferenceIdeal_pre_ranges := fun m ρ _ => frame_r m ρ trivial

/-- The kernel computes the reference's result. -/
theorem algebraic : Cert.algebraic_MoeIdeal_MoeReferenceIdeal := fun m g m' g' hp hm => by
  obtain ⟨n, R⟩ := Cert.MoeIdeal.V.ranges_of m hp
  refine ⟨fun c => Cert.MoeIdeal.V.W R c, ?_, ?_⟩
  · exact Cert.MoeIdeal.V.result_all g R
  · refine (θ_run _ _ _).mono (fun r h c => ?_) (Cert.MoeReferenceIdeal.Value.run m' g')
    obtain ⟨h0, h1, h2, h3, h4, h5, h6⟩ := hm c
    exact ⟨((h c).1.trans (Cert.MoeReferenceIdeal.Read.val_main_v31_eq ..)).trans (results_eq m m' c R h0 h1 h2 h3 h4 h5 h6), (h c).2⟩

end Cert.MoeV
-- ==== Proof.MoeB.Claim.lean ====
/- The frame of the expert call before its idealization. -/
module

public import proofs.«01_k».proof.Defs
public import proofs.«01_k».proof.Proof.MoeB.Launch
public import proofs.«01_k».proof.Proof.Gen.Pre_ranges

@[expose] public section

noncomputable section

namespace Cert.MoeV

open Idealize.ShloMosaic Idealize.ShloMosaic.TcCoe Idealize.SL.Sem

attribute [local instance] Cert.Moe.Gen.facts Cert.Pre_ranges.Gen.facts

/-- The kernel's frame. -/
theorem frame_k : Cert.quiescent_Moe := fun m ρ h => by
  obtain ⟨n, R⟩ := Cert.Moe.V.ranges_of m h
  exact Cert.Moe.V.frame_all ρ R

end Cert.MoeV
-- ==== Proof.ProjV.Spec.lean ====
/- The normalised, modulated and projected row, written once: what both projection programs are shown to compute. -/
module

public import proofs.«01_k».proof.Proof.FfnV.Spec

@[expose] public section

noncomputable section

namespace Cert.ProjV

open Idealize.ShloMosaic

/-- The four arguments, read by their coordinates. -/
structure Args where
  /-- the rows of the residual stream -/
  x : Fin 12288 → Fin 1024 → EReal
  /-- the eight modulation rows of each of the three groups of 4096 rows -/
  md : Fin 3 → Fin 8 → Fin 1024 → EReal
  /-- the gain of the norm -/
  g : Fin 1024 → EReal
  /-- the weights of the queries, keys and values, side by side -/
  w : Fin 1024 → Fin 3072 → EReal

namespace Args

variable (A : Args)

/-- The normalised and modulated row. -/
def hid (r : Fin 12288) (k : Fin 1024) : EReal :=
  A.x r k * FfnV.rinv (A.x r) * A.g k * (1 + A.md (FfnV.Args.grp r) 1 k) + A.md (FfnV.Args.grp r) 0 k

/-- The projected row. -/
def proj (r : Fin 12288) (n : Fin 3072) : EReal := ∑ k, A.hid r k * A.w k n

end Args

/-- The row at place `a` of row block `b`. -/
def row (b : Fin 24) (a : Fin 512) : Fin 12288 := ⟨b.val * 512 + a.val, by omega⟩

/-- The column at place `n` of column block `j`. -/
def col (j : Fin 6) (n : Fin 512) : Fin 3072 := ⟨j.val * 512 + n.val, by omega⟩

/-- The row that group `b` and place `s` name. -/
def rowOf (b : Fin 3) (s : Fin 4096) : Fin 12288 := ⟨b.val * 4096 + s.val, by omega⟩

/-- That row lies in group `b`. -/
theorem grp_rowOf (b : Fin 3) (s : Fin 4096) : FfnV.Args.grp (rowOf b s) = b :=
  Fin.ext (show (b.val * 4096 + s.val) / 4096 = b.val by omega)

end Cert.ProjV
-- ==== Proof.ProjV.Block.lean ====
/- What the projection kernel leaves in its result array: at every row, the projected row of `Spec.lean`. -/
module

public import proofs.«01_k».proof.Proof.ProjV.Spec
public import proofs.«01_k».proof.Proof.Gen.ProjIdeal.Value
public import Idealize.ShloMosaic.Lib.Pointwise
public import Idealize.ShloMosaic.Lib.Claim
public import Idealize.ShloMosaic.Lib.Pipeline.ValueKit
public import Idealize.ShloMosaic.Lib.Pipeline.ReadBack

@[expose] public section

set_option maxRecDepth 16384

noncomputable section

namespace Cert.ProjV

open Cert.ProjIdeal Cert.ProjIdeal.Gen Idealize.ShloMosaic Idealize.ShloMosaic.TcCoe Idealize.SL.Sem

variable (m : (ℓ : Loc nD τ sig) → Buf (Elt Ideal) ℓ)

/-- The scratch after a row block's first point: the modulated rows. -/
theorem sc_first (c : Dev nD) (t : Fin cfg0.N) (h0 : t.val % 6 = 0) :
    (outsAt0 m c t.val t.isLt).2 = k0_pay1 (iblk m c 0 t) (iblk m c 1 t) (iblk m c 2 t) := by
  rw [outsAt0_A m c t h0]
  frame_out

/-- The scratch after a later point is what the point before left. -/
theorem sc_later (c : Dev nD) (t : Fin cfg0.N) (h0 : ¬t.val % 6 = 0) :
    (outsAt0 m c t.val t.isLt).2 = (outsAt0 m c (t.val - 1) (Nat.lt_of_le_of_lt (Nat.sub_le _ _) t.isLt)).2 := by
  rw [outsAt0_B m c t h0]
  rfl

/-- The output block after any point: the products of the scratch it leaves with the point's weights. -/
theorem out_any (c : Dev nD) (t : Fin cfg0.N) :
    (outsAt0 m c t.val t.isLt).1 = k0_pay2 (outsAt0 m c t.val t.isLt).2 (iblk m c 3 t) := by
  by_cases h0 : t.val % 6 = 0
  · rw [sc_first m c t h0, outsAt0_A m c t h0]
    frame_out
  · rw [sc_later m c t h0, outsAt0_B m c t h0]
    frame_out
    simp only [read_unread_whole]

/-- The printed index maps, decided over the grid: the block of each window at a point. -/
theorem idx_all : ∀ t : Fin cfg0.N, win0_0.index t (0 : Fin 2) = t.val / 6 ∧ win0_0.index t (1 : Fin 2) = 0
    ∧ win0_1.index t (0 : Fin 3) = t.val / 48 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 6 :=
  (by decide +kernel : ∀ t : Fin grid0.N, _)

/-- The argument arrays, read by their coordinates. -/
def kargs (c : Dev nD) : Args where
  x r k := m (c.tc.loc main_arg0) (ix2 r k)
  md b j k := m (c.tc.loc main_arg1) (ix3 b j k)
  g k := m (c.tc.loc main_arg2) (ix2 0 k)
  w k n := m (c.tc.loc main_arg3) (ix2 k n)

/-- The point of row block `b` and column block `j`. -/
def pt (b : Fin 24) (j : Fin 6) : Fin cfg0.N := ⟨6 * b.val + j.val, lt_of_lt_of_eq (by omega) N_0.symm⟩

variable (c : Dev nD) (b : Fin 24) (j : Fin 6)

/-- The block of rows. -/
theorem blk0 (a : Fin 512) (k : Fin 1024) :
    (iblk m c 0 (pt b j) : Vec Ideal S512x1024 .f32) (ix2 a k) = (kargs m c).x (row b a) k := by
  obtain ⟨e0, e1, -⟩ := idx_all (pt b j)
  have : (pt b j).val / 6 = b.val := by show (6 * b.val + j.val) / 6 = b.val; omega
  unfold kargs row
  dsimp only
  blk_ext [iblk, V]
  all_goals omega

/-- The block of modulation rows. -/
theorem blk1 (a : Fin 512) (i : Fin 8) (k : Fin 1024) :
    (iblk m c 1 (pt b j) : Vec Ideal S1x8x1024 .f32) (ix3 0 i k) = (kargs m c).md (FfnV.Args.grp (row b a)) i k := by
  obtain ⟨-, -, e0, e1, e2, -⟩ := idx_all (pt b j)
  have : (pt b j).val / 48 = (b.val * 512 + a.val) / 4096 := by show (6 * b.val + j.val) / 48 = _; omega
  unfold kargs row FfnV.Args.grp
  dsimp only
  blk_ext [iblk, V]
  all_goals omega

/-- The gain of the norm. -/
theorem blk2 (k : Fin 1024) : (iblk m c 2 (pt b j) : Vec Ideal S1x1024 .f32) (ix2 0 k) = (kargs m c).g k := by
  obtain ⟨-, -, -, -, -, e0, e1, -⟩ := idx_all (pt b j)
  unfold kargs
  dsimp only
  blk_ext [iblk, V]
  all_goals omega

/-- The block of weights. -/
theorem blk3 (k : Fin 1024) (n : Fin 512) :
    (iblk m c 3 (pt b j) : Vec Ideal S1024x512 .bf16) (ix2 k n) = (kargs m c).w k (col j n) := by
  obtain ⟨-, -, -, -, -, -, -, e0, e1⟩ := idx_all (pt b j)
  have : (pt b j).val % 6 = j.val := by show (6 * b.val + j.val) % 6 = j.val; omega
  unfold kargs col
  dsimp only
  blk_ext [iblk, V]
  all_goals omega

/-- What the first point computes for the scratch: the modulated rows. -/
theorem hid_apply (a : Fin 512) (k : Fin 1024) :
    k0_pay1 (iblk m c 0 (pt b j)) (iblk m c 1 (pt b j)) (iblk m c 2 (pt b j)) (ix2 a k) = (kargs m c).hid (row b a) k := by
  have e0 := blk0 m c b j a
  have e1 := fun i k => blk1 m c b j a i k
  have e2 := blk2 m c b j
  generalize iblk m c 0 (pt b j) = X at *
  generalize iblk m c 1 (pt b j) = M at *
  generalize iblk m c 2 (pt b j) = G at *
  pointwise [k0_pay1]
  simp only [e0, e1, e2]
  rfl

/-- The scratch at every point of a row block: its modulated rows. -/
theorem sc_apply (a : Fin 512) (k : Fin 1024) : ∀ (i : ℕ) (hi : i < 6),
    (outsAt0 m c (pt b ⟨i, hi⟩).val (pt b ⟨i, hi⟩).isLt).2 (ix2 a k) = (kargs m c).hid (row b a) k
  | 0, hi => by
    rw [sc_first m c _ (by show (6 * b.val + 0) % 6 = 0; omega)]
    exact hid_apply m c b ⟨0, hi⟩ a k
  | i + 1, hi => by
    rw [sc_later m c _ (by show ¬(6 * b.val + (i + 1)) % 6 = 0; omega)]
    exact sc_apply a k i (by omega)

/-- One point's products. -/
theorem step_apply (H : Vec Ideal S512x1024 .bf16) (a n : Fin 512) (hH : ∀ k, H (ix2 a k) = (kargs m c).hid (row b a) k) :
    k0_pay2 H (iblk m c 3 (pt b j)) (ix2 a n) = (kargs m c).proj (row b a) (col j n) := by
  have e3 := blk3 m c b j
  generalize iblk m c 3 (pt b j) = X at *
  pointwise [k0_pay2]
  simp only [hH, e3]
  rfl

/-- The block written back at a point. -/
theorem out_apply (a n : Fin 512) :
    (outsAt0 m c (pt b j).val (pt b j).isLt).1 (ix2 a n) = (kargs m c).proj (row b a) (col j n) := by
  rw [out_any]
  exact step_apply m c b j _ a n fun k => sc_apply m c b a k j.val j.isLt

/-- The result array: every element is the projected row's. -/
theorem G4_apply (r : Fin 12288) (n : Fin 3072) : Cert.ProjIdeal.Value.G4 m c (ix2 r n) = (kargs m c).proj r n := by
  have hp : Cert.ProjIdeal.Value.pt4Of (ix2 r n) = (pt ⟨r.val / 512, by omega⟩ ⟨n.val / 512, by omega⟩).val := by
    show 6 * (r.val / 512 - 0) + 1 * (n.val / 512 - 0) = 6 * (r.val / 512) + n.val / 512
    omega
  have hl : Cert.ProjIdeal.Value.loc4Of (ix2 r n) = ix2 ⟨r.val % 512, by omega⟩ ⟨n.val % 512, by omega⟩ := by
    funext a
    match a with
    | ⟨0, _⟩ => rfl
    | ⟨1, _⟩ => rfl
  unfold Cert.ProjIdeal.Value.G4
  rw [dif_pos (lt_of_eq_of_lt hp (pt _ _).isLt), hl, Cert.ProjIdeal.Value.fold0_congr m c _ _ _ (by have := (pt ⟨r.val / 512, by omega⟩ ⟨n.val / 512, by omega⟩).isLt; omega) hp,
    ← Cert.ProjIdeal.Value.outsAt0_sweep m c _ (pt _ _).isLt, out_apply]
  congr 1
  · exact Fin.ext (show r.val / 512 * 512 + r.val % 512 = r.val by omega)
  · exact Fin.ext (show n.val / 512 * 512 + n.val % 512 = n.val by omega)

end Cert.ProjV
-- ==== Proof.ProjV.Ref.lean ====
/- The plain reference of the projection, read at an index. -/
module

public import proofs.«01_k».proof.Proof.ProjV.Spec
public import proofs.«01_k».proof.Proof.Gen.ProjReferenceIdeal.Read

@[expose] public section

set_option maxRecDepth 16384

noncomputable section

namespace Cert.ProjV

open Cert.ProjReferenceIdeal Cert.ProjReferenceIdeal.Gen Cert.ProjReferenceIdeal.Read Idealize.ShloMosaic Idealize.ShloMosaic.TcCoe Idealize.SL.Sem

variable (x0 : (⟨S12288x1024, .f32⟩ : BufTy).Contents (Elt Ideal)) (x1 : (⟨S3x8x1024, .f32⟩ : BufTy).Contents (Elt Ideal))
  (x2 : (⟨S1x1024, .f32⟩ : BufTy).Contents (Elt Ideal)) (x3 : (⟨S1024x3072, .f32⟩ : BufTy).Contents (Elt Ideal))

/-- The argument arrays, read by their coordinates. -/
def argsOf : Args where
  x r k := x0 (ix2 r k)
  md b j k := x1 (ix3 b j k)
  g k := x2 (ix2 0 k)
  w k n := x3 (ix2 k n)

/-- The reference's modulated row. -/
theorem ref_hid (b : Fin 3) (s : Fin 4096) (k : Fin 1024) :
    val_main_v21 x0 x1 x2 (ix3 b s k) = (argsOf x0 x1 x2 x3).hid (rowOf b s) k := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold Args.hid
  rw [grp_rowOf]
  rfl

/-- The reference's projected row before its rows are laid out flat. -/
theorem ref_proj (b : Fin 3) (s : Fin 4096) (n : Fin 3072) :
    val_main_v22 x0 x1 x2 x3 (ix3 b s n) = (argsOf x0 x1 x2 x3).proj (rowOf b s) n := by
  pointwise [val_main_v22]
  simp only [ref_hid x0 x1 x2 x3]
  rfl

/-- The reference's result at row `r`. -/
theorem ref_out (r : Fin 12288) (n : Fin 3072) :
    val_main_v23 x0 x1 x2 x3 (ix2 r n) = (argsOf x0 x1 x2 x3).proj r n := by
  pointwise [val_main_v23]
  rw [ref_proj]
  congr 1
  apply Fin.ext
  show r.val / 4096 * 4096 + r.val % 4096 = r.val
  omega

end Cert.ProjV
-- ==== Proof.ProjV.Claim.lean ====
/- The projection kernel against its reference: the equation of the two results and the claims about the pair. -/
module

public import proofs.«01_k».proof.Defs
public import proofs.«01_k».proof.Proof.ProjV.Block
public import proofs.«01_k».proof.Proof.ProjV.Ref
public import proofs.«01_k».proof.Proof.Gen.Proj.Frame
public import proofs.«01_k».proof.Proof.Gen.ProjIdeal
public import proofs.«01_k».proof.Proof.Gen.ProjReferenceIdeal

@[expose] public section

set_option maxRecDepth 16384

noncomputable section

namespace Cert.ProjV

open Idealize.ShloMosaic Idealize.ShloMosaic.TcCoe Idealize.SL.Sem

attribute [local instance] Cert.Proj.Gen.facts Cert.ProjIdeal.Gen.facts Cert.ProjReferenceIdeal.Gen.facts

/-- From memories agreeing on the arguments, the kernel's result array is the reference's. -/
theorem results_eq (m : (ℓ : Loc Cert.ProjIdeal.nD Cert.ProjIdeal.τ Cert.ProjIdeal.sig) → Buf (Elt Ideal) ℓ)
    (m' : (ℓ : Loc Cert.ProjReferenceIdeal.nD Cert.ProjReferenceIdeal.τ Cert.ProjReferenceIdeal.sig) → Buf (Elt Ideal) ℓ)
    (c : Dev Cert.ProjIdeal.nD)
    (h0 : m' (c.tc.loc Cert.ProjReferenceIdeal.main_arg0) = m (c.tc.loc Cert.ProjIdeal.main_arg0))
    (h1 : m' (c.tc.loc Cert.ProjReferenceIdeal.main_arg1) = m (c.tc.loc Cert.ProjIdeal.main_arg1))
    (h2 : m' (c.tc.loc Cert.ProjReferenceIdeal.main_arg2) = m (c.tc.loc Cert.ProjIdeal.main_arg2))
    (h3 : m' (c.tc.loc Cert.ProjReferenceIdeal.main_arg3) = m (c.tc.loc Cert.ProjIdeal.main_arg3)) :
    Cert.ProjReferenceIdeal.Read.val_main_v23 (m' (c.tc.loc Cert.ProjReferenceIdeal.main_arg0)) (m' (c.tc.loc Cert.ProjReferenceIdeal.main_arg1))
        (m' (c.tc.loc Cert.ProjReferenceIdeal.main_arg2)) (m' (c.tc.loc Cert.ProjReferenceIdeal.main_arg3)) = Cert.ProjIdeal.Value.G4 m c := by
  rw [h0, h1, h2, h3]
  funext i
  have hi : i = ix2 (i 0) (i 1) := by funext a; match a with | ⟨0, _⟩ => rfl | ⟨1, _⟩ => rfl
  rw [hi]
  exact (ref_out ..).trans (G4_apply m c (i 0) (i 1)).symm

/-- The kernel's frame. -/
theorem frame_k : Cert.quiescent_Proj := fun m ρ _ => Cert.Proj.Gen.frame m ρ

/-- The idealized kernel's frame. -/
theorem frame_ki : Cert.quiescent_ProjIdeal := fun m ρ _ => Cert.ProjIdeal.Gen.frame m ρ

/-- The reference's frame. -/
theorem frame_r : Cert.quiescent_ProjReferenceIdeal := fun m ρ _ => by
  refine (θ_run _ _ _).mono (fun r h => ?_) (Cert.ProjReferenceIdeal.Value.run m ρ)
  exact ⟨fun c => (h c).2, sem_eq_zero_of_no_sems (by decide) _⟩

/-- The kernel computes the reference's result. -/
theorem algebraic : Cert.algebraic_ProjIdeal_ProjReferenceIdeal := fun m g m' g' _ hm => by
  refine ⟨fun c => Cert.ProjIdeal.Value.G4 m c, Cert.ProjIdeal.Value.run m g, ?_⟩
  refine (θ_run _ _ _).mono (fun r h c => ?_) (Cert.ProjReferenceIdeal.Value.run m' g')
  obtain ⟨h0, h1, h2, h3⟩ := hm c
  exact ⟨(h c).1.trans (results_eq m m' c h0 h1 h2 h3), (h c).2⟩

end Cert.ProjV
-- ==== Proof.RopeV.Spec.lean ====
/- The projected row with rotated queries and keys, written once: what both programs are shown to compute. -/
module

public import proofs.«01_k».proof.Proof.ProjV.Spec

@[expose] public section

noncomputable section

namespace Cert.RopeV

open Idealize.ShloMosaic

/-- A row turned by a quarter inside each group of 32 columns: the upper half negated to the lower, the lower to the upper. -/
def turn (y : Fin 3072 → EReal) (n : Fin 3072) : EReal :=
  if h : n.val % 32 < 16 then -y ⟨n.val + 16, by omega⟩ else y ⟨n.val - 16, by omega⟩

/-- The angle tables' place of a row of the sequences. -/
def place (r : Fin 12288) : Fin 4096 := ⟨r.val % 4096, by omega⟩

/-- The angle tables' lane of a column. -/
def lane (n : Fin 3072) : Fin 64 := ⟨n.val % 64, by omega⟩

/-- The result: the projected row, and where the row is a latent token and the column a query's or key's, its rotation by the angles. -/
def res (A : ProjV.Args) (cos sin : Fin 4096 → Fin 64 → EReal) (r : Fin 12288) (n : Fin 3072) : EReal :=
  if r.val < 4096 ∨ 2048 ≤ n.val then A.proj r n
  else A.proj r n * cos (place r) (lane n) + turn (A.proj r) n * sin (place r) (lane n)

end Cert.RopeV
-- ==== Proof.RopeV.Tab.lean ====
/- The angle tables that the region reads, made by the host from the cosines and sines. -/
module

public import proofs.«01_k».proof.Proof.RopeV.Spec
public import proofs.«01_k».proof.Proof.Gen.RopeIdeal.Value
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 200000

noncomputable section

namespace Cert.RopeV

open Cert.RopeIdeal Cert.RopeIdeal.Gen Idealize.ShloMosaic Idealize.ShloMosaic.TcCoe Idealize.SL.Sem

variable (m : (ℓ : Loc nD τ sig) → Buf (Elt Ideal) ℓ) (c : Dev nD)

/-- The cosines, by place and lane. -/
def cosOf (s : Fin 4096) (d : Fin 64) : EReal := m (c.tc.loc main_arg4) (ix2 s d)

/-- The sines, by place and lane. -/
def sinOf (s : Fin 4096) (d : Fin 64) : EReal := m (c.tc.loc main_arg5) (ix2 s d)

/-- The mask of the lower half of a group of 32 lanes. -/
theorem low_lane : ∀ d : Fin 64, lit0 d = BitVec.ofBool (decide (d.val % 32 < 16)) := by decide +kernel

/-- A choice by that mask. -/
theorem select_lane (l : Fin 128) (h : l.val % 64 < 64) (a b : EReal) :
    Scalar.select (lit0 (S64.rowMajor (ix1 ⟨l.val % 64, h⟩))) a b = if l.val % 32 < 16 then a else b := by
  have e : S64.rowMajor (ix1 (⟨l.val % 64, h⟩ : Fin 64)) = (⟨l.val % 64, h⟩ : Fin 64) :=
    Fin.ext (Shape.rowMajor_val_one _)
  rw [e, low_lane]
  unfold Scalar.select
  by_cases q : l.val % 32 < 16
  · have : (l.val % 64) % 32 < 16 := by omega
    simp [q, this]
  · have : ¬(l.val % 64) % 32 < 16 := by omega
    simp [q, this]

/-- The constant that fills the other half. -/
theorem fill_zero : (id (constant (F := Ideal) S_ .f32 0#32)) ix0 = (0 : EReal) := by
  show constant (F := Ideal) S_ .f32 0#32 ix0 = (0 : EReal)
  pointwise

/-- The place of a row of the two text groups. -/
theorem place_eq (r : Fin 12288) (h : ¬r.val < 4096) (h' : (r.val - 4096) % 4096 < 4096) : (⟨(r.val - 4096) % 4096, h'⟩ : Fin 4096) = place r :=
  Fin.ext (by show (r.val - 4096) % 4096 = r.val % 4096; omega)

/-- The factors of the row itself. -/
theorem tab_cos (r : Fin 12288) (l : Fin 128) : (V m c main_v9 : Vec Ideal S12288x128 .f32) (ix2 r l)
    = if r.val < 4096 then 1 else cosOf m c (place r) ⟨l.val % 64, by omega⟩ := by
  unfold V
  after_reads_at
  split
  · rfl
  · rename_i h
    exact congrArg (fun s => (m (c.tc.loc main_arg4) (ix2 s ⟨l.val % 64, by omega⟩) : EReal)) (place_eq r h (by omega))

/-- The factors of the row shifted down. -/
theorem tab_up (r : Fin 12288) (l : Fin 128) : (V m c main_v14 : Vec Ideal S12288x128 .f32) (ix2 r l)
    = if r.val < 4096 then 0 else if l.val % 32 < 16 then -sinOf m c (place r) ⟨l.val % 64, by omega⟩ else 0 := by
  unfold V
  after_reads_at
  split
  · rfl
  · rename_i h
    refine (select_lane l (by omega) _ _).trans (if_congr Iff.rfl ?_ fill_zero)
    exact congrArg (fun s => -sinOf m c s ⟨l.val % 64, by omega⟩) (place_eq r h (by omega))

/-- The factors of the row shifted up. -/
theorem tab_dn (r : Fin 12288) (l : Fin 128) : (V m c main_v19 : Vec Ideal S12288x128 .f32) (ix2 r l)
    = if r.val < 4096 then 0 else if l.val % 32 < 16 then 0 else sinOf m c (place r) ⟨l.val % 64, by omega⟩ := by
  unfold V
  after_reads_at
  split
  · rfl
  · rename_i h
    refine (select_lane l (by omega) _ _).trans (if_congr Iff.rfl fill_zero ?_)
    exact congrArg (fun s => (m (c.tc.loc main_arg5) (ix2 s ⟨l.val % 64, by omega⟩) : EReal)) (place_eq r h (by omega))

end Cert.RopeV
-- ==== Proof.RopeV.Mix.lean ====
/- What one point of the rotated projection stores, column group by column group. -/
module

public import proofs.«01_k».proof.Proof.RopeV.Spec
public import proofs.«01_k».proof.Proof.Gen.RopeIdeal.Value
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.RopeV

open Cert.RopeIdeal Cert.RopeIdeal.Gen Idealize.ShloMosaic Idealize.ShloMosaic.TcCoe Idealize.SL.Sem

variable (Y : FVec Ideal S512x512 .f32) (C U D : Vec Ideal S512x128 .f32)

/-- One rotated value of column group `s`: the value, and its two neighbours sixteen lanes off, each with its factor. -/
def mixAt (a : Fin 512) (s : Fin 4) (l : Fin 128) : EReal :=
  Y (ix2 a ⟨s.val * 128 + l.val, by omega⟩) * C (ix2 a l) + Y (ix2 a ⟨s.val * 128 + (l.val + 16) % 128, by omega⟩) * U (ix2 a l)
    + Y (ix2 a ⟨s.val * 128 + (l.val + 112) % 128, by omega⟩) * D (ix2 a l)

/-- The stored block, by its own index. -/
def mixed : Vec Ideal S512x512 .f32 := fun y => mixAt Y C U D (y 0) ⟨(y 1).val / 128, by have : (y 1).val < 512 := (y 1).isLt; omega⟩ ⟨(y 1).val % 128, by omega⟩

/-- The first column group. -/
theorem pay7_apply (a : Fin 512) (l : Fin 128) : k0_pay7 Y C U D (ix2 a l) = mixAt Y C U D a 0 l := by
  pointwise [k0_pay7, k0_pay4, k0_pay5, k0_pay6]
  unfold mixAt
  refine congrArg₂ (· + ·) (congrArg₂ (· + ·) (congrArg (fun z => Y (ix2 a z) * C (ix2 a l)) (Fin.ext ?_)) (congrArg (fun z => Y (ix2 a z) * U (ix2 a l)) (Fin.ext ?_)))
    (congrArg (fun z => Y (ix2 a z) * D (ix2 a l)) (Fin.ext ?_))
  · show l.val = 0 * 128 + l.val; omega
  · show (l.val + 128 - 112) % 128 = 0 * 128 + (l.val + 16) % 128; omega
  · show (l.val + 128 - 16) % 128 = 0 * 128 + (l.val + 112) % 128; omega

/-- The second column group. -/
theorem pay8_apply (a : Fin 512) (l : Fin 128) : k0_pay8 Y C U D (ix2 a l) = mixAt Y C U D a 1 l := by
  pointwise [k0_pay8, k0_pay4, k0_pay5, k0_pay6]
  unfold mixAt
  refine congrArg₂ (· + ·) (congrArg₂ (· + ·) (congrArg (fun z => Y (ix2 a z) * C (ix2 a l)) (Fin.ext ?_)) (congrArg (fun z => Y (ix2 a z) * U (ix2 a l)) (Fin.ext ?_)))
    (congrArg (fun z => Y (ix2 a z) * D (ix2 a l)) (Fin.ext ?_))
  · show 128 + l.val = 1 * 128 + l.val; omega
  · show 128 + (l.val + 128 - 112) % 128 = 1 * 128 + (l.val + 16) % 128; omega
  · show 128 + (l.val + 128 - 16) % 128 = 1 * 128 + (l.val + 112) % 128; omega

/-- The third column group. -/
theorem pay9_apply (a : Fin 512) (l : Fin 128) : k0_pay9 Y C U D (ix2 a l) = mixAt Y C U D a 2 l := by
  pointwise [k0_pay9, k0_pay4, k0_pay5, k0_pay6]
  unfold mixAt
  refine congrArg₂ (· + ·) (congrArg₂ (· + ·) (congrArg (fun z => Y (ix2 a z) * C (ix2 a l)) (Fin.ext ?_)) (congrArg (fun z => Y (ix2 a z) * U (ix2 a l)) (Fin.ext ?_)))
    (congrArg (fun z => Y (ix2 a z) * D (ix2 a l)) (Fin.ext ?_))
  · show 256 + l.val = 2 * 128 + l.val; omega
  · show 256 + (l.val + 128 - 112) % 128 = 2 * 128 + (l.val + 16) % 128; omega
  · show 256 + (l.val + 128 - 16) % 128 = 2 * 128 + (l.val + 112) % 128; omega

/-- The fourth column group. -/
theorem pay3_apply (a : Fin 512) (l : Fin 128) : k0_pay3 (k0_pay6 D) (k0_pay10 Y) (k0_pay11 Y C U) (ix2 a l) = mixAt Y C U D a 3 l := by
  pointwise [k0_pay3, k0_pay10, k0_pay11, k0_pay4, k0_pay5, k0_pay6]
  unfold mixAt
  refine congrArg₂ (· + ·) (congrArg₂ (· + ·) (congrArg (fun z => Y (ix2 a z) * C (ix2 a l)) (Fin.ext ?_)) (congrArg (fun z => Y (ix2 a z) * U (ix2 a l)) (Fin.ext ?_)))
    (congrArg (fun z => Y (ix2 a z) * D (ix2 a l)) (Fin.ext ?_))
  · show 384 + l.val = 3 * 128 + l.val; omega
  · show 384 + (l.val + 128 - 112) % 128 = 3 * 128 + (l.val + 16) % 128; omega
  · show 384 + (l.val + 128 - 16) % 128 = 3 * 128 + (l.val + 112) % 128; omega

/-- An element of the stored block, by its column group and the lane in it. -/
theorem mixed_at (y : S512x512.Idx) (a : Fin 512) (s : Fin 4) (l : Fin 128) (h0 : (y 0).val = a.val) (h1 : (y 1).val = s.val * 128 + l.val) :
    mixed Y C U D y = mixAt Y C U D a s l := by
  unfold mixed
  congr 1
  · exact Fin.ext h0
  · exact Fin.ext (show (y 1).val / 128 = s.val by omega)
  · exact Fin.ext (show (y 1).val % 128 = l.val by omega)

/-- The four stores of a rotated block leave that block. -/
theorem mix_canon (y : S512x512.Idx) :
    View.canon (Val := Elt Ideal) (e := .f32) [⟨Rect.unit ![0, 384] ![512, 128] inb_S512x512_S512x128_0_384, k0_pay3 (k0_pay6 D) (k0_pay10 Y) (k0_pay11 Y C U)⟩,
        ⟨Rect.unit ![0, 256] ![512, 128] inb_S512x512_S512x128_0_256, k0_pay9 Y C U D⟩,
        ⟨Rect.unit ![0, 128] ![512, 128] inb_S512x512_S512x128_0_128, k0_pay8 Y C U D⟩,
        ⟨Rect.unit ![0, 0] ![512, 128] inb_S512x512_S512x128_0_0, k0_pay7 Y C U D⟩] y = mixed Y C U D y := by
  refine View.canon_apply_of_pieces (mixed Y C U D) _ (View.PiecesOf.mem ?_) y ?_
  on_goal 1 => refine ⟨fun x => ?_, fun x => ?_, fun x => ?_, fun x => ?_, trivial⟩
  · refine ((congrArg (k0_pay3 (k0_pay6 D) (k0_pay10 Y) (k0_pay11 Y C U)) (ix2_eta x).symm).trans (pay3_apply Y C U D (x 0) (x 1))).trans (mixed_at Y C U D _ (x 0) 3 (x 1) ?_ ?_).symm
    · show 0 + 1 * (x 0).val = (x 0).val; omega
    · show 384 + 1 * (x 1).val = 3 * 128 + (x 1).val; omega
  · refine ((congrArg (k0_pay9 Y C U D) (ix2_eta x).symm).trans (pay9_apply Y C U D (x 0) (x 1))).trans (mixed_at Y C U D _ (x 0) 2 (x 1) ?_ ?_).symm
    · show 0 + 1 * (x 0).val = (x 0).val; omega
    · show 256 + 1 * (x 1).val = 2 * 128 + (x 1).val; omega
  · refine ((congrArg (k0_pay8 Y C U D) (ix2_eta x).symm).trans (pay8_apply Y C U D (x 0) (x 1))).trans (mixed_at Y C U D _ (x 0) 1 (x 1) ?_ ?_).symm
    · show 0 + 1 * (x 0).val = (x 0).val; omega
    · show 128 + 1 * (x 1).val = 1 * 128 + (x 1).val; omega
  · refine ((congrArg (k0_pay7 Y C U D) (ix2_eta x).symm).trans (pay7_apply Y C U D (x 0) (x 1))).trans (mixed_at Y C U D _ (x 0) 0 (x 1) ?_ ?_).symm
    · show 0 + 1 * (x 0).val = (x 0).val; omega
    · show 0 + 1 * (x 1).val = 0 * 128 + (x 1).val; omega
  · have l0 : (y 0).val < 512 := (y 0).isLt
    have l1 : (y 1).val < 512 := (y 1).isLt
    obtain h | h | h | h : (y 1).val < 128 ∨ (128 ≤ (y 1).val ∧ (y 1).val < 256) ∨ (256 ≤ (y 1).val ∧ (y 1).val < 384) ∨ 384 ≤ (y 1).val := by omega
    · refine ⟨_, (List.mem_cons_of_mem _ (List.mem_cons_of_mem _ (List.mem_cons_of_mem _ List.mem_cons_self))), ?_⟩
      rw [Rect.mem_set_unit]
      intro a
      match a with
      | ⟨0, _⟩ => show 0 ≤ (y 0).val ∧ (y 0).val < 0 + 512; omega
      | ⟨1, _⟩ => show 0 ≤ (y 1).val ∧ (y 1).val < 0 + 128; omega
    · refine ⟨_, (List.mem_cons_of_mem _ (List.mem_cons_of_mem _ List.mem_cons_self)), ?_⟩
      rw [Rect.mem_set_unit]
      intro a
      match a with
      | ⟨0, _⟩ => show 0 ≤ (y 0).val ∧ (y 0).val < 0 + 512; omega
      | ⟨1, _⟩ => show 128 ≤ (y 1).val ∧ (y 1).val < 128 + 128; omega
    · refine ⟨_, (List.mem_cons_of_mem _ List.mem_cons_self), ?_⟩
      rw [Rect.mem_set_unit]
      intro a
      match a with
      | ⟨0, _⟩ => show 0 ≤ (y 0).val ∧ (y 0).val < 0 + 512; omega
      | ⟨1, _⟩ => show 256 ≤ (y 1).val ∧ (y 1).val < 256 + 128; omega
    · refine ⟨_, List.mem_cons_self, ?_⟩
      rw [Rect.mem_set_unit]
      intro a
      match a with
      | ⟨0, _⟩ => show 0 ≤ (y 0).val ∧ (y 0).val < 0 + 512; omega
      | ⟨1, _⟩ => show 384 ≤ (y 1).val ∧ (y 1).val < 384 + 128; omega

variable (m : (ℓ : Loc nD τ sig) → Buf (Elt Ideal) ℓ) (c : Dev nD)

/-- The scratch after a row block's first point: the modulated rows. -/
theorem sc_first (t : Fin cfg0.N) (h0 : t.val % 6 = 0) :
    (outsAt0 m c t.val t.isLt).2 = k0_pay1 (iblk m c 0 t) (iblk m c 1 t) (iblk m c 2 t) := by
  rw [outsAt0_A m c t h0 (by omega) (by omega)]
  frame_out

/-- The scratch after a later point is what the point before left. -/
theorem sc_later (t : Fin cfg0.N) (h0 : ¬t.val % 6 = 0) :
    (outsAt0 m c t.val t.isLt).2 = (outsAt0 m c (t.val - 1) (Nat.lt_of_le_of_lt (Nat.sub_le _ _) t.isLt)).2 := by
  by_cases h1 : t.val % 6 ≤ 3
  · rw [outsAt0_B m c t h0 (by omega) (by omega)]
    rfl
  · rw [outsAt0_C m c t h0 (by omega) (by omega)]
    rfl

/-- The output block of a query or key column block: the rotated products. -/
theorem out_rot (t : Fin cfg0.N) (h1 : t.val % 6 ≤ 3) :
    (outsAt0 m c t.val t.isLt).1 = mixed (k0_pay2 (outsAt0 m c t.val t.isLt).2 (iblk m c 3 t)) (iblk m c 4 t) (iblk m c 5 t) (iblk m c 6 t) := by
  by_cases h0 : t.val % 6 = 0
  · rw [sc_first m c t h0, outsAt0_A m c t h0 (by omega) (by omega)]
    frame_out
    exact funext (mix_canon _ _ _ _)
  · rw [sc_later m c t h0, outsAt0_B m c t h0 (by omega) (by omega)]
    frame_out
    simp only [read_unread_whole]
    exact funext (mix_canon _ _ _ _)

/-- The output block of a value column block: the products. -/
theorem out_val (t : Fin cfg0.N) (h1 : ¬t.val % 6 ≤ 3) :
    (outsAt0 m c t.val t.isLt).1 = k0_pay2 (outsAt0 m c t.val t.isLt).2 (iblk m c 3 t) := by
  have h0 : ¬t.val % 6 = 0 := by omega
  rw [sc_later m c t h0, outsAt0_C m c t h0 (by omega) (by omega)]
  frame_out
  simp only [read_unread_whole]

end Cert.RopeV
-- ==== Proof.RopeV.Block.lean ====
/- What the rotated projection kernel leaves in its result array: at every row, the projected row with rotated queries and keys. -/
module

public import proofs.«01_k».proof.Proof.RopeV.Tab
public import proofs.«01_k».proof.Proof.RopeV.Mix

@[expose] public section

set_option maxRecDepth 16384

noncomputable section

namespace Cert.RopeV

open Cert.RopeIdeal Cert.RopeIdeal.Gen Idealize.ShloMosaic Idealize.ShloMosaic.TcCoe Idealize.SL.Sem

/-- The rotated block over the projected row and the angle tables is the rotated row. -/
theorem mix_res (Y : FVec Ideal S512x512 .f32) (C U D : Vec Ideal S512x128 .f32) (a n : Fin 512) (j : Fin 6) (hj : j.val ≤ 3) (r : Fin 12288)
    (A : ProjV.Args) (cs sn : Fin 4096 → Fin 64 → EReal)
    (hY : ∀ k, Y (ix2 a k) = A.proj r (ProjV.col j k))
    (hC : ∀ l : Fin 128, C (ix2 a l) = if r.val < 4096 then 1 else cs (place r) ⟨l.val % 64, by omega⟩)
    (hU : ∀ l : Fin 128, U (ix2 a l) = if r.val < 4096 then 0 else if l.val % 32 < 16 then -sn (place r) ⟨l.val % 64, by omega⟩ else 0)
    (hD : ∀ l : Fin 128, D (ix2 a l) = if r.val < 4096 then 0 else if l.val % 32 < 16 then 0 else sn (place r) ⟨l.val % 64, by omega⟩) :
    mixed Y C U D (ix2 a n) = res A cs sn r (ProjV.col j n) := by
  show mixAt Y C U D a ⟨n.val / 128, by omega⟩ ⟨n.val % 128, by omega⟩ = _
  have e0 : ∀ h, ProjV.col j ⟨n.val / 128 * 128 + n.val % 128, h⟩ = ProjV.col j n := fun _ =>
    Fin.ext (show j.val * 512 + (n.val / 128 * 128 + n.val % 128) = j.val * 512 + n.val by omega)
  have eL : ∀ h, (⟨n.val % 128 % 64, h⟩ : Fin 64) = lane (ProjV.col j n) := fun _ =>
    Fin.ext (show n.val % 128 % 64 = (j.val * 512 + n.val) % 64 by omega)
  unfold mixAt res
  rw [hC, hU, hD, hY, hY, hY]
  dsimp only
  rw [e0]
  by_cases h : r.val < 4096
  · rw [if_pos h, if_pos h, if_pos h, if_pos (.inl h), mul_one, mul_zero, mul_zero, add_zero, add_zero]
  · have hn : ¬(r.val < 4096 ∨ 2048 ≤ (ProjV.col j n).val) := by
      have : (ProjV.col j n).val = j.val * 512 + n.val := rfl
      omega
    rw [if_neg h, if_neg h, if_neg h, if_neg hn, eL]
    unfold turn
    by_cases q : n.val % 128 % 32 < 16
    · have q' : (ProjV.col j n).val % 32 < 16 := by show (j.val * 512 + n.val) % 32 < 16; omega
      rw [if_pos q, if_pos q, dif_pos q', mul_zero, add_zero, mul_neg, neg_mul]
      refine congrArg (fun z => _ + -(A.proj r z * _)) (Fin.ext ?_)
      show j.val * 512 + (n.val / 128 * 128 + (n.val % 128 + 16) % 128) = j.val * 512 + n.val + 16
      omega
    · have q' : ¬(ProjV.col j n).val % 32 < 16 := by show ¬(j.val * 512 + n.val) % 32 < 16; omega
      rw [if_neg q, if_neg q, dif_neg q', mul_zero, add_zero]
      refine congrArg (fun z => _ + A.proj r z * _) (Fin.ext ?_)
      show j.val * 512 + (n.val / 128 * 128 + (n.val % 128 + 112) % 128) = j.val * 512 + n.val - 16
      omega

variable (m : (ℓ : Loc nD τ sig) → Buf (Elt Ideal) ℓ)

/-- The printed index maps, decided over the grid: the block of each window at a point. -/
theorem idx_all : ∀ t : Fin cfg0.N, win0_0.index t (0 : Fin 2) = t.val / 6 ∧ win0_0.index t (1 : Fin 2) = 0
    ∧ win0_1.index t (0 : Fin 3) = t.val / 48 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = t.val % 6
    ∧ win0_4.index t (0 : Fin 2) = t.val / 6 ∧ win0_4.index t (1 : Fin 2) = 0
    ∧ win0_5.index t (0 : Fin 2) = t.val / 6 ∧ win0_5.index t (1 : Fin 2) = 0
    ∧ win0_6.index t (0 : Fin 2) = t.val / 6 ∧ win0_6.index t (1 : Fin 2) = 0 :=
  (by decide +kernel : ∀ t : Fin grid0.N, _)

/-- The argument arrays, read by their coordinates. -/
def kargs (c : Dev nD) : ProjV.Args where
  x r k := m (c.tc.loc main_arg0) (ix2 r k)
  md b j k := m (c.tc.loc main_arg1) (ix3 b j k)
  g k := m (c.tc.loc main_arg2) (ix2 0 k)
  w k n := m (c.tc.loc main_arg3) (ix2 k n)

/-- The point of row block `b` and column block `j`. -/
def pt (b : Fin 24) (j : Fin 6) : Fin cfg0.N := ⟨6 * b.val + j.val, lt_of_lt_of_eq (by omega) N_0.symm⟩

variable (c : Dev nD) (b : Fin 24) (j : Fin 6)

/-- The block of rows. -/
theorem blk0 (a : Fin 512) (k : Fin 1024) :
    (iblk m c 0 (pt b j) : Vec Ideal S512x1024 .f32) (ix2 a k) = (kargs m c).x (ProjV.row b a) k := by
  obtain ⟨e0, e1, -⟩ := idx_all (pt b j)
  have : (pt b j).val / 6 = b.val := by show (6 * b.val + j.val) / 6 = b.val; omega
  unfold kargs ProjV.row
  dsimp only
  blk_ext [iblk, V]
  all_goals omega

/-- The block of modulation rows. -/
theorem blk1 (a : Fin 512) (i : Fin 8) (k : Fin 1024) :
    (iblk m c 1 (pt b j) : Vec Ideal S1x8x1024 .f32) (ix3 0 i k) = (kargs m c).md (FfnV.Args.grp (ProjV.row b a)) i k := by
  obtain ⟨-, -, e0, e1, e2, -⟩ := idx_all (pt b j)
  have : (pt b j).val / 48 = (b.val * 512 + a.val) / 4096 := by show (6 * b.val + j.val) / 48 = _; omega
  unfold kargs ProjV.row FfnV.Args.grp
  dsimp only
  blk_ext [iblk, V]
  all_goals omega

/-- The gain of the norm. -/
theorem blk2 (k : Fin 1024) : (iblk m c 2 (pt b j) : Vec Ideal S1x1024 .f32) (ix2 0 k) = (kargs m c).g k := by
  obtain ⟨-, -, -, -, -, e0, e1, -⟩ := idx_all (pt b j)
  unfold kargs
  dsimp only
  blk_ext [iblk, V]
  all_goals omega

/-- The block of weights. -/
theorem blk3 (k : Fin 1024) (n : Fin 512) :
    (iblk m c 3 (pt b j) : Vec Ideal S1024x512 .bf16) (ix2 k n) = (kargs m c).w k (ProjV.col j n) := by
  obtain ⟨-, -, -, -, -, -, -, e0, e1, -⟩ := idx_all (pt b j)
  have : (pt b j).val % 6 = j.val := by show (6 * b.val + j.val) % 6 = j.val; omega
  unfold kargs ProjV.col
  dsimp only
  blk_ext [iblk, V]
  all_goals omega

/-- The block of the row's own factors. -/
theorem blk4 (a : Fin 512) (l : Fin 128) :
    (iblk m c 4 (pt b j) : Vec Ideal S512x128 .f32) (ix2 a l) = (V m c main_v9 : Vec Ideal S12288x128 .f32) (ix2 (ProjV.row b a) l) := by
  obtain ⟨-, -, -, -, -, -, -, -, -, e0, e1, -⟩ := idx_all (pt b j)
  have : (pt b j).val / 6 = b.val := by show (6 * b.val + j.val) / 6 = b.val; omega
  unfold ProjV.row
  blk_ext [iblk]
  all_goals omega

/-- The block of factors of the row shifted down. -/
theorem blk5 (a : Fin 512) (l : Fin 128) :
    (iblk m c 5 (pt b j) : Vec Ideal S512x128 .f32) (ix2 a l) = (V m c main_v14 : Vec Ideal S12288x128 .f32) (ix2 (ProjV.row b a) l) := by
  obtain ⟨-, -, -, -, -, -, -, -, -, -, -, e0, e1, -⟩ := idx_all (pt b j)
  have : (pt b j).val / 6 = b.val := by show (6 * b.val + j.val) / 6 = b.val; omega
  unfold ProjV.row
  blk_ext [iblk]
  all_goals omega

/-- The block of factors of the row shifted up. -/
theorem blk6 (a : Fin 512) (l : Fin 128) :
    (iblk m c 6 (pt b j) : Vec Ideal S512x128 .f32) (ix2 a l) = (V m c main_v19 : Vec Ideal S12288x128 .f32) (ix2 (ProjV.row b a) l) := by
  obtain ⟨-, -, -, -, -, -, -, -, -, -, -, -, -, e0, e1⟩ := idx_all (pt b j)
  have : (pt b j).val / 6 = b.val := by show (6 * b.val + j.val) / 6 = b.val; omega
  unfold ProjV.row
  blk_ext [iblk]
  all_goals omega

/-- What the first point computes for the scratch: the modulated rows. -/
theorem hid_apply (a : Fin 512) (k : Fin 1024) :
    k0_pay1 (iblk m c 0 (pt b j)) (iblk m c 1 (pt b j)) (iblk m c 2 (pt b j)) (ix2 a k) = (kargs m c).hid (ProjV.row b a) k := by
  have e0 := blk0 m c b j a
  have e1 := fun i k => blk1 m c b j a i k
  have e2 := blk2 m c b j
  generalize iblk m c 0 (pt b j) = X at *
  generalize iblk m c 1 (pt b j) = M at *
  generalize iblk m c 2 (pt b j) = G at *
  pointwise [k0_pay1]
  simp only [e0, e1, e2]
  rfl

/-- The scratch at every point of a row block: its modulated rows. -/
theorem sc_apply (a : Fin 512) (k : Fin 1024) : ∀ (i : ℕ) (hi : i < 6),
    (outsAt0 m c (pt b ⟨i, hi⟩).val (pt b ⟨i, hi⟩).isLt).2 (ix2 a k) = (kargs m c).hid (ProjV.row b a) k
  | 0, hi => by
    rw [sc_first m c _ (by show (6 * b.val + 0) % 6 = 0; omega)]
    exact hid_apply m c b ⟨0, hi⟩ a k
  | i + 1, hi => by
    rw [sc_later m c _ (by show ¬(6 * b.val + (i + 1)) % 6 = 0; omega)]
    exact sc_apply a k i (by omega)

/-- One point's products. -/
theorem step_apply (H : Vec Ideal S512x1024 .bf16) (a n : Fin 512) (hH : ∀ k, H (ix2 a k) = (kargs m c).hid (ProjV.row b a) k) :
    k0_pay2 H (iblk m c 3 (pt b j)) (ix2 a n) = (kargs m c).proj (ProjV.row b a) (ProjV.col j n) := by
  have e3 := blk3 m c b j
  generalize iblk m c 3 (pt b j) = X at *
  pointwise [k0_pay2]
  simp only [hH, e3]
  rfl

/-- The block written back at a point. -/
theorem out_apply (a n : Fin 512) :
    (outsAt0 m c (pt b j).val (pt b j).isLt).1 (ix2 a n) = res (kargs m c) (cosOf m c) (sinOf m c) (ProjV.row b a) (ProjV.col j n) := by
  have hp : ∀ n, k0_pay2 (outsAt0 m c (pt b j).val (pt b j).isLt).2 (iblk m c 3 (pt b j)) (ix2 a n) = (kargs m c).proj (ProjV.row b a) (ProjV.col j n) :=
    fun n => step_apply m c b j _ a n fun k => sc_apply m c b a k j.val j.isLt
  have hj : (pt b j).val % 6 = j.val := by show (6 * b.val + j.val) % 6 = j.val; omega
  by_cases h : j.val ≤ 3
  · rw [out_rot m c _ (by omega)]
    exact mix_res _ _ _ _ a n j h (ProjV.row b a) (kargs m c) (cosOf m c) (sinOf m c) hp (fun l => (blk4 m c b j a l).trans (tab_cos m c _ l))
      (fun l => (blk5 m c b j a l).trans (tab_up m c _ l)) (fun l => (blk6 m c b j a l).trans (tab_dn m c _ l))
  · rw [out_val m c _ (by omega), hp]
    unfold res
    rw [if_pos (.inr (show 2048 ≤ j.val * 512 + n.val by omega))]

/-- The result array: every element is the rotated row's. -/
theorem G7_apply (r : Fin 12288) (n : Fin 3072) : Cert.RopeIdeal.Value.G7 m c (ix2 r n) = res (kargs m c) (cosOf m c) (sinOf m c) r n := by
  have hp : Cert.RopeIdeal.Value.pt7Of (ix2 r n) = (pt ⟨r.val / 512, by omega⟩ ⟨n.val / 512, by omega⟩).val := by
    show 6 * (r.val / 512 - 0) + 1 * (n.val / 512 - 0) = 6 * (r.val / 512) + n.val / 512
    omega
  have hl : Cert.RopeIdeal.Value.loc7Of (ix2 r n) = ix2 ⟨r.val % 512, by omega⟩ ⟨n.val % 512, by omega⟩ := by
    funext a
    match a with
    | ⟨0, _⟩ => rfl
    | ⟨1, _⟩ => rfl
  unfold Cert.RopeIdeal.Value.G7
  rw [dif_pos (lt_of_eq_of_lt hp (pt _ _).isLt), hl, Cert.RopeIdeal.Value.fold0_congr m c _ _ _ (by have := (pt ⟨r.val / 512, by omega⟩ ⟨n.val / 512, by omega⟩).isLt; omega) hp,
    ← Cert.RopeIdeal.Value.outsAt0_sweep m c _ (pt _ _).isLt, out_apply]
  congr 1
  · exact Fin.ext (show r.val / 512 * 512 + r.val % 512 = r.val by omega)
  · exact Fin.ext (show n.val / 512 * 512 + n.val % 512 = n.val by omega)

end Cert.RopeV
-- ==== Proof.RopeV.Ref.lean ====
/- The plain reference of the rotated projection, read at an index. -/
module

public import proofs.«01_k».proof.Proof.RopeV.Spec
public import proofs.«01_k».proof.Proof.Gen.RopeReferenceIdeal.Read

@[expose] public section

set_option maxRecDepth 16384

noncomputable section

namespace Cert.RopeV

open Cert.RopeReferenceIdeal Cert.RopeReferenceIdeal.Gen Cert.RopeReferenceIdeal.Read Idealize.ShloMosaic Idealize.ShloMosaic.TcCoe Idealize.SL.Sem

variable (x0 : (⟨S12288x1024, .f32⟩ : BufTy).Contents (Elt Ideal)) (x1 : (⟨S3x8x1024, .f32⟩ : BufTy).Contents (Elt Ideal))
  (x2 : (⟨S1x1024, .f32⟩ : BufTy).Contents (Elt Ideal)) (x3 : (⟨S1024x3072, .f32⟩ : BufTy).Contents (Elt Ideal))

/-- The argument arrays, read by their coordinates. -/
def argsOf : ProjV.Args where
  x r k := x0 (ix2 r k)
  md b j k := x1 (ix3 b j k)
  g k := x2 (ix2 0 k)
  w k n := x3 (ix2 k n)

/-- The reference's modulated row. -/
theorem ref_hid (b : Fin 3) (s : Fin 4096) (k : Fin 1024) :
    val_main_v21 x0 x1 x2 (ix3 b s k) = (argsOf x0 x1 x2 x3).hid (ProjV.rowOf b s) k := by
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  unfold ProjV.Args.hid
  rw [ProjV.grp_rowOf]
  rfl

/-- The reference's projected row before its rows are laid out flat. -/
theorem ref_proj (b : Fin 3) (s : Fin 4096) (n : Fin 3072) :
    val_main_v22 x0 x1 x2 x3 (ix3 b s n) = (argsOf x0 x1 x2 x3).proj (ProjV.rowOf b s) n := by
  pointwise [val_main_v22]
  simp only [ref_hid x0 x1 x2 x3]
  rfl

/-- The column of part `p` (queries, keys), head `h`, map `u` and lane `d`. -/
def colOf (p : Fin 2) (h : Fin 8) (u : Fin 2) (d : Fin 64) : Fin 3072 := ⟨p.val * 1024 + (h.val * 128 + u.val * 64 + d.val), by omega⟩

/-- The row of text group `b` at place `s`. -/
abbrev textRow (b : Fin 2) (s : Fin 4096) : Fin 12288 := ProjV.rowOf ⟨1 + b.val, by omega⟩ s

variable (x4 x5 : (⟨S4096x64, .f32⟩ : BufTy).Contents (Elt Ideal))

/-- An angle table, read by its coordinates. -/
def tabOf (s : Fin 4096) (d : Fin 64) : EReal := x4 (ix2 s d)

/-- The reference's queries, head by head. -/
theorem queries_heads (b : Fin 3) (s : Fin 4096) (h : Fin 8) (u : Fin 2) (d : Fin 64) :
    val_main_v26 x0 x1 x2 x3 (ix5 b s h u d) = (argsOf x0 x1 x2 x3).proj (ProjV.rowOf b s) (colOf 0 h u d) := by
  pointwise [val_main_v26, val_main_v23]
  rw [ref_proj]
  refine congrArg _ (Fin.ext ?_)
  show h.val * 128 + u.val * 64 + d.val = 0 * 1024 + (h.val * 128 + u.val * 64 + d.val)
  omega

/-- The reference's queries of the text rows. -/
theorem queries_text (b : Fin 2) (s : Fin 4096) (h : Fin 8) (u : Fin 2) (d : Fin 64) :
    val_main_v29 x0 x1 x2 x3 (ix5 b s h u d) = (argsOf x0 x1 x2 x3).proj (textRow b s) (colOf 0 h u d) := by
  pointwise [val_main_v29]
  rw [queries_heads]

/-- The reference's turned queries. -/
theorem queries_turn (b : Fin 2) (s : Fin 4096) (h : Fin 8) (u : Fin 2) (d : Fin 64) :
    val_main_v36 x0 x1 x2 x3 (ix5 b s h u d) = turn ((argsOf x0 x1 x2 x3).proj (textRow b s)) (colOf 0 h u d) := by
  pointwise [val_main_v36, val_main_v35, val_main_v34, val_main_v33, val_main_v32, val_main_v31, val_main_v30]
  simp only [queries_text x0 x1 x2 x3]
  have hc : (colOf 0 h u d).val = 0 * 1024 + (h.val * 128 + u.val * 64 + d.val) := rfl
  split
  · rename_i q
    unfold turn
    rw [dif_pos (by omega)]
    refine congrArg (fun z => -(argsOf x0 x1 x2 x3).proj (textRow b s) z) (Fin.ext ?_)
    show 0 * 1024 + (h.val * 128 + u.val * 64 + (16 + d.val)) = 0 * 1024 + (h.val * 128 + u.val * 64 + d.val) + 16
    omega
  split
  · rename_i q q'
    unfold turn
    rw [dif_neg (by omega)]
    refine congrArg (fun z => (argsOf x0 x1 x2 x3).proj (textRow b s) z) (Fin.ext ?_)
    show 0 * 1024 + (h.val * 128 + u.val * 64 + (d.val - 16)) = 0 * 1024 + (h.val * 128 + u.val * 64 + d.val) - 16
    omega
  split
  · rename_i q q' q''
    unfold turn
    rw [dif_pos (by omega)]
    refine congrArg (fun z => -(argsOf x0 x1 x2 x3).proj (textRow b s) z) (Fin.ext ?_)
    show 0 * 1024 + (h.val * 128 + u.val * 64 + (48 + (d.val - 16 - 16))) = 0 * 1024 + (h.val * 128 + u.val * 64 + d.val) + 16
    omega
  · rename_i q q' q''
    unfold turn
    rw [dif_neg (by omega)]
    refine congrArg (fun z => (argsOf x0 x1 x2 x3).proj (textRow b s) z) (Fin.ext ?_)
    show 0 * 1024 + (h.val * 128 + u.val * 64 + (32 + (d.val - 16 - 16 - 16))) = 0 * 1024 + (h.val * 128 + u.val * 64 + d.val) - 16
    omega

/-- The reference's rotated queries. -/
theorem queries_rot (b : Fin 2) (s : Fin 4096) (h : Fin 8) (u : Fin 2) (d : Fin 64) :
    val_main_v43 x0 x1 x2 x3 x4 x5 (ix5 b s h u d) = res (argsOf x0 x1 x2 x3) (tabOf x4) (tabOf x5) (textRow b s) (colOf 0 h u d) := by
  pointwise [val_main_v43, val_main_v42, val_main_v41, val_main_v40, val_main_v39, val_main_v38, val_main_v37]
  rw [queries_text, queries_turn]
  have hr : (textRow b s).val = (1 + b.val) * 4096 + s.val := rfl
  have hc : (colOf 0 h u d).val = 0 * 1024 + (h.val * 128 + u.val * 64 + d.val) := rfl
  have ep : place (textRow b s) = s := Fin.ext (show ((1 + b.val) * 4096 + s.val) % 4096 = s.val by omega)
  have el : lane (colOf 0 h u d) = d := Fin.ext (show (0 * 1024 + (h.val * 128 + u.val * 64 + d.val)) % 64 = d.val by omega)
  unfold res
  rw [if_neg (by omega), ep, el]
  rfl

/-- The reference's queries of every row. -/
theorem queries_all (b : Fin 3) (s : Fin 4096) (h : Fin 8) (u : Fin 2) (d : Fin 64) :
    val_main_v44 x0 x1 x2 x3 x4 x5 (ix5 b s h u d) = res (argsOf x0 x1 x2 x3) (tabOf x4) (tabOf x5) (ProjV.rowOf b s) (colOf 0 h u d) := by
  pointwise [val_main_v44, val_main_v28]
  have hr : (ProjV.rowOf b s).val = b.val * 4096 + s.val := rfl
  split
  · rename_i q
    rw [queries_heads]
    unfold res
    rw [if_pos (.inl (by omega))]
  · rename_i q
    rw [queries_rot]
    refine congrArg (fun z => res (argsOf x0 x1 x2 x3) (tabOf x4) (tabOf x5) z (colOf 0 h u d)) (Fin.ext ?_)
    show (1 + (b.val - 1)) * 4096 + s.val = b.val * 4096 + s.val
    omega

/-- The reference's keys, head by head. -/
theorem keys_heads (b : Fin 3) (s : Fin 4096) (h : Fin 8) (u : Fin 2) (d : Fin 64) :
    val_main_v27 x0 x1 x2 x3 (ix5 b s h u d) = (argsOf x0 x1 x2 x3).proj (ProjV.rowOf b s) (colOf 1 h u d) := by
  pointwise [val_main_v27, val_main_v24]
  rw [ref_proj]
  refine congrArg _ (Fin.ext ?_)
  show 1024 + (h.val * 128 + u.val * 64 + d.val) = 1 * 1024 + (h.val * 128 + u.val * 64 + d.val)
  omega

/-- The reference's keys of the text rows. -/
theorem keys_text (b : Fin 2) (s : Fin 4096) (h : Fin 8) (u : Fin 2) (d : Fin 64) :
    val_main_v46 x0 x1 x2 x3 (ix5 b s h u d) = (argsOf x0 x1 x2 x3).proj (textRow b s) (colOf 1 h u d) := by
  pointwise [val_main_v46]
  rw [keys_heads]

/-- The reference's turned keys. -/
theorem keys_turn (b : Fin 2) (s : Fin 4096) (h : Fin 8) (u : Fin 2) (d : Fin 64) :
    val_main_v53 x0 x1 x2 x3 (ix5 b s h u d) = turn ((argsOf x0 x1 x2 x3).proj (textRow b s)) (colOf 1 h u d) := by
  pointwise [val_main_v53, val_main_v52, val_main_v51, val_main_v50, val_main_v49, val_main_v48, val_main_v47]
  simp only [keys_text x0 x1 x2 x3]
  have hc : (colOf 1 h u d).val = 1 * 1024 + (h.val * 128 + u.val * 64 + d.val) := rfl
  split
  · rename_i q
    unfold turn
    rw [dif_pos (by omega)]
    refine congrArg (fun z => -(argsOf x0 x1 x2 x3).proj (textRow b s) z) (Fin.ext ?_)
    show 1 * 1024 + (h.val * 128 + u.val * 64 + (16 + d.val)) = 1 * 1024 + (h.val * 128 + u.val * 64 + d.val) + 16
    omega
  split
  · rename_i q q'
    unfold turn
    rw [dif_neg (by omega)]
    refine congrArg (fun z => (argsOf x0 x1 x2 x3).proj (textRow b s) z) (Fin.ext ?_)
    show 1 * 1024 + (h.val * 128 + u.val * 64 + (d.val - 16)) = 1 * 1024 + (h.val * 128 + u.val * 64 + d.val) - 16
    omega
  split
  · rename_i q q' q''
    unfold turn
    rw [dif_pos (by omega)]
    refine congrArg (fun z => -(argsOf x0 x1 x2 x3).proj (textRow b s) z) (Fin.ext ?_)
    show 1 * 1024 + (h.val * 128 + u.val * 64 + (48 + (d.val - 16 - 16))) = 1 * 1024 + (h.val * 128 + u.val * 64 + d.val) + 16
    omega
  · rename_i q q' q''
    unfold turn
    rw [dif_neg (by omega)]
    refine congrArg (fun z => (argsOf x0 x1 x2 x3).proj (textRow b s) z) (Fin.ext ?_)
    show 1 * 1024 + (h.val * 128 + u.val * 64 + (32 + (d.val - 16 - 16 - 16))) = 1 * 1024 + (h.val * 128 + u.val * 64 + d.val) - 16
    omega

/-- The reference's rotated keys. -/
theorem keys_rot (b : Fin 2) (s : Fin 4096) (h : Fin 8) (u : Fin 2) (d : Fin 64) :
    val_main_v60 x0 x1 x2 x3 x4 x5 (ix5 b s h u d) = res (argsOf x0 x1 x2 x3) (tabOf x4) (tabOf x5) (textRow b s) (colOf 1 h u d) := by
  pointwise [val_main_v60, val_main_v59, val_main_v58, val_main_v57, val_main_v56, val_main_v55, val_main_v54]
  rw [keys_text, keys_turn]
  have hr : (textRow b s).val = (1 + b.val) * 4096 + s.val := rfl
  have hc : (colOf 1 h u d).val = 1 * 1024 + (h.val * 128 + u.val * 64 + d.val) := rfl
  have ep : place (textRow b s) = s := Fin.ext (show ((1 + b.val) * 4096 + s.val) % 4096 = s.val by omega)
  have el : lane (colOf 1 h u d) = d := Fin.ext (show (1 * 1024 + (h.val * 128 + u.val * 64 + d.val)) % 64 = d.val by omega)
  unfold res
  rw [if_neg (by omega), ep, el]
  rfl

/-- The reference's keys of every row. -/
theorem keys_all (b : Fin 3) (s : Fin 4096) (h : Fin 8) (u : Fin 2) (d : Fin 64) :
    val_main_v61 x0 x1 x2 x3 x4 x5 (ix5 b s h u d) = res (argsOf x0 x1 x2 x3) (tabOf x4) (tabOf x5) (ProjV.rowOf b s) (colOf 1 h u d) := by
  pointwise [val_main_v61, val_main_v45]
  have hr : (ProjV.rowOf b s).val = b.val * 4096 + s.val := rfl
  split
  · rename_i q
    rw [keys_heads]
    unfold res
    rw [if_pos (.inl (by omega))]
  · rename_i q
    rw [keys_rot]
    refine congrArg (fun z => res (argsOf x0 x1 x2 x3) (tabOf x4) (tabOf x5) z (colOf 1 h u d)) (Fin.ext ?_)
    show (1 + (b.val - 1)) * 4096 + s.val = b.val * 4096 + s.val
    omega

/-- The reference's result at row `r`. -/
theorem ref_out (r : Fin 12288) (n : Fin 3072) :
    val_main_v65 x0 x1 x2 x3 x4 x5 (ix2 r n) = res (argsOf x0 x1 x2 x3) (tabOf x4) (tabOf x5) r n := by
  pointwise [val_main_v65, val_main_v64, val_main_v63, val_main_v62, val_main_v25]
  split
  · refine (queries_all x0 x1 x2 x3 x4 x5 _ _ _ _ _).trans ?_
    refine congrArg₂ (res (argsOf x0 x1 x2 x3) (tabOf x4) (tabOf x5)) (Fin.ext ?_) (Fin.ext ?_)
    · show r.val / 4096 * 4096 + r.val % 4096 = r.val; omega
    · show 0 * 1024 + (n.val / 128 * 128 + n.val / 64 % 2 * 64 + n.val % 64) = n.val; omega
  split
  · refine (keys_all x0 x1 x2 x3 x4 x5 _ _ _ _ _).trans ?_
    refine congrArg₂ (res (argsOf x0 x1 x2 x3) (tabOf x4) (tabOf x5)) (Fin.ext ?_) (Fin.ext ?_)
    · show r.val / 4096 * 4096 + r.val % 4096 = r.val; omega
    · show 1 * 1024 + ((n.val - 1024) / 128 * 128 + (n.val - 1024) / 64 % 2 * 64 + (n.val - 1024) % 64) = n.val; omega
  · refine (ref_proj x0 x1 x2 x3 _ _ _).trans (Eq.trans ?_ (if_pos (show r.val < 4096 ∨ 2048 ≤ n.val from .inr (by omega))).symm)
    refine congrArg₂ (argsOf x0 x1 x2 x3).proj (Fin.ext ?_) (Fin.ext ?_)
    · show r.val / 4096 * 4096 + r.val % 4096 = r.val; omega
    · show 2048 + (n.val - 1024 - 1024) = n.val; omega

end Cert.RopeV
-- ==== Proof.RopeV.Claim.lean ====
/- The rotated projection kernel against its reference: the equation of the two results and the claims about the pair. -/
module

public import proofs.«01_k».proof.Defs
public import proofs.«01_k».proof.Proof.RopeV.Block
public import proofs.«01_k».proof.Proof.RopeV.Ref
public import proofs.«01_k».proof.Proof.Gen.Rope.Frame
public import proofs.«01_k».proof.Proof.Gen.RopeIdeal
public import proofs.«01_k».proof.Proof.Gen.RopeReferenceIdeal

@[expose] public section

set_option maxRecDepth 16384

noncomputable section

namespace Cert.RopeV

open Idealize.ShloMosaic Idealize.ShloMosaic.TcCoe Idealize.SL.Sem

attribute [local instance] Cert.Rope.Gen.facts Cert.RopeIdeal.Gen.facts Cert.RopeReferenceIdeal.Gen.facts

/-- From memories agreeing on the arguments, the kernel's result array is the reference's. -/
theorem results_eq (m : (ℓ : Loc Cert.RopeIdeal.nD Cert.RopeIdeal.τ Cert.RopeIdeal.sig) → Buf (Elt Ideal) ℓ)
    (m' : (ℓ : Loc Cert.RopeReferenceIdeal.nD Cert.RopeReferenceIdeal.τ Cert.RopeReferenceIdeal.sig) → Buf (Elt Ideal) ℓ)
    (c : Dev Cert.RopeIdeal.nD)
    (h0 : m' (c.tc.loc Cert.RopeReferenceIdeal.main_arg0) = m (c.tc.loc Cert.RopeIdeal.main_arg0))
    (h1 : m' (c.tc.loc Cert.RopeReferenceIdeal.main_arg1) = m (c.tc.loc Cert.RopeIdeal.main_arg1))
    (h2 : m' (c.tc.loc Cert.RopeReferenceIdeal.main_arg2) = m (c.tc.loc Cert.RopeIdeal.main_arg2))
    (h3 : m' (c.tc.loc Cert.RopeReferenceIdeal.main_arg3) = m (c.tc.loc Cert.RopeIdeal.main_arg3))
    (h4 : m' (c.tc.loc Cert.RopeReferenceIdeal.main_arg4) = m (c.tc.loc Cert.RopeIdeal.main_arg4))
    (h5 : m' (c.tc.loc Cert.RopeReferenceIdeal.main_arg5) = m (c.tc.loc Cert.RopeIdeal.main_arg5)) :
    Cert.RopeReferenceIdeal.Value.res_main_v65 m' c = Cert.RopeIdeal.Value.G7 m c := by
  rw [Cert.RopeReferenceIdeal.Read.val_main_v65_eq, h0, h1, h2, h3, h4, h5]
  funext i
  have hi : i = ix2 (i 0) (i 1) := by funext a; match a with | ⟨0, _⟩ => rfl | ⟨1, _⟩ => rfl
  rw [hi]
  exact (ref_out ..).trans (G7_apply m c (i 0) (i 1)).symm

/-- The kernel's frame. -/
theorem frame_k : Cert.quiescent_Rope := fun m ρ _ => Cert.Rope.Gen.frame m ρ

/-- The idealized kernel's frame. -/
theorem frame_ki : Cert.quiescent_RopeIdeal := fun m ρ _ => Cert.RopeIdeal.Gen.frame m ρ

/-- The reference's frame. -/
theorem frame_r : Cert.quiescent_RopeReferenceIdeal := fun m ρ _ => by
  refine (θ_run _ _ _).mono (fun r h => ?_) (Cert.RopeReferenceIdeal.Value.run m ρ)
  exact ⟨fun c => (h c).2, sem_eq_zero_of_no_sems (by decide) _⟩

/-- The kernel computes the reference's result. -/
theorem algebraic : Cert.algebraic_RopeIdeal_RopeReferenceIdeal := fun m g m' g' _ hm => by
  refine ⟨fun c => Cert.RopeIdeal.Value.G7 m c, Cert.RopeIdeal.Value.run m g, ?_⟩
  refine (θ_run _ _ _).mono (fun r h c => ?_) (Cert.RopeReferenceIdeal.Value.run m' g')
  obtain ⟨h0, h1, h2, h3, h4, h5⟩ := hm c
  exact ⟨(h c).1.trans (results_eq m m' c h0 h1 h2 h3 h4 h5), (h c).2⟩

end Cert.RopeV
-- ==== Proof.lean ====
/- The certificate's claims, assembled: the attention call, the dense feed-forward call, the expert call and the two projection calls of the layer, each against its plain reference. -/
module

public import proofs.«01_k».proof.Defs
public import proofs.«01_k».proof.Proof.AttnV.Claim
public import proofs.«01_k».proof.Proof.FfnV.Claim
public import proofs.«01_k».proof.Proof.MoeV.Claim
public import proofs.«01_k».proof.Proof.MoeB.Claim
public import proofs.«01_k».proof.Proof.ProjV.Claim
public import proofs.«01_k».proof.Proof.RopeV.Claim
public import proofs.«01_k».proof.Proof.Gen.Kernel
public import proofs.«01_k».proof.Proof.Gen.Moe
public import proofs.«01_k».proof.Proof.Gen.MoeIdeal
public import proofs.«01_k».proof.Proof.Gen.MoeReferenceIdeal
public import proofs.«01_k».proof.Proof.Gen.Pre_ranges
public import proofs.«01_k».proof.Proof.Gen.Pre_finite

@[expose] public section

noncomputable section

namespace Cert.Proof

open Idealize.ShloMosaic Idealize.SL.Sem Cert.Kernel

/-- Every claim of the certificate: the frames, the sanctioned idealizations, and the five equations. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts,
  Cert.Moe.Gen.facts, Cert.MoeIdeal.Gen.facts, Cert.MoeReferenceIdeal.Gen.facts,
  Cert.Proj.Gen.facts, Cert.ProjIdeal.Gen.facts, Cert.ProjReferenceIdeal.Gen.facts, Cert.Rope.Gen.facts, Cert.RopeIdeal.Gen.facts, Cert.RopeReferenceIdeal.Gen.facts,
  Cert.Pre_finite.Gen.facts, Cert.Pre_ranges.Gen.facts,
  Cert.AttnV.frame_k, Cert.AttnV.frame_ki, Cert.AttnV.frame_kip, Cert.AttnV.frame_r, Cert.AttnV.frame_rp,
  Cert.FfnV.frame_k, Cert.FfnV.frame_ki, Cert.FfnV.frame_r,
  Cert.MoeV.frame_k, Cert.MoeV.frame_ki, Cert.MoeV.frame_r, Cert.MoeV.frame_rp,
  Cert.ProjV.frame_k, Cert.ProjV.frame_ki, Cert.ProjV.frame_r, Cert.RopeV.frame_k, Cert.RopeV.frame_ki, Cert.RopeV.frame_r,
  trivial, Cert.AttnV.algebraic, trivial, Cert.FfnV.algebraic, trivial, Cert.MoeV.algebraic,
  trivial, Cert.ProjV.algebraic, trivial, Cert.RopeV.algebraic⟩

end Cert.Proof

end
